-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_settled [hPre_settled : Cert.Pre_settled.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_settled.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_settled.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_settled [hPre_settled : Cert.Pre_settled.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_settled.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_settled.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_settled [hKernel4Ideal : Cert.Kernel4Ideal.Facts] [hPre_settled : Cert.Pre_settled.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_settled m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_settled [hReference4Ideal : Cert.Reference4Ideal.Facts] [hPre_settled : Cert.Pre_settled.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_settled m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v23_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v23_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v115) = v0 c
          ∧ r.2.mem ((c.tc : Thread Cert.Reference2Ideal.nD Cert.Reference2Ideal.τ).loc Cert.Reference2Ideal.main_v118) = v1 c
          ∧ r.2.mem ((c.tc : Thread Cert.Reference2Ideal.nD Cert.Reference2Ideal.τ).loc Cert.Reference2Ideal.main_v119) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel4_Kernel4Ideal : Prop :=
  True

def algebraic_Kernel4Ideal_Reference4Ideal_pre_settled [hKernel4Ideal : Cert.Kernel4Ideal.Facts] [hReference4Ideal : Cert.Reference4Ideal.Facts] [hPre_settled : Cert.Pre_settled.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_settled m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v103) = v0 c
          ∧ r.2.mem ((c.tc : Thread Cert.Reference4Ideal.nD Cert.Reference4Ideal.τ).loc Cert.Reference4Ideal.main_v76) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hPre_finite : Cert.Pre_finite.Facts) (hPre_settled : Cert.Pre_settled.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel4 (hKernel4 := hKernel4)
    ∧ quiescent_Kernel4Ideal (hKernel4Ideal := hKernel4Ideal)
    ∧ quiescent_Kernel4Ideal_pre_settled (hKernel4Ideal := hKernel4Ideal) (hPre_settled := hPre_settled)
    ∧ quiescent_Reference4Ideal (hReference4Ideal := hReference4Ideal)
    ∧ quiescent_Reference4Ideal_pre_settled (hReference4Ideal := hReference4Ideal) (hPre_settled := hPre_settled)
    ∧ preserves_Kernel_KernelIdeal
    ∧ algebraic_KernelIdeal_ReferenceIdeal (hKernelIdeal := hKernelIdeal) (hReferenceIdeal := hReferenceIdeal)
    ∧ preserves_Kernel3_Kernel3Ideal
    ∧ algebraic_Kernel3Ideal_Reference3Ideal (hKernel3Ideal := hKernel3Ideal) (hReference3Ideal := hReference3Ideal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel4_Kernel4Ideal
    ∧ algebraic_Kernel4Ideal_Reference4Ideal_pre_settled (hKernel4Ideal := hKernel4Ideal) (hReference4Ideal := hReference4Ideal) (hPre_settled := hPre_settled)
-- ==== Pre_finite.lean ====
abbrev S8x2048x1024 : Shape := ⟨3, ![8, 2048, 1024]⟩
abbrev S1024x5152 : Shape := ⟨2, ![1024, 5152]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S2048x1024 : Shape := ⟨2, ![2048, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  bcast_S_S1024x5152 : S_.BroadcastsInDim S1024x5152 (![] : Fin 0 → Fin S1024x5152.rank)
  bcast_S_S32 : S_.BroadcastsInDim S32 (![] : Fin 0 → Fin S32.rank)

variable [Facts]

def fn {F : FTy → Type} [FloatOps F] (main_arg0 : FVec F S8x2048x1024 .f32) (main_arg1 : FVec F S1024x5152 .f32) (main_arg2 : FVec F S4x3072 .f32) (main_arg3 : FVec F S3072 .f32) (main_arg4 : FVec F S32 .f32) (main_arg5 : FVec F S32 .f32) (main_arg6 : FVec F S32 .f32) (main_arg7 : FVec F S2048 .f32) (main_arg8 : FVec F S2048x1024 .f32) (main_arg9 : FVec F S1024 .f32) (main_arg10 : FVec F S1024 .f32) : IVec S8x2048x1024 1 × IVec S1024x5152 1 × IVec S32 1 × IVec S32 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S1024x5152 .f32 := Host.absf main_arg1
  let main_cst_0 : FVec F S_ .f32 := constant S_ .f32 0x7F800000#32
  let main_v4 : FVec F S1024x5152 .f32 := broadcastInDim S1024x5152 ![] bcast_S_S1024x5152 main_cst_0
  let main_v5 : IVec S1024x5152 1 := cmpf .olt main_v3 main_v4
  let main_v6 : FVec F S32 .f32 := Host.absf main_arg4
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  let main_v9 : FVec F S32 .f32 := Host.absf main_arg5
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  (main_v2, main_v5, main_v8, main_v11)
-- ==== Pre_settled.lean ====
abbrev S128x8x1024 : Shape := ⟨3, ![128, 8, 1024]⟩
abbrev S128x15x1024 : Shape := ⟨3, ![128, 15, 1024]⟩
abbrev S4x256x256 : Shape := ⟨3, ![4, 256, 256]⟩
abbrev S1024 : Shape := ⟨1, ![1024]⟩
abbrev S_ : Shape := ⟨0, ![]⟩

class Facts : Prop where
  bcast_S_S128x8x1024 : S_.BroadcastsInDim S128x8x1024 (![] : Fin 0 → Fin S128x8x1024.rank)
  bcast_S_S128x15x1024 : S_.BroadcastsInDim S128x15x1024 (![] : Fin 0 → Fin S128x15x1024.rank)

variable [Facts]

def fn {F : FTy → Type} [FloatOps F] (main_arg0 : FVec F S128x8x1024 .f32) (main_arg1 : FVec F S128x15x1024 .f32) (main_arg2 : FVec F S4x256x256 .f32) (main_arg3 : FVec F S1024 .f32) (main_arg4 : FVec F S1024 .f32) (main_arg5 : FVec F S1024 .f32) : IVec S128x8x1024 1 × IVec S128x15x1024 1 :=
  let main_v0 : FVec F S128x8x1024 .f32 := Host.absf main_arg0
  let main_cst : FVec F S_ .f32 := constant S_ .f32 0x7F800000#32
  let main_v1 : FVec F S128x8x1024 .f32 := broadcastInDim S128x8x1024 ![] bcast_S_S128x8x1024 main_cst
  let main_v2 : IVec S128x8x1024 1 := cmpf .olt main_v0 main_v1
  let main_v3 : FVec F S128x15x1024 .f32 := Host.absf main_arg1
  let main_cst_0 : FVec F S_ .f32 := constant S_ .f32 0x7F800000#32
  let main_v4 : FVec F S128x15x1024 .f32 := broadcastInDim S128x15x1024 ![] bcast_S_S128x15x1024 main_cst_0
  let main_v5 : IVec S128x15x1024 1 := cmpf .olt main_v3 main_v4
  (main_v2, main_v5)
-- ==== Kernel.lean ====
abbrev S8x2048x1024 : Shape := ⟨3, ![8, 2048, 1024]⟩
abbrev S1024x2816 : Shape := ⟨2, ![1024, 2816]⟩
abbrev S2816x1024 : Shape := ⟨2, ![2816, 1024]⟩
abbrev S1024 : Shape := ⟨1, ![1024]⟩
abbrev S16384x1024 : Shape := ⟨2, ![16384, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S512x1024 : Shape := ⟨2, ![512, 1024]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 16
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S1024x2816, .bf16⟩
  | .hbm, ⟨8, _⟩ => ⟨S1x1024x2816, .bf16⟩
  | .hbm, ⟨9, _⟩ => ⟨S1024x2816, .bf16⟩
  | .hbm, ⟨10, _⟩ => ⟨S1x1024x2816, .bf16⟩
  | .hbm, ⟨11, _⟩ => ⟨S2816x1024, .bf16⟩
  | .hbm, ⟨12, _⟩ => ⟨S1x2816x1024, .bf16⟩
  | .hbm, ⟨13, _⟩ => ⟨S1x1024, .f32⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
abbrev S8x2048x1024 : Shape := ⟨3, ![8, 2048, 1024]⟩
abbrev S1024x2816 : Shape := ⟨2, ![1024, 2816]⟩
abbrev S2816x1024 : Shape := ⟨2, ![2816, 1024]⟩
abbrev S1024 : Shape := ⟨1, ![1024]⟩
abbrev S16384x1024 : Shape := ⟨2, ![16384, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S512x1024 : Shape := ⟨2, ![512, 1024]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 16
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S1024x2816, .bf16⟩
  | .hbm, ⟨8, _⟩ => ⟨S1x1024x2816, .bf16⟩
  | .hbm, ⟨9, _⟩ => ⟨S1024x2816, .bf16⟩
  | .hbm, ⟨10, _⟩ => ⟨S1x1024x2816, .bf16⟩
  | .hbm, ⟨11, _⟩ => ⟨S2816x1024, .bf16⟩
  | .hbm, ⟨12, _⟩ => ⟨S1x2816x1024, .bf16⟩
  | .hbm, ⟨13, _⟩ => ⟨S1x1024, .f32⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x2048x1024 : Shape := ⟨3, ![8, 2048, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8x2048x2816 : Shape := ⟨3, ![8, 2048, 2816]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8x2048x1024, .f32⟩
  | .hbm, ⟨8, _⟩ => ⟨S8x2048x1024, .f32⟩
  | .hbm, ⟨9, _⟩ => ⟨S8x2048x2816, .f32⟩
  | .hbm, ⟨10, _⟩ => ⟨S8x2048x2816, .f32⟩
  | .hbm, ⟨11, _⟩ => ⟨S8x2048x2816, .f32⟩
  | .hbm, ⟨12, _⟩ => ⟨S_, .f32⟩
  | .hbm, ⟨13, _⟩ => ⟨S8x2048x2816, .f32⟩
  | .hbm, ⟨14, _⟩ => ⟨S8x2048x2816, .f32⟩
  | .hbm, ⟨15, _⟩ => ⟨S_, .f32⟩
  | .hbm, ⟨16, _⟩ => ⟨S8x2048x2816, .f32⟩
  | .hbm, ⟨17, _⟩ => ⟨S8x2048x2816, .f32⟩
  | .hbm, ⟨18, _⟩ => ⟨S8x2048x2816, .f32⟩
  | .hbm, ⟨19, _⟩ => ⟨S8x2048x2816, .f32⟩
  | .hbm, ⟨20, _⟩ => ⟨S8x2048x2816, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x1024, .f32⟩
  | .hbm, ⟨45, _⟩ => ⟨S8x2048x1024, .f32⟩
  | .hbm, ⟨46, _⟩ => ⟨S1x1x1024, .f32⟩
  | .hbm, ⟨47, _⟩ => ⟨S8x2048x1024, .f32⟩
  | .hbm, ⟨48, _⟩ => ⟨S8x2048x1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | .hbm, ⟨52, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel3.lean ====
abbrev S128x8x1024 : Shape := ⟨3, ![128, 8, 1024]⟩
abbrev S1024x2816 : Shape := ⟨2, ![1024, 2816]⟩
abbrev S2816x1024 : Shape := ⟨2, ![2816, 1024]⟩
abbrev S1024 : Shape := ⟨1, ![1024]⟩
abbrev S1024x1024 : Shape := ⟨2, ![1024, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S512x1024 : Shape := ⟨2, ![512, 1024]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 16
  | .vmem => 9
  | .smem => 0
  | _ => 0

abbrev bufTy : (tb : Table) → Fin (tcTables nBuf tb) → BufTy
  | .hbm, ⟨0, _⟩ => ⟨S128x8x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024x2816, .bf16⟩
  | .hbm, ⟨8, _⟩ => ⟨S1x1024x2816, .bf16⟩
  | .hbm, ⟨9, _⟩ => ⟨S1024x2816, .bf16⟩
  | .hbm, ⟨10, _⟩ => ⟨S1x1024x2816, .bf16⟩
  | .hbm, ⟨11, _⟩ => ⟨S2816x1024, .bf16⟩
  | .hbm, ⟨12, _⟩ => ⟨S1x2816x1024, .bf16⟩
  | .hbm, ⟨13, _⟩ => ⟨S1x1024, .f32⟩
  | .hbm, ⟨14, _⟩ => ⟨S1x1024, .f32⟩
  | .hbm, ⟨15, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S128x8x1024 : Shape := ⟨3, ![128, 8, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S128x8x2816 : Shape := ⟨3, ![128, 8, 2816]⟩
abbrev S128x8 : Shape := ⟨2, ![128, 8]⟩
abbrev S128x8x1 : Shape := ⟨3, ![128, 8, 1]⟩
abbrev S1x1x1024 : Shape := ⟨3, ![1, 1, 1024]⟩
abbrev S1024x1024 : Shape := ⟨2, ![1024, 1024]⟩

abbrev nBuf : Space → Nat
  | .hbm => 53
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S128x8x1024, .f32⟩
  | .hbm, ⟨8, _⟩ => ⟨S128x8x1024, .f32⟩
  | .hbm, ⟨9, _⟩ => ⟨S128x8x2816, .f32⟩
  | .hbm, ⟨10, _⟩ => ⟨S128x8x2816, .f32⟩
  | .hbm, ⟨11, _⟩ => ⟨S128x8x2816, .f32⟩
  | .hbm, ⟨12, _⟩ => ⟨S_, .f32⟩
  | .hbm, ⟨13, _⟩ => ⟨S128x8x2816, .f32⟩
  | .hbm, ⟨14, _⟩ => ⟨S128x8x2816, .f32⟩
  | .hbm, ⟨15, _⟩ => ⟨S_, .f32⟩
  | .hbm, ⟨16, _⟩ => ⟨S128x8x2816, .f32⟩
  | .hbm, ⟨17, _⟩ => ⟨S128x8x2816, .f32⟩
  | .hbm, ⟨18, _⟩ => ⟨S128x8x2816, .f32⟩
  | .hbm, ⟨19, _⟩ => ⟨S128x8x2816, .f32⟩
  | .hbm, ⟨20, _⟩ => ⟨S128x8x2816, .f32⟩
  | .hbm, ⟨21, _⟩ => ⟨S128x8x1024, .f32⟩
  | .hbm, ⟨22, _⟩ => ⟨S128x8x1024, .f32⟩
  | .hbm, ⟨23, _⟩ => ⟨S_, .f32⟩
  | .hbm, ⟨24, _⟩ => ⟨S128x8, .f32⟩
  | .hbm, ⟨25, _⟩ => ⟨S128x8x1, .f32⟩
  | .hbm, ⟨26, _⟩ => ⟨S_, .f32⟩
  | .hbm, ⟨27, _⟩ => ⟨S128x8x1, .f32⟩
  | .hbm, ⟨28, _⟩ => ⟨S128x8x1, .f32⟩
  | .hbm, ⟨29, _⟩ => ⟨S128x8x1024, .f32⟩
  | .hbm, ⟨30, _⟩ => ⟨S128x8x1024, .f32⟩
  | .hbm, ⟨31, _⟩ => ⟨S128x8x1024, .f32⟩
  | .hbm, ⟨32, _⟩ => ⟨S_, .f32⟩
  | .hbm, ⟨33, _⟩ => ⟨S128x8, .f32⟩
  | .hbm, ⟨34, _⟩ => ⟨S128x8x1, .f32⟩
  | .hbm, ⟨35, _⟩ => ⟨S_, .f32⟩
  | .hbm, ⟨36, _⟩ => ⟨S128x8x1, .f32⟩
  | .hbm, ⟨37, _⟩ => ⟨S128x8x1, .f32⟩
  | .hbm, ⟨38, _⟩ => ⟨S128x8x1024, .f32⟩
  | .hbm, ⟨39, _⟩ => ⟨S128x8x1024, .f32⟩
  | .hbm, ⟨40, _⟩ => ⟨S_, .f32⟩
  | .hbm, ⟨41, _⟩ => ⟨S128x8x1, .f32⟩
  | .hbm, ⟨42, _⟩ => ⟨S128x8x1, .f32⟩
  | .hbm, ⟨43, _⟩ => ⟨S128x8x1, .f32⟩
  | .hbm, ⟨44, _⟩ => ⟨S128x8x1024, .f32⟩
  | .hbm, ⟨45, _⟩ => ⟨S128x8x1024, .f32⟩
  | .hbm, ⟨46, _⟩ => ⟨S1x1x1024, .f32⟩
  | .hbm, ⟨47, _⟩ => ⟨S128x8x1024, .f32⟩
  | .hbm, ⟨48, _⟩ => ⟨S128x8x1024, .f32⟩
  | .hbm, ⟨49, _⟩ => ⟨S1x1x1024, .f32⟩
  | .hbm, ⟨50, _⟩ => ⟨S128x8x1024, .f32⟩
  | .hbm, ⟨51, _⟩ => ⟨S128x8x1024, .f32⟩
  | .hbm, ⟨52, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024x5152 : Shape := ⟨2, ![1024, 5152]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S2048x1024 : Shape := ⟨2, ![2048, 1024]⟩
abbrev S1024 : Shape := ⟨1, ![1024]⟩
abbrev S128x128 : Shape := ⟨2, ![128, 128]⟩
abbrev S1024x32 : Shape := ⟨2, ![1024, 32]⟩
abbrev S_ : Shape := ⟨0, ![]⟩
abbrev S1024x128 : Shape := ⟨2, ![1024, 128]⟩
abbrev S1x3072 : Shape := ⟨2, ![1, 3072]⟩
abbrev S128 : Shape := ⟨1, ![128]⟩
abbrev S1x128 : Shape := ⟨2, ![1, 128]⟩
abbrev S32x64 : Shape := ⟨2, ![32, 64]⟩
abbrev S1x2048 : Shape := ⟨2, ![1, 2048]⟩
abbrev S1x1024 : Shape := ⟨2, ![1, 1024]⟩
abbrev S128x2048 : Shape := ⟨2, ![128, 2048]⟩
abbrev S8x3x3072 : Shape := ⟨3, ![8, 3, 3072]⟩
abbrev S8x2048x128 : Shape := ⟨3, ![8, 2048, 128]⟩
abbrev S1x128x1024 : Shape := ⟨3, ![1, 128, 1024]⟩
abbrev S1024x5120 : Shape := ⟨2, ![1024, 5120]⟩
abbrev S1x3x3072 : Shape := ⟨3, ![1, 3, 3072]⟩
abbrev S1x2048x128 : Shape := ⟨3, ![1, 2048, 128]⟩
abbrev S1x136x3072 : Shape := ⟨3, ![1, 136, 3072]⟩
abbrev S1x8x3072 : Shape := ⟨3, ![1, 8, 3072]⟩
abbrev S128x1024 : Shape := ⟨2, ![128, 1024]⟩
abbrev S128x5120 : Shape := ⟨2, ![128, 5120]⟩
abbrev S128x3072 : Shape := ⟨2, ![128, 3072]⟩
abbrev S1x128x3072 : Shape := ⟨3, ![1, 128, 3072]⟩
abbrev S1x128x128 : Shape := ⟨3, ![1, 128, 128]⟩
abbrev S1x1x128 : Shape := ⟨3, ![1, 1, 128]⟩
abbrev S1x1x3072 : Shape := ⟨3, ![1, 1, 3072]⟩
abbrev S128x1 : Shape := ⟨2, ![128, 1]⟩
abbrev S128x64 : Shape := ⟨2, ![128, 64]⟩
abbrev S128x512 : Shape := ⟨2, ![128, 512]⟩
abbrev S1x512 : Shape := ⟨2, ![1, 512]⟩
abbrev S2048x128 : Shape := ⟨2, ![2048, 128]⟩

abbrev nBuf : Space → Nat
  | .hbm => 49
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S1024x5152, .f32⟩
  | .hbm, ⟨2, _⟩ => ⟨S4x3072, .f32⟩
  | .hbm, ⟨3, _⟩ => ⟨S3072, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S2048, .f32⟩
  | .hbm, ⟨8, _⟩ => ⟨S2048x1024, .f32⟩
  | .hbm, ⟨9, _⟩ => ⟨S1024, .f32⟩
  | .hbm, ⟨10, _⟩ => ⟨S1024, .f32⟩
  | .hbm, ⟨11, _⟩ => ⟨S128x128, .bf16⟩
  | .hbm, ⟨12, _⟩ => ⟨S1024x5152, .bf16⟩
  | .hbm, ⟨13, _⟩ => ⟨S2048x1024, .bf16⟩
  | .hbm, ⟨14, _⟩ => ⟨S1024x32, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S1x3072, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S_, .i32⟩
  | .hbm, ⟨25, _⟩ => ⟨S_, .f32⟩
  | .hbm, ⟨26, _⟩ => ⟨S128, .f32⟩
  | .hbm, ⟨27, _⟩ => ⟨S1x128, .f32⟩
  | .hbm, ⟨28, _⟩ => ⟨S32x64, .f32⟩
  | .hbm, ⟨29, _⟩ => ⟨S2048, .f32⟩
  | .hbm, ⟨30, _⟩ => ⟨S1x2048, .f32⟩
  | .hbm, ⟨31, _⟩ => ⟨S1x2048, .f32⟩
  | .hbm, ⟨32, _⟩ => ⟨S1x1024, .f32⟩
  | .hbm, ⟨33, _⟩ => ⟨S1x1024, .f32⟩
  | .hbm, ⟨34, _⟩ => ⟨S128x2048, .i32⟩
  | .hbm, ⟨35, _⟩ => ⟨S128x2048, .i32⟩
  | .hbm, ⟨36, _⟩ => ⟨S_, .i32⟩
  | .hbm, ⟨37, _⟩ => ⟨S128x2048, .i32⟩
  | .hbm, ⟨38, _⟩ => ⟨S128x2048, .i32⟩
  | .hbm, ⟨39, _⟩ => ⟨S128x2048, .i1⟩
  | .hbm, ⟨40, _⟩ => ⟨S_, .f32⟩
  | .hbm, ⟨41, _⟩ => ⟨S_, .f32⟩
  | .hbm, ⟨42, _⟩ => ⟨S128x2048, .f32⟩
  | .hbm, ⟨43, _⟩ => ⟨S128x2048, .f32⟩
  | .hbm, ⟨44, _⟩ => ⟨S128x2048, .f32⟩
  | .hbm, ⟨45, _⟩ => ⟨S128x2048, .bf16⟩
  | .hbm, ⟨46, _⟩ => ⟨S8x2048x1024, .f32⟩
  | .hbm, ⟨47, _⟩ => ⟨S8x3x3072, .f32⟩
  | .hbm, ⟨48, _⟩ => ⟨S8x2048x128, .f32⟩
  | .local _ .vmem, ⟨0, _⟩ => ⟨S1x128x1024, .f32⟩
  | .local _ .vmem, ⟨1, _⟩ => ⟨S1x128x1024, .f32⟩
  | .local _ .vmem, ⟨2, _⟩ => ⟨S1024x5120, .bf16⟩
  | .local _ .vmem, ⟨3, _⟩ => ⟨S1024x128, .bf16⟩
  | .local _ .vmem, ⟨4, _⟩ => ⟨S4x3072, .f32⟩
  | .local _ .vmem, ⟨5, _⟩ => ⟨S1x3072, .f32⟩
  | .local _ .vmem, ⟨6, _⟩ => ⟨S1x128, .f32⟩
  | .local _ .vmem, ⟨7, _⟩ => ⟨S1x128, .f32⟩
  | .local _ .vmem, ⟨8, _⟩ => ⟨S1x2048, .f32⟩
  | .local _ .vmem, ⟨9, _⟩ => ⟨S1x2048, .f32⟩
  | .local _ .vmem, ⟨10, _⟩ => ⟨S2048x1024, .bf16⟩
  | .local _ .vmem, ⟨11, _⟩ => ⟨S128x2048, .bf16⟩
  | .local _ .vmem, ⟨12, _⟩ => ⟨S128x128, .bf16⟩
  | .local _ .vmem, ⟨13, _⟩ => ⟨S1x1024, .f32⟩
  | .local _ .vmem, ⟨14, _⟩ => ⟨S1x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x3x3072, .f32⟩
  | .local _ .vmem, ⟨18, _⟩ => ⟨S1x3x3072, .f32⟩
  | .local _ .vmem, ⟨19, _⟩ => ⟨S1x2048x128, .f32⟩
  | .local _ .vmem, ⟨20, _⟩ => ⟨S1x2048x128, .f32⟩
  | .local _ .vmem, ⟨21, _⟩ => ⟨S1x136x3072, .f32⟩
  | .local _ .vmem, ⟨22, _⟩ => ⟨S128x2048, .f32⟩
  | .local _ .vmem, ⟨23, _⟩ => ⟨S128x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_call1_v0 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_call2_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_cst_4 : Ref sig .tc := ⟨.hbm, 41, rfl⟩
abbrev main_call3_v0 : Ref sig .tc := ⟨.hbm, 42, rfl⟩
abbrev main_call3_v1 : Ref sig .tc := ⟨.hbm, 43, rfl⟩
abbrev main_v21 : Ref sig .tc := ⟨.hbm, 44, rfl⟩
abbrev main_v22 : Ref sig .tc := ⟨.hbm, 45, rfl⟩
abbrev main_v23_0 : Ref sig .tc := ⟨.hbm, 46, rfl⟩
abbrev main_v23_1 : Ref sig .tc := ⟨.hbm, 47, rfl⟩
abbrev main_v23_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨2, ![8, 16], ![false, false]⟩

def k0_cond3 (i : grid0.Coords) : BitVec 1 :=
  let arg1 : BitVec 32 := BitVec.ofNat 32 (i 1).val
  let c15_i32 : BitVec 32 := 15#32
  let v940 : BitVec 1 := Scalar.cmpi .eq arg1 c15_i32
  let v941 : BitVec 32 := Scalar.extui v940
  let c0_i32_217 : BitVec 32 := 0#32
  let v942 : BitVec 1 := Scalar.cmpi .ne v941 c0_i32_217
  v942

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x3x3072 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x2048x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Reference2Ideal.lean ====
abbrev S8x2048x1024 : Shape := ⟨3, ![8, 2048, 1024]⟩
abbrev S1024x5152 : Shape := ⟨2, ![1024, 5152]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S2048x1024 : Shape := ⟨2, ![2048, 1024]⟩
abbrev S1024 : Shape := ⟨1, ![1024]⟩
abbrev S_ : Shape := ⟨0, ![]⟩
abbrev S8x3x3072 : Shape := ⟨3, ![8, 3, 3072]⟩
abbrev S8x32x64x128 : Shape := ⟨4, ![8, 32, 64, 128]⟩
abbrev S8x2048x5152 : Shape := ⟨3, ![8, 2048, 5152]⟩
abbrev S8x2048x3072 : Shape := ⟨3, ![8, 2048, 3072]⟩
abbrev S8x2048x32 : Shape := ⟨3, ![8, 2048, 32]⟩
abbrev S8x2051x3072 : Shape := ⟨3, ![8, 2051, 3072]⟩
abbrev S1x3072 : Shape := ⟨2, ![1, 3072]⟩
abbrev S1x1x3072 : Shape := ⟨3, ![1, 1, 3072]⟩
abbrev S8x2048x2048 : Shape := ⟨3, ![8, 2048, 2048]⟩
abbrev S8x2048x4x8x64 : Shape := ⟨5, ![8, 2048, 4, 8, 64]⟩
abbrev S8x2048x512 : Shape := ⟨3, ![8, 2048, 512]⟩
abbrev S8x2048x4x128 : Shape := ⟨4, ![8, 2048, 4, 128]⟩
abbrev S1x1x32 : Shape := ⟨3, ![1, 1, 32]⟩
abbrev S8x2048x4x8 : Shape := ⟨4, ![8, 2048, 4, 8]⟩
abbrev S4x8 : Shape := ⟨2, ![4, 8]⟩
abbrev S8x4x8x64x128 : Shape := ⟨5, ![8, 4, 8, 64, 128]⟩
abbrev S128x128 : Shape := ⟨2, ![128, 128]⟩
abbrev S1x128x128x1x1 : Shape := ⟨5, ![1, 128, 128, 1, 1]⟩
abbrev S8x16x128x4x8x64 : Shape := ⟨6, ![8, 16, 128, 4, 8, 64]⟩
abbrev S16x8x128x4x8x64 : Shape := ⟨6, ![16, 8, 128, 4, 8, 64]⟩
abbrev S8x16x128x4x8 : Shape := ⟨5, ![8, 16, 128, 4, 8]⟩
abbrev S16x8x128x4x8 : Shape := ⟨5, ![16, 8, 128, 4, 8]⟩
abbrev S8x16x128x4x128 : Shape := ⟨5, ![8, 16, 128, 4, 128]⟩
abbrev S16x8x128x4x128 : Shape := ⟨5, ![16, 8, 128, 4, 128]⟩
abbrev S1x8x128x4x8x64 : Shape := ⟨6, ![1, 8, 128, 4, 8, 64]⟩
abbrev S8x128x4x8x64 : Shape := ⟨5, ![8, 128, 4, 8, 64]⟩
abbrev S1x8x128x4x8 : Shape := ⟨5, ![1, 8, 128, 4, 8]⟩
abbrev S8x128x4x8 : Shape := ⟨4, ![8, 128, 4, 8]⟩
abbrev S1x8x128x4x128 : Shape := ⟨5, ![1, 8, 128, 4, 128]⟩
abbrev S8x128x4x128 : Shape := ⟨4, ![8, 128, 4, 128]⟩
abbrev S1x1x4x8 : Shape := ⟨4, ![1, 1, 4, 8]⟩
abbrev S8x128x1x4x8 : Shape := ⟨5, ![8, 128, 1, 4, 8]⟩
abbrev S8x1x128x4x8 : Shape := ⟨5, ![8, 1, 128, 4, 8]⟩
abbrev S8x128x128x4x8 : Shape := ⟨5, ![8, 128, 128, 4, 8]⟩
abbrev S8x4x128x128 : Shape := ⟨4, ![8, 4, 128, 128]⟩
abbrev S8x128x128x4 : Shape := ⟨4, ![8, 128, 128, 4]⟩
abbrev S8x128x128x4x1 : Shape := ⟨5, ![8, 128, 128, 4, 1]⟩
abbrev S8x128x4x8x1 : Shape := ⟨5, ![8, 128, 4, 8, 1]⟩
abbrev S8x1x4x8 : Shape := ⟨4, ![8, 1, 4, 8]⟩
abbrev S8x4x8 : Shape := ⟨3, ![8, 4, 8]⟩
abbrev S8x4x8x1x1 : Shape := ⟨5, ![8, 4, 8, 1, 1]⟩
abbrev S4x8x1 : Shape := ⟨3, ![4, 8, 1]⟩
abbrev S1x1x4x8x1 : Shape := ⟨5, ![1, 1, 4, 8, 1]⟩
abbrev S1024x2048 : Shape := ⟨2, ![1024, 2048]⟩
abbrev S8x2048x4x512 : Shape := ⟨4, ![8, 2048, 4, 512]⟩
abbrev S8x2048x4 : Shape := ⟨3, ![8, 2048, 4]⟩
abbrev S8x2048x4x1 : Shape := ⟨4, ![8, 2048, 4, 1]⟩
abbrev S1x1x2048 : Shape := ⟨3, ![1, 1, 2048]⟩
abbrev S8x2048 : Shape := ⟨2, ![8, 2048]⟩
abbrev S8x2048x1 : Shape := ⟨3, ![8, 2048, 1]⟩
abbrev S1x1x1024 : Shape := ⟨3, ![1, 1, 1024]⟩
abbrev S8x3x1024 : Shape := ⟨3, ![8, 3, 1024]⟩
abbrev S1024x3072 : Shape := ⟨2, ![1024, 3072]⟩
abbrev S8x2048x128 : Shape := ⟨3, ![8, 2048, 128]⟩

abbrev nBuf : Space → Nat
  | .hbm => 283
  | .vmem => 0
  | .smem => 0
  | _ => 0

abbrev hbmTy0_0 (i : Nat) : BufTy := match i % 128 with
  | 0 => ⟨S8x2048x1024, .f32⟩
  | 1 => ⟨S1024x5152, .f32⟩
  | 2 => ⟨S4x3072, .f32⟩
  | 3 => ⟨S3072, .f32⟩
  | 4 => ⟨S32, .f32⟩
  | 5 => ⟨S32, .f32⟩
  | 6 => ⟨S32, .f32⟩
  | 7 => ⟨S2048, .f32⟩
  | 8 => ⟨S2048x1024, .f32⟩
  | 9 => ⟨S1024, .f32⟩
  | 10 => ⟨S1024, .f32⟩
  | 11 => ⟨S_, .f32⟩
  | 12 => ⟨S8x3x3072, .f32⟩
  | 13 => ⟨S_, .f32⟩
  | 14 => ⟨S8x32x64x128, .f32⟩
  | 15 => ⟨S8x2048x5152, .f32⟩
  | 16 => ⟨S8x2048x3072, .f32⟩
  | 17 => ⟨S8x2048x32, .f32⟩
  | 18 => ⟨S8x2051x3072, .f32⟩
  | 19 => ⟨S8x2048x3072, .f32⟩
  | 20 => ⟨S1x3072, .f32⟩
  | 21 => ⟨S3072, .f32⟩
  | 22 => ⟨S1x1x3072, .f32⟩
  | 23 => ⟨S8x2048x3072, .f32⟩
  | 24 => ⟨S8x2048x3072, .f32⟩
  | 25 => ⟨S_, .f32⟩
  | 26 => ⟨S8x2048x3072, .f32⟩
  | 27 => ⟨S8x2048x3072, .f32⟩
  | 28 => ⟨S8x2048x3072, .f32⟩
  | 29 => ⟨S1x3072, .f32⟩
  | 30 => ⟨S3072, .f32⟩
  | 31 => ⟨S1x1x3072, .f32⟩
  | 32 => ⟨S8x2048x3072, .f32⟩
  | 33 => ⟨S8x2048x3072, .f32⟩
  | 34 => ⟨S8x2048x3072, .f32⟩
  | 35 => ⟨S8x2048x3072, .f32⟩
  | 36 => ⟨S1x3072, .f32⟩
  | 37 => ⟨S3072, .f32⟩
  | 38 => ⟨S1x1x3072, .f32⟩
  | 39 => ⟨S8x2048x3072, .f32⟩
  | 40 => ⟨S8x2048x3072, .f32⟩
  | 41 => ⟨S8x2048x3072, .f32⟩
  | 42 => ⟨S8x2048x3072, .f32⟩
  | 43 => ⟨S1x3072, .f32⟩
  | 44 => ⟨S3072, .f32⟩
  | 45 => ⟨S1x1x3072, .f32⟩
  | 46 => ⟨S8x2048x3072, .f32⟩
  | 47 => ⟨S8x2048x3072, .f32⟩
  | 48 => ⟨S8x2048x3072, .f32⟩
  | 49 => ⟨S1x1x3072, .f32⟩
  | 50 => ⟨S8x2048x3072, .f32⟩
  | 51 => ⟨S8x2048x3072, .f32⟩
  | 52 => ⟨S8x2048x3072, .f32⟩
  | 53 => ⟨S8x2048x3072, .f32⟩
  | 54 => ⟨S_, .f32⟩
  | 55 => ⟨S8x2048x3072, .f32⟩
  | 56 => ⟨S8x2048x3072, .f32⟩
  | 57 => ⟨S_, .f32⟩
  | 58 => ⟨S8x2048x3072, .f32⟩
  | 59 => ⟨S8x2048x3072, .f32⟩
  | 60 => ⟨S8x2048x3072, .f32⟩
  | 61 => ⟨S8x2048x2048, .f32⟩
  | 62 => ⟨S8x2048x4x8x64, .f32⟩
  | 63 => ⟨S8x2048x512, .f32⟩
  | 64 => ⟨S8x2048x4x128, .f32⟩
  | 65 => ⟨S8x2048x512, .f32⟩
  | 66 => ⟨S8x2048x4x128, .f32⟩
  | 67 => ⟨S1x1x32, .f32⟩
  | 68 => ⟨S8x2048x32, .f32⟩
  | 69 => ⟨S8x2048x32, .f32⟩
  | 70 => ⟨S_, .f32⟩
  | 71 => ⟨S8x2048x32, .f32⟩
  | 72 => ⟨S8x2048x32, .f32⟩
  | 73 => ⟨S8x2048x32, .f32⟩
  | 74 => ⟨S8x2048x32, .f32⟩
  | 75 => ⟨S8x2048x32, .i1⟩
  | 76 => ⟨S8x2048x32, .f32⟩
  | 77 => ⟨S8x2048x32, .f32⟩
  | 78 => ⟨S8x2048x32, .f32⟩
  | 79 => ⟨S8x2048x32, .f32⟩
  | 80 => ⟨S8x2048x32, .f32⟩
  | 81 => ⟨S8x2048x32, .f32⟩
  | 82 => ⟨S8x2048x32, .f32⟩
  | 83 => ⟨S8x2048x32, .f32⟩
  | 84 => ⟨S8x2048x4x8, .f32⟩
  | 85 => ⟨S32, .f32⟩
  | 86 => ⟨S4x8, .f32⟩
  | 87 => ⟨S4x8, .f32⟩
  | 88 => ⟨S8x4x8x64x128, .f32⟩
  | 89 => ⟨S_, .i1⟩
  | 90 => ⟨S128x128, .i1⟩
  | 91 => ⟨S128x128, .i32⟩
  | 92 => ⟨S_, .i32⟩
  | 93 => ⟨S128x128, .i32⟩
  | 94 => ⟨S128x128, .i32⟩
  | 95 => ⟨S128x128, .i32⟩
  | 96 => ⟨S128x128, .i1⟩
  | 97 => ⟨S_, .i1⟩
  | 98 => ⟨S128x128, .i1⟩
  | 99 => ⟨S128x128, .i1⟩
  | 100 => ⟨S1x128x128x1x1, .i1⟩
  | 101 => ⟨S8x16x128x4x8x64, .f32⟩
  | 102 => ⟨S16x8x128x4x8x64, .f32⟩
  | 103 => ⟨S8x16x128x4x8, .f32⟩
  | 104 => ⟨S16x8x128x4x8, .f32⟩
  | 105 => ⟨S8x16x128x4x128, .f32⟩
  | 106 => ⟨S16x8x128x4x128, .f32⟩
  | 107 => ⟨S8x16x128x4x128, .f32⟩
  | 108 => ⟨S16x8x128x4x128, .f32⟩
  | 109 => ⟨S_, .f32⟩
  | 110 => ⟨S16x8x128x4x8x64, .f32⟩
  | 111 => ⟨S_, .i32⟩
  | 112 => ⟨S16x8x128x4x8x64, .f32⟩
  | 113 => ⟨S16x8x128x4x8, .f32⟩
  | 114 => ⟨S16x8x128x4x128, .f32⟩
  | 115 => ⟨S16x8x128x4x128, .f32⟩
  | 116 => ⟨S4x8, .f32⟩
  | 117 => ⟨S1x128x128x1x1, .i1⟩
  | 118 => ⟨S32, .f32⟩
  | 119 => ⟨S_, .i32⟩
  | 120 => ⟨S8x4x8x64x128, .f32⟩
  | 121 => ⟨S16x8x128x4x8x64, .f32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S8x2048x1024, .f32⟩

abbrev hbmTy0_1 (i : Nat) : BufTy := match i % 128 with
  | 0 => ⟨S_, .i32⟩
  | 1 => ⟨S1x8x128x4x8x64, .f32⟩
  | 2 => ⟨S8x128x4x8x64, .f32⟩
  | 3 => ⟨S_, .i32⟩
  | 4 => ⟨S_, .i32⟩
  | 5 => ⟨S_, .i32⟩
  | 6 => ⟨S_, .i32⟩
  | 7 => ⟨S1x8x128x4x8, .f32⟩
  | 8 => ⟨S8x128x4x8, .f32⟩
  | 9 => ⟨S_, .i32⟩
  | 10 => ⟨S_, .i32⟩
  | 11 => ⟨S_, .i32⟩
  | 12 => ⟨S_, .i32⟩
  | 13 => ⟨S1x8x128x4x128, .f32⟩
  | 14 => ⟨S8x128x4x128, .f32⟩
  | 15 => ⟨S_, .i32⟩
  | 16 => ⟨S_, .i32⟩
  | 17 => ⟨S_, .i32⟩
  | 18 => ⟨S_, .i32⟩
  | 19 => ⟨S1x8x128x4x128, .f32⟩
  | 20 => ⟨S8x128x4x128, .f32⟩
  | 21 => ⟨S1x1x4x8, .f32⟩
  | 22 => ⟨S8x128x4x8, .f32⟩
  | 23 => ⟨S8x128x4x8, .f32⟩
  | 24 => ⟨S_, .f32⟩
  | 25 => ⟨S_, .f32⟩
  | 26 => ⟨S8x128x4x8, .f32⟩
  | 27 => ⟨S8x128x1x4x8, .f32⟩
  | 28 => ⟨S8x1x128x4x8, .f32⟩
  | 29 => ⟨S8x128x128x4x8, .f32⟩
  | 30 => ⟨S8x128x128x4x8, .f32⟩
  | 31 => ⟨S8x128x128x4x8, .f32⟩
  | 32 => ⟨S_, .f32⟩
  | 33 => ⟨S_, .f32⟩
  | 34 => ⟨S8x128x128x4x8, .i1⟩
  | 35 => ⟨S8x128x128x4x8, .f32⟩
  | 36 => ⟨S8x128x128x4x8, .f32⟩
  | 37 => ⟨S8x128x128x4x8, .f32⟩
  | 38 => ⟨S8x4x128x128, .f32⟩
  | 39 => ⟨S8x128x128x4, .f32⟩
  | 40 => ⟨S8x128x128x4x1, .f32⟩
  | 41 => ⟨S8x128x128x4x8, .f32⟩
  | 42 => ⟨S8x128x128x4x8, .f32⟩
  | 43 => ⟨S8x1x128x4x8, .f32⟩
  | 44 => ⟨S8x128x128x4x8, .f32⟩
  | 45 => ⟨S8x128x128x4x8, .f32⟩
  | 46 => ⟨S8x4x8x64x128, .f32⟩
  | 47 => ⟨S8x128x4x8x64, .f32⟩
  | 48 => ⟨S8x4x8x64x128, .f32⟩
  | 49 => ⟨S8x128x4x8x64, .f32⟩
  | 50 => ⟨S8x128x4x8, .f32⟩
  | 51 => ⟨S8x128x4x8x1, .f32⟩
  | 52 => ⟨S8x128x4x8x64, .f32⟩
  | 53 => ⟨S8x128x4x8x64, .f32⟩
  | 54 => ⟨S8x128x4x8x64, .f32⟩
  | 55 => ⟨S8x1x4x8, .f32⟩
  | 56 => ⟨S8x128x4x8, .f32⟩
  | 57 => ⟨S8x128x4x8, .f32⟩
  | 58 => ⟨S8x128x4x8, .f32⟩
  | 59 => ⟨S8x128x4x8, .f32⟩
  | 60 => ⟨S8x1x4x8, .f32⟩
  | 61 => ⟨S8x4x8, .f32⟩
  | 62 => ⟨S8x4x8, .f32⟩
  | 63 => ⟨S8x4x8x1x1, .f32⟩
  | 64 => ⟨S8x4x8x64x128, .f32⟩
  | 65 => ⟨S8x4x8x64x128, .f32⟩
  | 66 => ⟨S8x128x4x8x1, .f32⟩
  | 67 => ⟨S8x128x4x8x64, .f32⟩
  | 68 => ⟨S8x128x4x8x64, .f32⟩
  | 69 => ⟨S8x4x8x64x128, .f32⟩
  | 70 => ⟨S8x4x8x64x128, .f32⟩
  | 71 => ⟨S4x8x1, .f32⟩
  | 72 => ⟨S1x1x4x8x1, .f32⟩
  | 73 => ⟨S8x128x4x8x64, .f32⟩
  | 74 => ⟨S8x128x4x8x64, .f32⟩
  | 75 => ⟨S8x128x4x8x64, .f32⟩
  | 76 => ⟨S1x8x128x4x8x64, .f32⟩
  | 77 => ⟨S_, .i32⟩
  | 78 => ⟨S_, .i32⟩
  | 79 => ⟨S_, .i32⟩
  | 80 => ⟨S_, .i32⟩
  | 81 => ⟨S_, .i32⟩
  | 82 => ⟨S16x8x128x4x8x64, .f32⟩
  | 83 => ⟨S_, .i32⟩
  | 84 => ⟨S_, .i32⟩
  | 85 => ⟨S1024x2048, .f32⟩
  | 86 => ⟨S8x2048x2048, .f32⟩
  | 87 => ⟨S8x16x128x4x8x64, .f32⟩
  | 88 => ⟨S8x2048x2048, .f32⟩
  | 89 => ⟨S8x2048x2048, .f32⟩
  | 90 => ⟨S8x2048x2048, .f32⟩
  | 91 => ⟨S_, .f32⟩
  | 92 => ⟨S8x2048x2048, .f32⟩
  | 93 => ⟨S8x2048x2048, .f32⟩
  | 94 => ⟨S_, .f32⟩
  | 95 => ⟨S8x2048x2048, .f32⟩
  | 96 => ⟨S8x2048x2048, .f32⟩
  | 97 => ⟨S8x2048x2048, .f32⟩
  | 98 => ⟨S8x2048x2048, .f32⟩
  | 99 => ⟨S8x2048x4x512, .f32⟩
  | 100 => ⟨S8x2048x4x512, .f32⟩
  | 101 => ⟨S_, .f32⟩
  | 102 => ⟨S8x2048x4, .f32⟩
  | 103 => ⟨S8x2048x4x1, .f32⟩
  | 104 => ⟨S_, .f32⟩
  | 105 => ⟨S8x2048x4x1, .f32⟩
  | 106 => ⟨S8x2048x4x1, .f32⟩
  | 107 => ⟨S_, .f32⟩
  | 108 => ⟨S8x2048x4x1, .f32⟩
  | 109 => ⟨S8x2048x4x1, .f32⟩
  | 110 => ⟨S8x2048x4x1, .f32⟩
  | 111 => ⟨S8x2048x4x512, .f32⟩
  | 112 => ⟨S8x2048x4x512, .f32⟩
  | 113 => ⟨S8x2048x2048, .f32⟩
  | 114 => ⟨S1x1x2048, .f32⟩
  | 115 => ⟨S8x2048x2048, .f32⟩
  | 116 => ⟨S8x2048x2048, .f32⟩
  | 117 => ⟨S_, .f32⟩
  | 118 => ⟨S8x2048x1024, .f32⟩
  | 119 => ⟨S8x2048x1024, .f32⟩
  | 120 => ⟨S8x2048x1024, .f32⟩
  | 121 => ⟨S8x2048x1024, .f32⟩
  | 122 => ⟨S_, .f32⟩
  | 123 => ⟨S8x2048, .f32⟩
  | 124 => ⟨S8x2048x1, .f32⟩
  | 125 => ⟨S_, .f32⟩
  | 126 => ⟨S8x2048x1, .f32⟩
  | 127 => ⟨S8x2048x1, .f32⟩
  | _ => ⟨S8x2048x1024, .f32⟩

abbrev hbmTy0_2 (i : Nat) : BufTy := match i % 128 with
  | 0 => ⟨S8x2048x1024, .f32⟩
  | 1 => ⟨S8x2048x1024, .f32⟩
  | 2 => ⟨S8x2048x1024, .f32⟩
  | 3 => ⟨S_, .f32⟩
  | 4 => ⟨S8x2048, .f32⟩
  | 5 => ⟨S8x2048x1, .f32⟩
  | 6 => ⟨S_, .f32⟩
  | 7 => ⟨S8x2048x1, .f32⟩
  | 8 => ⟨S8x2048x1, .f32⟩
  | 9 => ⟨S8x2048x1024, .f32⟩
  | 10 => ⟨S8x2048x1024, .f32⟩
  | 11 => ⟨S_, .f32⟩
  | 12 => ⟨S8x2048x1, .f32⟩
  | 13 => ⟨S8x2048x1, .f32⟩
  | 14 => ⟨S8x2048x1, .f32⟩
  | 15 => ⟨S8x2048x1024, .f32⟩
  | 16 => ⟨S8x2048x1024, .f32⟩
  | 17 => ⟨S1x1x1024, .f32⟩
  | 18 => ⟨S8x2048x1024, .f32⟩
  | 19 => ⟨S8x2048x1024, .f32⟩
  | 20 => ⟨S1x1x1024, .f32⟩
  | 21 => ⟨S8x2048x1024, .f32⟩
  | 22 => ⟨S8x2048x1024, .f32⟩
  | 23 => ⟨S8x3x1024, .f32⟩
  | 24 => ⟨S1024x3072, .f32⟩
  | 25 => ⟨S8x3x3072, .f32⟩
  | 26 => ⟨S8x2048x128, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_c : Ref sig .tc := ⟨.hbm, 89, rfl⟩
abbrev main_v54 : Ref sig .tc := ⟨.hbm, 90, rfl⟩
abbrev main_call2_v0 : Ref sig .tc := ⟨.hbm, 91, rfl⟩
abbrev main_call2_c : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_c_0 : Ref sig .tc := ⟨.hbm, 97, rfl⟩
abbrev main_call2_v5 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_2 : Ref sig .tc := ⟨.hbm, 109, rfl⟩
abbrev main_v65 : Ref sig .tc := ⟨.hbm, 110, rfl⟩
abbrev main_c_3 : Ref sig .tc := ⟨.hbm, 111, rfl⟩
abbrev main_v66_0 : Ref sig .tc := ⟨.hbm, 112, rfl⟩
abbrev main_v66_1 : Ref sig .tc := ⟨.hbm, 113, rfl⟩
abbrev main_v66_2 : Ref sig .tc := ⟨.hbm, 114, rfl⟩
abbrev main_v66_3 : Ref sig .tc := ⟨.hbm, 115, rfl⟩
abbrev main_v66_4 : Ref sig .tc := ⟨.hbm, 116, rfl⟩
abbrev main_v66_5 : Ref sig .tc := ⟨.hbm, 117, rfl⟩
abbrev main_v66_6 : Ref sig .tc := ⟨.hbm, 118, rfl⟩
abbrev main_v66_7 : Ref sig .tc := ⟨.hbm, 119, rfl⟩
abbrev main_v66_8 : Ref sig .tc := ⟨.hbm, 120, rfl⟩
abbrev main_v66_9 : Ref sig .tc := ⟨.hbm, 121, rfl⟩
abbrev main_while0c_c_22 : Ref sig .tc := ⟨.hbm, 122, rfl⟩
abbrev main_while0c_v120 : Ref sig .tc := ⟨.hbm, 123, rfl⟩
abbrev main_while0b_call3_c : Ref sig .tc := ⟨.hbm, 124, rfl⟩
abbrev main_while0b_call3_c_0 : Ref sig .tc := ⟨.hbm, 125, rfl⟩
abbrev main_while0b_call3_c_1 : Ref sig .tc := ⟨.hbm, 126, rfl⟩
abbrev main_while0b_call3_c_2 : Ref sig .tc := ⟨.hbm, 127, rfl⟩
abbrev main_while0b_call3_c_3 : Ref sig .tc := ⟨.hbm, 128, rfl⟩
abbrev main_while0b_call3_v0 : Ref sig .tc := ⟨.hbm, 129, rfl⟩
abbrev main_while0b_v120 : Ref sig .tc := ⟨.hbm, 130, rfl⟩
abbrev main_while0b_call4_c : Ref sig .tc := ⟨.hbm, 131, rfl⟩
abbrev main_while0b_call4_c_0 : Ref sig .tc := ⟨.hbm, 132, rfl⟩
abbrev main_while0b_call4_c_1 : Ref sig .tc := ⟨.hbm, 133, rfl⟩
abbrev main_while0b_call4_c_2 : Ref sig .tc := ⟨.hbm, 134, rfl⟩
abbrev main_while0b_call4_v0 : Ref sig .tc := ⟨.hbm, 135, rfl⟩
abbrev main_while0b_v121 : Ref sig .tc := ⟨.hbm, 136, rfl⟩
abbrev main_while0b_call5_c : Ref sig .tc := ⟨.hbm, 137, rfl⟩
abbrev main_while0b_call5_c_0 : Ref sig .tc := ⟨.hbm, 138, rfl⟩
abbrev main_while0b_call5_c_1 : Ref sig .tc := ⟨.hbm, 139, rfl⟩
abbrev main_while0b_call5_c_2 : Ref sig .tc := ⟨.hbm, 140, rfl⟩
abbrev main_while0b_call5_v0 : Ref sig .tc := ⟨.hbm, 141, rfl⟩
abbrev main_while0b_v122 : Ref sig .tc := ⟨.hbm, 142, rfl⟩
abbrev main_while0b_call6_c : Ref sig .tc := ⟨.hbm, 143, rfl⟩
abbrev main_while0b_call6_c_0 : Ref sig .tc := ⟨.hbm, 144, rfl⟩
abbrev main_while0b_call6_c_1 : Ref sig .tc := ⟨.hbm, 145, rfl⟩
abbrev main_while0b_call6_c_2 : Ref sig .tc := ⟨.hbm, 146, rfl⟩
abbrev main_while0b_call6_v0 : Ref sig .tc := ⟨.hbm, 147, rfl⟩
abbrev main_while0b_v123 : Ref sig .tc := ⟨.hbm, 148, rfl⟩
abbrev main_while0b_v124 : Ref sig .tc := ⟨.hbm, 149, rfl⟩
abbrev main_while0b_v125 : Ref sig .tc := ⟨.hbm, 150, rfl⟩
abbrev main_while0b_v126 : Ref sig .tc := ⟨.hbm, 151, rfl⟩
abbrev main_while0b_call7_call0_cst : Ref sig .tc := ⟨.hbm, 152, rfl⟩
abbrev main_while0b_call7_call0_v0 : Ref sig .tc := ⟨.hbm, 153, rfl⟩
abbrev main_while0b_v127 : Ref sig .tc := ⟨.hbm, 154, rfl⟩
abbrev main_while0b_v128 : Ref sig .tc := ⟨.hbm, 155, rfl⟩
abbrev main_while0b_v129 : Ref sig .tc := ⟨.hbm, 156, rfl⟩
abbrev main_while0b_v130 : Ref sig .tc := ⟨.hbm, 157, rfl⟩
abbrev main_while0b_v131 : Ref sig .tc := ⟨.hbm, 158, rfl⟩
abbrev main_while0b_v132 : Ref sig .tc := ⟨.hbm, 159, rfl⟩
abbrev main_while0b_cst_22 : Ref sig .tc := ⟨.hbm, 160, rfl⟩
abbrev main_while0b_call8_v0 : Ref sig .tc := ⟨.hbm, 161, rfl⟩
abbrev main_while0b_call8_v1 : Ref sig .tc := ⟨.hbm, 162, rfl⟩
abbrev main_while0b_call8_v2 : Ref sig .tc := ⟨.hbm, 163, rfl⟩
abbrev main_while0b_v133 : Ref sig .tc := ⟨.hbm, 164, rfl⟩
abbrev main_while0b_v134 : Ref sig .tc := ⟨.hbm, 165, rfl⟩
abbrev main_while0b_v135 : Ref sig .tc := ⟨.hbm, 166, rfl⟩
abbrev main_while0b_v136 : Ref sig .tc := ⟨.hbm, 167, rfl⟩
abbrev main_while0b_v137 : Ref sig .tc := ⟨.hbm, 168, rfl⟩
abbrev main_while0b_v138 : Ref sig .tc := ⟨.hbm, 169, rfl⟩
abbrev main_while0b_v139 : Ref sig .tc := ⟨.hbm, 170, rfl⟩
abbrev main_while0b_v140 : Ref sig .tc := ⟨.hbm, 171, rfl⟩
abbrev main_while0b_v141 : Ref sig .tc := ⟨.hbm, 172, rfl⟩
abbrev main_while0b_v142 : Ref sig .tc := ⟨.hbm, 173, rfl⟩
abbrev main_while0b_v143 : Ref sig .tc := ⟨.hbm, 174, rfl⟩
abbrev main_while0b_v144 : Ref sig .tc := ⟨.hbm, 175, rfl⟩
abbrev main_while0b_v145 : Ref sig .tc := ⟨.hbm, 176, rfl⟩
abbrev main_while0b_v146 : Ref sig .tc := ⟨.hbm, 177, rfl⟩
abbrev main_while0b_v147 : Ref sig .tc := ⟨.hbm, 178, rfl⟩
abbrev main_while0b_v148 : Ref sig .tc := ⟨.hbm, 179, rfl⟩
abbrev main_while0b_v149 : Ref sig .tc := ⟨.hbm, 180, rfl⟩
abbrev main_while0b_v150 : Ref sig .tc := ⟨.hbm, 181, rfl⟩
abbrev main_while0b_v151 : Ref sig .tc := ⟨.hbm, 182, rfl⟩
abbrev main_while0b_v152 : Ref sig .tc := ⟨.hbm, 183, rfl⟩
abbrev main_while0b_v153 : Ref sig .tc := ⟨.hbm, 184, rfl⟩
abbrev main_while0b_v154 : Ref sig .tc := ⟨.hbm, 185, rfl⟩
abbrev main_while0b_v155 : Ref sig .tc := ⟨.hbm, 186, rfl⟩
abbrev main_while0b_v156 : Ref sig .tc := ⟨.hbm, 187, rfl⟩
abbrev main_while0b_v157 : Ref sig .tc := ⟨.hbm, 188, rfl⟩
abbrev main_while0b_v158 : Ref sig .tc := ⟨.hbm, 189, rfl⟩
abbrev main_while0b_v159 : Ref sig .tc := ⟨.hbm, 190, rfl⟩
abbrev main_while0b_v160 : Ref sig .tc := ⟨.hbm, 191, rfl⟩
abbrev main_while0b_v161 : Ref sig .tc := ⟨.hbm, 192, rfl⟩
abbrev main_while0b_v162 : Ref sig .tc := ⟨.hbm, 193, rfl⟩
abbrev main_while0b_v163 : Ref sig .tc := ⟨.hbm, 194, rfl⟩
abbrev main_while0b_v164 : Ref sig .tc := ⟨.hbm, 195, rfl⟩
abbrev main_while0b_v165 : Ref sig .tc := ⟨.hbm, 196, rfl⟩
abbrev main_while0b_v166 : Ref sig .tc := ⟨.hbm, 197, rfl⟩
abbrev main_while0b_v167 : Ref sig .tc := ⟨.hbm, 198, rfl⟩
abbrev main_while0b_v168 : Ref sig .tc := ⟨.hbm, 199, rfl⟩
abbrev main_while0b_v169 : Ref sig .tc := ⟨.hbm, 200, rfl⟩
abbrev main_while0b_v170 : Ref sig .tc := ⟨.hbm, 201, rfl⟩
abbrev main_while0b_v171 : Ref sig .tc := ⟨.hbm, 202, rfl⟩
abbrev main_while0b_v172 : Ref sig .tc := ⟨.hbm, 203, rfl⟩
abbrev main_while0b_call9_v0 : Ref sig .tc := ⟨.hbm, 204, rfl⟩
abbrev main_while0b_call9_c : Ref sig .tc := ⟨.hbm, 205, rfl⟩
abbrev main_while0b_call9_c_0 : Ref sig .tc := ⟨.hbm, 206, rfl⟩
abbrev main_while0b_call9_c_1 : Ref sig .tc := ⟨.hbm, 207, rfl⟩
abbrev main_while0b_call9_c_2 : Ref sig .tc := ⟨.hbm, 208, rfl⟩
abbrev main_while0b_call9_c_3 : Ref sig .tc := ⟨.hbm, 209, rfl⟩
abbrev main_while0b_v173 : Ref sig .tc := ⟨.hbm, 210, rfl⟩
abbrev main_while0b_c_23 : Ref sig .tc := ⟨.hbm, 211, rfl⟩
abbrev main_while0b_v174 : Ref sig .tc := ⟨.hbm, 212, rfl⟩
abbrev main_v67 : Ref sig .tc := ⟨.hbm, 213, rfl⟩
abbrev main_v68 : Ref sig .tc := ⟨.hbm, 214, rfl⟩
abbrev main_v69 : Ref sig .tc := ⟨.hbm, 215, rfl⟩
abbrev main_v70 : Ref sig .tc := ⟨.hbm, 216, rfl⟩
abbrev main_call10_v0 : Ref sig .tc := ⟨.hbm, 217, rfl⟩
abbrev main_call10_v1 : Ref sig .tc := ⟨.hbm, 218, rfl⟩
abbrev main_call10_cst : Ref sig .tc := ⟨.hbm, 219, rfl⟩
abbrev main_call10_v2 : Ref sig .tc := ⟨.hbm, 220, rfl⟩
abbrev main_call10_v3 : Ref sig .tc := ⟨.hbm, 221, rfl⟩
abbrev main_call10_cst_0 : Ref sig .tc := ⟨.hbm, 222, rfl⟩
abbrev main_call10_v4 : Ref sig .tc := ⟨.hbm, 223, rfl⟩
abbrev main_call10_v5 : Ref sig .tc := ⟨.hbm, 224, rfl⟩
abbrev main_v71 : Ref sig .tc := ⟨.hbm, 225, rfl⟩
abbrev main_v72 : Ref sig .tc := ⟨.hbm, 226, rfl⟩
abbrev main_v73 : Ref sig .tc := ⟨.hbm, 227, rfl⟩
abbrev main_v74 : Ref sig .tc := ⟨.hbm, 228, rfl⟩
abbrev main_cst_4 : Ref sig .tc := ⟨.hbm, 229, rfl⟩
abbrev main_v75 : Ref sig .tc := ⟨.hbm, 230, rfl⟩
abbrev main_v76 : Ref sig .tc := ⟨.hbm, 231, rfl⟩
abbrev main_cst_5 : Ref sig .tc := ⟨.hbm, 232, rfl⟩
abbrev main_v77 : Ref sig .tc := ⟨.hbm, 233, rfl⟩
abbrev main_v78 : Ref sig .tc := ⟨.hbm, 234, rfl⟩
abbrev main_cst_6 : Ref sig .tc := ⟨.hbm, 235, rfl⟩
abbrev main_v79 : Ref sig .tc := ⟨.hbm, 236, rfl⟩
abbrev main_v80 : Ref sig .tc := ⟨.hbm, 237, rfl⟩
abbrev main_v81 : Ref sig .tc := ⟨.hbm, 238, rfl⟩
abbrev main_v82 : Ref sig .tc := ⟨.hbm, 239, rfl⟩
abbrev main_v83 : Ref sig .tc := ⟨.hbm, 240, rfl⟩
abbrev main_v84 : Ref sig .tc := ⟨.hbm, 241, rfl⟩
abbrev main_v85 : Ref sig .tc := ⟨.hbm, 242, rfl⟩
abbrev main_v86 : Ref sig .tc := ⟨.hbm, 243, rfl⟩
abbrev main_v87 : Ref sig .tc := ⟨.hbm, 244, rfl⟩
abbrev main_cst_7 : Ref sig .tc := ⟨.hbm, 245, rfl⟩
abbrev main_v88 : Ref sig .tc := ⟨.hbm, 246, rfl⟩
abbrev main_v89 : Ref sig .tc := ⟨.hbm, 247, rfl⟩
abbrev main_v90 : Ref sig .tc := ⟨.hbm, 248, rfl⟩
abbrev main_v91 : Ref sig .tc := ⟨.hbm, 249, rfl⟩
abbrev main_cst_8 : Ref sig .tc := ⟨.hbm, 250, rfl⟩
abbrev main_v92 : Ref sig .tc := ⟨.hbm, 251, rfl⟩
abbrev main_v93 : Ref sig .tc := ⟨.hbm, 252, rfl⟩
abbrev main_cst_9 : Ref sig .tc := ⟨.hbm, 253, rfl⟩
abbrev main_v94 : Ref sig .tc := ⟨.hbm, 254, rfl⟩
abbrev main_v95 : Ref sig .tc := ⟨.hbm, 255, rfl⟩
abbrev main_v96 : Ref sig .tc := ⟨.hbm, 256, rfl⟩
abbrev main_v97 : Ref sig .tc := ⟨.hbm, 257, rfl⟩
abbrev main_v98 : Ref sig .tc := ⟨.hbm, 258, rfl⟩
abbrev main_cst_10 : Ref sig .tc := ⟨.hbm, 259, rfl⟩
abbrev main_v99 : Ref sig .tc := ⟨.hbm, 260, rfl⟩
abbrev main_v100 : Ref sig .tc := ⟨.hbm, 261, rfl⟩
abbrev main_cst_11 : Ref sig .tc := ⟨.hbm, 262, rfl⟩
abbrev main_v101 : Ref sig .tc := ⟨.hbm, 263, rfl⟩
abbrev main_v102 : Ref sig .tc := ⟨.hbm, 264, rfl⟩
abbrev main_v103 : Ref sig .tc := ⟨.hbm, 265, rfl⟩
abbrev main_v104 : Ref sig .tc := ⟨.hbm, 266, rfl⟩
abbrev main_cst_12 : Ref sig .tc := ⟨.hbm, 267, rfl⟩
abbrev main_v105 : Ref sig .tc := ⟨.hbm, 268, rfl⟩
abbrev main_v106 : Ref sig .tc := ⟨.hbm, 269, rfl⟩
abbrev main_v107 : Ref sig .tc := ⟨.hbm, 270, rfl⟩
abbrev main_v108 : Ref sig .tc := ⟨.hbm, 271, rfl⟩
abbrev main_v109 : Ref sig .tc := ⟨.hbm, 272, rfl⟩
abbrev main_v110 : Ref sig .tc := ⟨.hbm, 273, rfl⟩
abbrev main_v111 : Ref sig .tc := ⟨.hbm, 274, rfl⟩
abbrev main_v112 : Ref sig .tc := ⟨.hbm, 275, rfl⟩
abbrev main_v113 : Ref sig .tc := ⟨.hbm, 276, rfl⟩
abbrev main_v114 : Ref sig .tc := ⟨.hbm, 277, rfl⟩
abbrev main_v115 : Ref sig .tc := ⟨.hbm, 278, rfl⟩
abbrev main_v116 : Ref sig .tc := ⟨.hbm, 279, rfl⟩
abbrev main_v117 : Ref sig .tc := ⟨.hbm, 280, rfl⟩
abbrev main_v118 : Ref sig .tc := ⟨.hbm, 281, rfl⟩
abbrev main_v119 : Ref sig .tc := ⟨.hbm, 282, rfl⟩

abbrev nD : Nat := 1
abbrev τ : Topo := Topo.v7x

variable {F : FTy → Type} [FloatOps F]

abbrev main_while0_count : Scf.Loop 32 := ⟨0#32, 16#32, 1#32⟩
-- ==== Kernel4.lean ====
abbrev S128x8x1024 : Shape := ⟨3, ![128, 8, 1024]⟩
abbrev S128x15x1024 : Shape := ⟨3, ![128, 15, 1024]⟩
abbrev S4x256x256 : Shape := ⟨3, ![4, 256, 256]⟩
abbrev S1024 : Shape := ⟨1, ![1024]⟩
abbrev S1x1024 : Shape := ⟨2, ![1, 1024]⟩
abbrev S16x8x1024 : Shape := ⟨3, ![16, 8, 1024]⟩
abbrev S16x15x1024 : Shape := ⟨3, ![16, 15, 1024]⟩
abbrev S16x24x1024 : Shape := ⟨3, ![16, 24, 1024]⟩
abbrev S128x1024 : Shape := ⟨2, ![128, 1024]⟩
abbrev S16x8x256 : Shape := ⟨3, ![16, 8, 256]⟩
abbrev S128x256 : Shape := ⟨2, ![128, 256]⟩
abbrev S1x256x256 : Shape := ⟨3, ![1, 256, 256]⟩
abbrev S256x256 : Shape := ⟨2, ![256, 256]⟩
abbrev S128 : Shape := ⟨1, ![128]⟩
abbrev S128x1 : Shape := ⟨2, ![128, 1]⟩

abbrev nBuf : Space → Nat
  | .hbm => 12
  | .vmem => 13
  | .smem => 0
  | _ => 0

abbrev bufTy : (tb : Table) → Fin (tcTables nBuf tb) → BufTy
  | .hbm, ⟨0, _⟩ => ⟨S128x8x1024, .f32⟩
  | .hbm, ⟨1, _⟩ => ⟨S128x15x1024, .f32⟩
  | .hbm, ⟨2, _⟩ => ⟨S4x256x256, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4x256x256, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S128x8x1024, .f32⟩
  | .hbm, ⟨11, _⟩ => ⟨S128x15x1024, .f32⟩
  | .local _ .vmem, ⟨0, _⟩ => ⟨S16x8x1024, .f32⟩
  | .local _ .vmem, ⟨1, _⟩ => ⟨S16x8x1024, .f32⟩
  | .local _ .vmem, ⟨2, _⟩ => ⟨S16x15x1024, .f32⟩
  | .local _ .vmem, ⟨3, _⟩ => ⟨S16x15x1024, .f32⟩
  | .local _ .vmem, ⟨4, _⟩ => ⟨S4x256x256, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S16x8x1024, .f32⟩
  | .local _ .vmem, ⟨9, _⟩ => ⟨S16x8x1024, .f32⟩
  | .local _ .vmem, ⟨10, _⟩ => ⟨S16x15x1024, .f32⟩
  | .local _ .vmem, ⟨11, _⟩ => ⟨S16x15x1024, .f32⟩
  | .local _ .vmem, ⟨12, _⟩ => ⟨S16x24x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x15x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x15x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S128x8x1024 : Shape := ⟨3, ![128, 8, 1024]⟩
abbrev S128x15x1024 : Shape := ⟨3, ![128, 15, 1024]⟩
abbrev S4x256x256 : Shape := ⟨3, ![4, 256, 256]⟩
abbrev S1024 : Shape := ⟨1, ![1024]⟩
abbrev S128x23x1024 : Shape := ⟨3, ![128, 23, 1024]⟩
abbrev S_ : Shape := ⟨0, ![]⟩
abbrev S128x1x1024 : Shape := ⟨3, ![128, 1, 1024]⟩
abbrev S128x24x1024 : Shape := ⟨3, ![128, 24, 1024]⟩
abbrev S8 : Shape := ⟨1, ![8]⟩
abbrev S128x8x256 : Shape := ⟨3, ![128, 8, 256]⟩
abbrev S1x8x1 : Shape := ⟨3, ![1, 8, 1]⟩
abbrev S1x256x256 : Shape := ⟨3, ![1, 256, 256]⟩
abbrev S256x256 : Shape := ⟨2, ![256, 256]⟩
abbrev S1x1x1024 : Shape := ⟨3, ![1, 1, 1024]⟩
abbrev S128x8 : Shape := ⟨2, ![128, 8]⟩
abbrev S128x8x1 : Shape := ⟨3, ![128, 8, 1]⟩

abbrev nBuf : Space → Nat
  | .hbm => 128
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x15x1024, .f32⟩
  | .hbm, ⟨2, _⟩ => ⟨S4x256x256, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S128x23x1024, .f32⟩
  | .hbm, ⟨7, _⟩ => ⟨S_, .f32⟩
  | .hbm, ⟨8, _⟩ => ⟨S128x1x1024, .f32⟩
  | .hbm, ⟨9, _⟩ => ⟨S_, .f32⟩
  | .hbm, ⟨10, _⟩ => ⟨S_, .f32⟩
  | .hbm, ⟨11, _⟩ => ⟨S128x23x1024, .f32⟩
  | .hbm, ⟨12, _⟩ => ⟨S128x24x1024, .f32⟩
  | .hbm, ⟨13, _⟩ => ⟨S128x8x1024, .f32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S128x8x256, .f32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .f32⟩
  | .hbm, ⟨26, _⟩ => ⟨S1x8x1, .f32⟩
  | .hbm, ⟨27, _⟩ => ⟨S128x8x256, .f32⟩
  | .hbm, ⟨28, _⟩ => ⟨S128x8x256, .f32⟩
  | .hbm, ⟨29, _⟩ => ⟨S128x8x256, .f32⟩
  | .hbm, ⟨30, _⟩ => ⟨S128x8x256, .f32⟩
  | .hbm, ⟨31, _⟩ => ⟨S128x8x256, .f32⟩
  | .hbm, ⟨32, _⟩ => ⟨S128x8x256, .f32⟩
  | .hbm, ⟨33, _⟩ => ⟨S1x256x256, .f32⟩
  | .hbm, ⟨34, _⟩ => ⟨S256x256, .f32⟩
  | .hbm, ⟨35, _⟩ => ⟨S128x8x256, .f32⟩
  | .hbm, ⟨36, _⟩ => ⟨S128x8x256, .f32⟩
  | .hbm, ⟨37, _⟩ => ⟨S_, .i32⟩
  | .hbm, ⟨38, _⟩ => ⟨S8, .i32⟩
  | .hbm, ⟨39, _⟩ => ⟨S8, .i32⟩
  | .hbm, ⟨40, _⟩ => ⟨S_, .i32⟩
  | .hbm, ⟨41, _⟩ => ⟨S8, .i32⟩
  | .hbm, ⟨42, _⟩ => ⟨S8, .i32⟩
  | .hbm, ⟨43, _⟩ => ⟨S8, .f32⟩
  | .hbm, ⟨44, _⟩ => ⟨S1x8x1, .f32⟩
  | .hbm, ⟨45, _⟩ => ⟨S128x8x256, .f32⟩
  | .hbm, ⟨46, _⟩ => ⟨S128x8x256, .f32⟩
  | .hbm, ⟨47, _⟩ => ⟨S128x8x256, .f32⟩
  | .hbm, ⟨48, _⟩ => ⟨S128x8x256, .f32⟩
  | .hbm, ⟨49, _⟩ => ⟨S128x8x256, .f32⟩
  | .hbm, ⟨50, _⟩ => ⟨S128x8x256, .f32⟩
  | .hbm, ⟨51, _⟩ => ⟨S1x256x256, .f32⟩
  | .hbm, ⟨52, _⟩ => ⟨S256x256, .f32⟩
  | .hbm, ⟨53, _⟩ => ⟨S128x8x256, .f32⟩
  | .hbm, ⟨54, _⟩ => ⟨S128x8x256, .f32⟩
  | .hbm, ⟨55, _⟩ => ⟨S_, .i32⟩
  | .hbm, ⟨56, _⟩ => ⟨S8, .i32⟩
  | .hbm, ⟨57, _⟩ => ⟨S8, .i32⟩
  | .hbm, ⟨58, _⟩ => ⟨S_, .i32⟩
  | .hbm, ⟨59, _⟩ => ⟨S8, .i32⟩
  | .hbm, ⟨60, _⟩ => ⟨S8, .i32⟩
  | .hbm, ⟨61, _⟩ => ⟨S8, .f32⟩
  | .hbm, ⟨62, _⟩ => ⟨S1x8x1, .f32⟩
  | .hbm, ⟨63, _⟩ => ⟨S128x8x256, .f32⟩
  | .hbm, ⟨64, _⟩ => ⟨S128x8x256, .f32⟩
  | .hbm, ⟨65, _⟩ => ⟨S128x8x256, .f32⟩
  | .hbm, ⟨66, _⟩ => ⟨S128x8x256, .f32⟩
  | .hbm, ⟨67, _⟩ => ⟨S128x8x256, .f32⟩
  | .hbm, ⟨68, _⟩ => ⟨S128x8x256, .f32⟩
  | .hbm, ⟨69, _⟩ => ⟨S1x256x256, .f32⟩
  | .hbm, ⟨70, _⟩ => ⟨S256x256, .f32⟩
  | .hbm, ⟨71, _⟩ => ⟨S128x8x256, .f32⟩
  | .hbm, ⟨72, _⟩ => ⟨S128x8x256, .f32⟩
  | .hbm, ⟨73, _⟩ => ⟨S_, .i32⟩
  | .hbm, ⟨74, _⟩ => ⟨S8, .i32⟩
  | .hbm, ⟨75, _⟩ => ⟨S8, .i32⟩
  | .hbm, ⟨76, _⟩ => ⟨S_, .i32⟩
  | .hbm, ⟨77, _⟩ => ⟨S8, .i32⟩
  | .hbm, ⟨78, _⟩ => ⟨S8, .i32⟩
  | .hbm, ⟨79, _⟩ => ⟨S8, .f32⟩
  | .hbm, ⟨80, _⟩ => ⟨S1x8x1, .f32⟩
  | .hbm, ⟨81, _⟩ => ⟨S128x8x256, .f32⟩
  | .hbm, ⟨82, _⟩ => ⟨S128x8x256, .f32⟩
  | .hbm, ⟨83, _⟩ => ⟨S128x8x256, .f32⟩
  | .hbm, ⟨84, _⟩ => ⟨S128x8x256, .f32⟩
  | .hbm, ⟨85, _⟩ => ⟨S128x8x256, .f32⟩
  | .hbm, ⟨86, _⟩ => ⟨S128x8x256, .f32⟩
  | .hbm, ⟨87, _⟩ => ⟨S1x256x256, .f32⟩
  | .hbm, ⟨88, _⟩ => ⟨S256x256, .f32⟩
  | .hbm, ⟨89, _⟩ => ⟨S128x8x256, .f32⟩
  | .hbm, ⟨90, _⟩ => ⟨S128x8x1024, .f32⟩
  | .hbm, ⟨91, _⟩ => ⟨S1x1x1024, .f32⟩
  | .hbm, ⟨92, _⟩ => ⟨S128x8x1024, .f32⟩
  | .hbm, ⟨93, _⟩ => ⟨S128x8x1024, .f32⟩
  | .hbm, ⟨94, _⟩ => ⟨S128x15x1024, .f32⟩
  | .hbm, ⟨95, _⟩ => ⟨S_, .f32⟩
  | .hbm, ⟨96, _⟩ => ⟨S128x8x1024, .f32⟩
  | .hbm, ⟨97, _⟩ => ⟨S128x8x1024, .f32⟩
  | .hbm, ⟨98, _⟩ => ⟨S128x8x1024, .f32⟩
  | .hbm, ⟨99, _⟩ => ⟨S_, .f32⟩
  | .hbm, ⟨100, _⟩ => ⟨S128x8, .f32⟩
  | .hbm, ⟨101, _⟩ => ⟨S128x8x1, .f32⟩
  | .hbm, ⟨102, _⟩ => ⟨S_, .f32⟩
  | .hbm, ⟨103, _⟩ => ⟨S128x8x1, .f32⟩
  | .hbm, ⟨104, _⟩ => ⟨S128x8x1, .f32⟩
  | .hbm, ⟨105, _⟩ => ⟨S128x8x1024, .f32⟩
  | .hbm, ⟨106, _⟩ => ⟨S128x8x1024, .f32⟩
  | .hbm, ⟨107, _⟩ => ⟨S128x8x1024, .f32⟩
  | .hbm, ⟨108, _⟩ => ⟨S_, .f32⟩
  | .hbm, ⟨109, _⟩ => ⟨S128x8, .f32⟩
  | .hbm, ⟨110, _⟩ => ⟨S128x8x1, .f32⟩
  | .hbm, ⟨111, _⟩ => ⟨S_, .f32⟩
  | .hbm, ⟨112, _⟩ => ⟨S128x8x1, .f32⟩
  | .hbm, ⟨113, _⟩ => ⟨S128x8x1, .f32⟩
  | .hbm, ⟨114, _⟩ => ⟨S128x8x1024, .f32⟩
  | .hbm, ⟨115, _⟩ => ⟨S128x8x1024, .f32⟩
  | .hbm, ⟨116, _⟩ => ⟨S_, .f32⟩
  | .hbm, ⟨117, _⟩ => ⟨S128x8x1, .f32⟩
  | .hbm, ⟨118, _⟩ => ⟨S128x8x1, .f32⟩
  | .hbm, ⟨119, _⟩ => ⟨S128x8x1, .f32⟩
  | .hbm, ⟨120, _⟩ => ⟨S128x8x1024, .f32⟩
  | .hbm, ⟨121, _⟩ => ⟨S128x8x1024, .f32⟩
  | .hbm, ⟨122, _⟩ => ⟨S1x1x1024, .f32⟩
  | .hbm, ⟨123, _⟩ => ⟨S128x8x1024, .f32⟩
  | .hbm, ⟨124, _⟩ => ⟨S128x8x1024, .f32⟩
  | .hbm, ⟨125, _⟩ => ⟨S1x1x1024, .f32⟩
  | .hbm, ⟨126, _⟩ => ⟨S128x8x1024, .f32⟩
  | .hbm, ⟨127, _⟩ => ⟨S128x8x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_call0_call0_cst : Ref sig .tc := ⟨.hbm, 9, rfl⟩
abbrev main_call0_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_4 : Ref sig .tc := ⟨.hbm, 55, rfl⟩
abbrev main_v41 : Ref sig .tc := ⟨.hbm, 56, rfl⟩
abbrev main_v42 : Ref sig .tc := ⟨.hbm, 57, rfl⟩
abbrev main_c_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_6 : Ref sig .tc := ⟨.hbm, 73, rfl⟩
abbrev main_v57 : Ref sig .tc := ⟨.hbm, 74, rfl⟩
abbrev main_v58 : Ref sig .tc := ⟨.hbm, 75, rfl⟩
abbrev main_c_7 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_8 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_9 : Ref sig .tc := ⟨.hbm, 99, rfl⟩
abbrev main_v80 : Ref sig .tc := ⟨.hbm, 100, rfl⟩
abbrev main_v81 : Ref sig .tc := ⟨.hbm, 101, rfl⟩
abbrev main_cst_10 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_11 : Ref sig .tc := ⟨.hbm, 108, rfl⟩
abbrev main_v87 : Ref sig .tc := ⟨.hbm, 109, rfl⟩
abbrev main_v88 : Ref sig .tc := ⟨.hbm, 110, rfl⟩
abbrev main_cst_12 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_13 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩

abbrev nD : Nat := 1
abbrev τ : Topo := Topo.v7x

variable {F : FTy → Type} [FloatOps F]
-- ==== Proof.FfnRow.lean ====
/- The feed-forward step of one row over the extended reals: a gated hidden layer of 2816 units, the projection back, a
   scaled residual and a layer normalisation. The kernel and the reference are both read as `ffnRow`. -/
module

public import Idealize.ShloMosaic.Lib.Pipeline.ValueKit
public import Idealize.ShloMosaic.Lib.Pointwise

@[expose] public section

set_option maxRecDepth 16384

noncomputable section

namespace Cert.Ffn

open Idealize.ShloMosaic

/-- Hidden unit `j` of a row: the gate times its logistic times the linear part. -/
def hid (x : Fin 1024 → EReal) (wg wu : Fin 1024 → Fin 2816 → EReal) (j : Fin 2816) : EReal :=
  (∑ k, x k * wg k j) * Ideal.logistic (∑ k, x k * wg k j) * ∑ k, x k * wu k j

/-- The part of the projection at `d` that `n` hidden units from `o` on contribute. -/
def chunk (x : Fin 1024 → EReal) (wg wu : Fin 1024 → Fin 2816 → EReal) (wd : Fin 2816 → Fin 1024 → EReal)
    (o n : ℕ) (h : o + n ≤ 2816) (d : Fin 1024) : EReal :=
  ∑ j : Fin n, hid x wg wu ⟨o + j.val, by omega⟩ * wd ⟨o + j.val, by omega⟩ d

/-- The projection at `d`. -/
def proj (x : Fin 1024 → EReal) (wg wu : Fin 1024 → Fin 2816 → EReal) (wd : Fin 2816 → Fin 1024 → EReal)
    (d : Fin 1024) : EReal := ∑ j, hid x wg wu j * wd j d

/-- The row before normalisation: the scaled residual plus the projection. -/
def mixed (x : Fin 1024 → EReal) (wg wu : Fin 1024 → Fin 2816 → EReal) (wd : Fin 2816 → Fin 1024 → EReal)
    (d : Fin 1024) : EReal := Ideal.ofBits .f32 0x3FD744FD#32 * x d + proj x wg wu wd d

/-- The mean of a row. -/
def mean (v : Fin 1024 → EReal) : EReal := Ideal.div (∑ k, v k) (Ideal.ofBits .f32 0x44800000#32)

/-- The layer normalisation of a row with gain `g` and offset `b`. -/
def lnorm (v g b : Fin 1024 → EReal) (d : Fin 1024) : EReal :=
  (v d - mean v) * Ideal.rsqrt (mean (fun k => (v k - mean v) * (v k - mean v)) + Ideal.ofBits .f32 0x3727C5AC#32) * g d + b d

/-- The normalisation of equal rows with equal gains and offsets. -/
theorem lnorm_congr {v v' g g' b b' : Fin 1024 → EReal} (hv : ∀ k, v k = v' k) (hg : ∀ k, g k = g' k) (hb : ∀ k, b k = b' k)
    (d : Fin 1024) : lnorm v g b d = lnorm v' g' b' d := by
  rw [funext hv, funext hg, funext hb]

/-- The whole step of one row. -/
def ffnRow (x : Fin 1024 → EReal) (wg wu : Fin 1024 → Fin 2816 → EReal) (wd : Fin 2816 → Fin 1024 → EReal)
    (g b : Fin 1024 → EReal) (d : Fin 1024) : EReal := lnorm (mixed x wg wu wd) g b d

/-- The steps of equal rows with equal weights. -/
theorem ffnRow_congr {x x' : Fin 1024 → EReal} {wg wg' wu wu' : Fin 1024 → Fin 2816 → EReal} {wd wd' : Fin 2816 → Fin 1024 → EReal}
    {g g' b b' : Fin 1024 → EReal} (hx : ∀ k, x k = x' k) (hg : ∀ k j, wg k j = wg' k j) (hu : ∀ k j, wu k j = wu' k j)
    (hd : ∀ j d, wd j d = wd' j d) (h₁ : ∀ k, g k = g' k) (h₂ : ∀ k, b k = b' k) {d d' : Fin 1024}
    (h₃ : d = d') : ffnRow x wg wu wd g b d = ffnRow x' wg' wu' wd' g' b' d' := by
  rw [h₃, funext hx, funext₂ hg, funext₂ hu, funext₂ hd, funext h₁, funext h₂]

/-- A sum over `a + b` numbers is the sum over the first `a` and the sum over the last `b`. -/
theorem sum_cut {a b n : ℕ} (h : a + b = n) (f : Fin n → EReal) :
    ∑ j, f j = ∑ j : Fin a, f ⟨j.val, by omega⟩ + ∑ j : Fin b, f ⟨a + j.val, by omega⟩ := by
  subst h
  rw [Fin.sum_univ_add]
  rfl

/-- The projection cut into the six chunks in which it is accumulated. -/
theorem proj_chunks (x : Fin 1024 → EReal) (wg wu : Fin 1024 → Fin 2816 → EReal) (wd : Fin 2816 → Fin 1024 → EReal)
    (d : Fin 1024) :
    proj x wg wu wd d = chunk x wg wu wd 0 512 (by omega) d + chunk x wg wu wd 512 512 (by omega) d
      + chunk x wg wu wd 1024 512 (by omega) d + chunk x wg wu wd 1536 512 (by omega) d
      + chunk x wg wu wd 2048 512 (by omega) d + chunk x wg wu wd 2560 256 (by omega) d := by
  unfold proj chunk
  rw [sum_cut (a := 2560) (b := 256) rfl, sum_cut (a := 2048) (b := 512) rfl, sum_cut (a := 1536) (b := 512) rfl,
    sum_cut (a := 1024) (b := 512) rfl, sum_cut (a := 512) (b := 512) rfl]
  simp only [Nat.zero_add]

end Cert.Ffn

end
-- ==== Proof.FfnBlock.lean ====
/- What one grid point of the feed-forward kernel stores, at an index: the step of that row. -/
module

public import proofs.«01_k».proof.Proof.Gen.KernelIdeal.Value
public import proofs.«01_k».proof.Proof.FfnRow

@[expose] public section

set_option maxRecDepth 16384

noncomputable section

namespace Cert.KernelIdeal.Step

open Cert.KernelIdeal Cert.KernelIdeal.Gen Idealize.ShloMosaic Cert.Ffn

/-- The stored block from the mixed rows, their sums, the gain and the offset. -/
theorem pay1_at (v90 : FVec Ideal S512x1024 .f32) (v92 v94 : FVec Ideal S1x1024 .f32) (v96 : FVec Ideal S512x1 .f32)
    (r : Fin 512) (d : Fin 1024) (h : v96 (ix2 r 0) = ∑ k, v90 (ix2 r k)) :
    k0_pay1 v90 v92 v94 v96 (Scalar.ofBits .f32 0x44800000#32) (ix2 r d)
      = lnorm (fun k => v90 (ix2 r k)) (fun k => v92 (ix2 0 k)) (fun k => v94 (ix2 0 k)) d := by
  pointwise [k0_pay1]
  rw [h]
  rfl

/-- The mixed block from the accumulator after four chunks. -/
theorem pay7_at (v1 : FVec Ideal S512x1024 .f32) (v2 : FVec Ideal S512x1024 .bf16) (v59 : FVec Ideal S512x1024 .f32)
    (v62 : FVec Ideal S512x512 .f32) (v63 : FVec Ideal S1x1024x512 .bf16) (v70 : FVec Ideal S1x512x1024 .bf16)
    (v74 v77 : FVec Ideal S1x1024x256 .bf16) (v84 : FVec Ideal S1x256x1024 .bf16) (r : Fin 512) (d : Fin 1024) :
    k0_pay7 v1 v2 v59 v62 v63 v70 v74 v77 v84 (ix2 r d)
      = Ideal.ofBits .f32 0x3FD744FD#32 * v1 (ix2 r d) + (v59 (ix2 r d)
        + ∑ j : Fin 512, v62 (ix2 r j) * Ideal.logistic (v62 (ix2 r j)) * (∑ k, v2 (ix2 r k) * v63 (ix3 0 k j)) * v70 (ix3 0 j d)
        + ∑ j : Fin 256, (∑ k, v2 (ix2 r k) * v74 (ix3 0 k j)) * Ideal.logistic (∑ k, v2 (ix2 r k) * v74 (ix3 0 k j))
            * (∑ k, v2 (ix2 r k) * v77 (ix3 0 k j)) * v84 (ix3 0 j d)) := by
  pointwise [k0_pay7]

/-- The stored block is the step of each row of the loaded blocks. -/
theorem out_at (x0 : FVec Ideal S512x1024 .f32) (x1 x2 : FVec Ideal S1x1024x2816 .bf16) (x3 : FVec Ideal S1x2816x1024 .bf16)
    (x4 x5 : FVec Ideal S1x1024 .f32) (r : Fin 512) (d : Fin 1024) :
    out0_6 (F := Ideal) x0 x1 x2 x3 x4 x5 (ix2 r d)
      = ffnRow (fun k => x0 (ix2 r k)) (fun k j => x1 (ix3 0 k j)) (fun k j => x2 (ix3 0 k j)) (fun j d => x3 (ix3 0 j d))
          (fun k => x4 (ix2 0 k)) (fun k => x5 (ix2 0 k)) d := by
  frame_out
  rw [pay1_at]
  · refine lnorm_congr (fun e => ?_) (fun e => ?_) (fun e => ?_) d
    · unfold mixed
      rw [pay7_at, proj_chunks]
      pointwise [k0_pay2, k0_pay3, k0_pay4, k0_pay5, k0_pay6, k0_pay11, k0_pay12, k0_pay13, k0_pay14, chunk, hid]
    · pointwise [k0_pay8]
    · pointwise [k0_pay9]
  · pointwise [k0_pay10]

end Cert.KernelIdeal.Step

end
-- ==== Proof.FfnArray.lean ====
/- The array that the feed-forward kernel leaves for the prompt's 16384 rows: the step of every row of the activations. -/
module

public import proofs.«01_k».proof.Proof.FfnBlock

@[expose] public section

set_option maxRecDepth 16384

noncomputable section

namespace Cert.KernelIdeal.Step

open Cert.KernelIdeal Cert.KernelIdeal.Gen Idealize.ShloMosaic Idealize.ShloMosaic.TcCoe Idealize.SL.Sem Cert.Ffn
open Idealize.ShloMosaic.Pipeline (Dat)

variable (m : (ℓ : Loc nD τ sig) → Buf (Elt Ideal) ℓ)

/-- The step of every row, from the activations, the three weights, the gain and the offset. -/
def stepAll (x : FVec Ideal S8x2048x1024 .f32) (wg wu : FVec Ideal S1024x2816 .f32) (wd : FVec Ideal S2816x1024 .f32)
    (g b : FVec Ideal S1024 .f32) : FVec Ideal S16384x1024 .f32 := fun i =>
  ffnRow (fun k => x (ix3 ⟨(i 0).val / 2048, by have := (i 0).isLt; change _ < 16384 at this; omega⟩ ⟨(i 0).val % 2048, by omega⟩ k))
    (fun k j => wg (ix2 k j)) (fun k j => wu (ix2 k j)) (fun j d => wd (ix2 j d)) (fun k => g (ix1 k)) (fun k => b (ix1 k)) (i 1)

/-- Where the blocks of a grid point lie. -/
theorem idx : ∀ t : Fin cfg0.N, win0_0.index t = ![t.val, 0] ∧ win0_1.index t = ![0, 0, 0] ∧ win0_2.index t = ![0, 0, 0]
    ∧ win0_3.index t = ![0, 0, 0] ∧ win0_4.index t = ![0, 0] ∧ win0_5.index t = ![0, 0] ∧ win0_6.index t = ![t.val, 0] :=
  (by decide +kernel : ∀ t : Fin grid0.N, _)

/-- The block of activations of a grid point. -/
theorem blk0 (c : Dev nD) (t : Fin cfg0.N) (r : Fin 512) (k : Fin 1024) (a : Fin 8) (q : Fin 2048)
    (h : t.val * 512 + r.val = a.val * 2048 + q.val) :
    iblk m c 0 t (ix2 r k) = m ((c : Thread nD τ).loc main_arg0) (ix3 a q k) := by
  blk_simp [iblk, idx t]
  entry_read
  pointwise
  blk_ext [idx t]

/-- The gate weights at every grid point. -/
theorem blk1 (c : Dev nD) (t : Fin cfg0.N) (k : Fin 1024) (j : Fin 2816) :
    iblk m c 1 t (ix3 0 k j) = m ((c : Thread nD τ).loc main_arg1) (ix2 k j) := by
  blk_simp [iblk, idx t]
  entry_read
  pointwise
  blk_ext [idx t]

/-- The linear weights at every grid point. -/
theorem blk2 (c : Dev nD) (t : Fin cfg0.N) (k : Fin 1024) (j : Fin 2816) :
    iblk m c 2 t (ix3 0 k j) = m ((c : Thread nD τ).loc main_arg2) (ix2 k j) := by
  blk_simp [iblk, idx t]
  entry_read
  pointwise
  blk_ext [idx t]

/-- The projection back at every grid point. -/
theorem blk3 (c : Dev nD) (t : Fin cfg0.N) (j : Fin 2816) (d : Fin 1024) :
    iblk m c 3 t (ix3 0 j d) = m ((c : Thread nD τ).loc main_arg3) (ix2 j d) := by
  blk_simp [iblk, idx t]
  entry_read
  pointwise
  blk_ext [idx t]

/-- The gain at every grid point. -/
theorem blk4 (c : Dev nD) (t : Fin cfg0.N) (k : Fin 1024) :
    iblk m c 4 t (ix2 0 k) = m ((c : Thread nD τ).loc main_arg4) (ix1 k) := by
  blk_simp [iblk, idx t]
  entry_read
  pointwise
  blk_ext [idx t]

/-- The offset at every grid point. -/
theorem blk5 (c : Dev nD) (t : Fin cfg0.N) (k : Fin 1024) :
    iblk m c 5 t (ix2 0 k) = m ((c : Thread nD τ).loc main_arg5) (ix1 k) := by
  blk_simp [iblk, idx t]
  entry_read
  pointwise
  blk_ext [idx t]

/-- The output array after the run. -/
theorem final (c : Dev nD) : (dats m 0 c).arrAt 6 (cfgs 0).N
    = stepAll (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  idx_vars y
  refine (out_at _ _ _ _ _ _ y0 y1).trans ?_
  unfold stepAll
  refine ffnRow_congr (fun k => ?_) (fun k j => blk1 m c t k j) (fun k j => blk2 m c t k j) (fun j d => blk3 m c t j d)
    (fun k => blk4 m c t k) (fun k => blk5 m c t k) ?_
  · refine blk0 m c t y0 k _ _ ?_
    blk_simp [idx t]
    show t.val * 512 + y0.val = (t.val * 512 + y0.val) / 2048 * 2048 + (t.val * 512 + y0.val) % 2048
    omega
  · refine Fin.ext ?_
    blk_simp [idx t]

end Cert.KernelIdeal.Step

end
-- ==== Proof.FfnReference.lean ====
/- The reference of the feed-forward step for the prompt's rows, read at an index: the step of that row. -/
module

public import proofs.«01_k».proof.Proof.Gen.ReferenceIdeal.Run
public import proofs.«01_k».proof.Proof.Gen.ReferenceIdeal.Read
public import proofs.«01_k».proof.Proof.FfnArray

@[expose] public section

set_option maxRecDepth 16384

noncomputable section

namespace Cert.ReferenceIdeal.Step

open Cert.ReferenceIdeal Cert.ReferenceIdeal.Read Idealize.ShloMosaic Cert.Ffn

variable (x : FVec Ideal S8x2048x1024 .f32) (wg wu : FVec Ideal S1024x2816 .f32) (wd : FVec Ideal S2816x1024 .f32)
  (g b : FVec Ideal S1024 .f32)

/-- The mixed rows of the reference. -/
theorem mixed_at (a : Fin 8) (q : Fin 2048) (d : Fin 1024) :
    val_main_v7 (F := Ideal) x wg wu wd (ix3 a q d)
      = mixed (fun k => x (ix3 a q k)) (fun k j => wg (ix2 k j)) (fun k j => wu (ix2 k j)) (fun j d => wd (ix2 j d)) d := by
  unfold mixed proj hid
  pointwise [val_main_v7, val_main_v1, val_main_v0, val_main_cst, val_main_v6, val_main_v5, val_main_v3, val_main_v2, val_main_v4,
    val_main_call0_v5, val_main_call0_v4, val_main_call0_v3, val_main_call0_v2, val_main_call0_v1, val_main_call0_v0, val_main_call0_cst, val_main_call0_cst_0]
  rfl

/-- The reference's normalisation of its mixed rows. -/
theorem lnorm_at (a : Fin 8) (q : Fin 2048) (d : Fin 1024) :
    val_main_v31 (F := Ideal) x wg wu wd g b (ix3 a q d)
      = lnorm (fun k => val_main_v7 (F := Ideal) x wg wu wd (ix3 a q k)) (fun k => g (ix1 k)) (fun k => b (ix1 k)) d := by
  unfold lnorm mean
  pointwise [val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14, val_main_v13,
    val_main_v12, val_main_v11, val_main_v10, val_main_v9, val_main_v8, val_main_cst_0, val_main_cst_1, val_main_cst_2, val_main_cst_3, val_main_cst_4]

/-- The reference's result is the step of every row. -/
theorem result_eq : val_main_v32 (F := Ideal) x wg wu wd g b = Cert.KernelIdeal.Step.stepAll x wg wu wd g b := by
  funext i
  idx_vars i
  rw [val_main_v32_apply]
  unfold Cert.KernelIdeal.Step.stepAll ffnRow
  have e : idx_main_v32 (ix2 i0 i1) = ix3 ⟨i0.val / 2048, by omega⟩ ⟨i0.val % 2048, by omega⟩ i1 := by
    refine funext fun a => Fin.ext ?_
    match a with
    | ⟨0, _⟩ =>
      show (i0.val * 1024 + i1.val) / 2097152 = i0.val / 2048
      omega
    | ⟨1, _⟩ =>
      show (i0.val * 1024 + i1.val) / 1024 % 2048 = i0.val % 2048
      omega
    | ⟨2, _⟩ =>
      show (i0.val * 1024 + i1.val) % 1024 = i1.val
      omega
  rw [e, lnorm_at]
  refine lnorm_congr (fun k => ?_) (fun _ => rfl) (fun _ => rfl) _
  exact mixed_at x wg wu wd _ _ k

end Cert.ReferenceIdeal.Step

end
-- ==== Proof.FfnSample.lean ====
/- The array that the feed-forward kernel leaves for the samples' 1024 rows: the step of every row of the activations. -/
module

public import proofs.«01_k».proof.Proof.FfnBlock
public import proofs.«01_k».proof.Proof.Gen.Kernel3Ideal.Value

@[expose] public section

set_option maxRecDepth 1024

noncomputable section

namespace Cert.Kernel3Ideal.Step

open Cert.Kernel3Ideal Cert.Kernel3Ideal.Gen Idealize.ShloMosaic Idealize.ShloMosaic.TcCoe Idealize.SL.Sem Cert.Ffn
open Idealize.ShloMosaic.Pipeline (Dat)

variable (m : (ℓ : Loc nD τ sig) → Buf (Elt Ideal) ℓ)

/-- The step of every row, from the activations, the three weights, the gain and the offset. -/
def stepAll (x : FVec Ideal S128x8x1024 .f32) (wg wu : FVec Ideal S1024x2816 .f32) (wd : FVec Ideal S2816x1024 .f32)
    (g b : FVec Ideal S1024 .f32) : FVec Ideal S1024x1024 .f32 := fun i =>
  ffnRow (fun k => x (ix3 ⟨(i 0).val / 8, by have := (i 0).isLt; change _ < 1024 at this; omega⟩ ⟨(i 0).val % 8, by omega⟩ k))
    (fun k j => wg (ix2 k j)) (fun k j => wu (ix2 k j)) (fun j d => wd (ix2 j d)) (fun k => g (ix1 k)) (fun k => b (ix1 k)) (i 1)

/-- Where the blocks of a grid point lie. -/
theorem idx : ∀ t : Fin cfg0.N, win0_0.index t = ![t.val, 0] ∧ win0_1.index t = ![0, 0, 0] ∧ win0_2.index t = ![0, 0, 0]
    ∧ win0_3.index t = ![0, 0, 0] ∧ win0_4.index t = ![0, 0] ∧ win0_5.index t = ![0, 0] ∧ win0_6.index t = ![t.val, 0] :=
  (by decide +kernel : ∀ t : Fin grid0.N, _)

/-- The block of activations of a grid point. -/
theorem blk0 (c : Dev nD) (t : Fin cfg0.N) (r : Fin 512) (k : Fin 1024) (a : Fin 128) (q : Fin 8)
    (h : t.val * 512 + r.val = a.val * 8 + q.val) :
    iblk m c 0 t (ix2 r k) = m ((c : Thread nD τ).loc main_arg0) (ix3 a q k) := by
  blk_simp [iblk, idx t]
  entry_read
  pointwise
  blk_ext [idx t]

/-- The gate weights at every grid point. -/
theorem blk1 (c : Dev nD) (t : Fin cfg0.N) (k : Fin 1024) (j : Fin 2816) :
    iblk m c 1 t (ix3 0 k j) = m ((c : Thread nD τ).loc main_arg1) (ix2 k j) := by
  blk_simp [iblk, idx t]
  entry_read
  pointwise
  blk_ext [idx t]

/-- The linear weights at every grid point. -/
theorem blk2 (c : Dev nD) (t : Fin cfg0.N) (k : Fin 1024) (j : Fin 2816) :
    iblk m c 2 t (ix3 0 k j) = m ((c : Thread nD τ).loc main_arg2) (ix2 k j) := by
  blk_simp [iblk, idx t]
  entry_read
  pointwise
  blk_ext [idx t]

/-- The projection back at every grid point. -/
theorem blk3 (c : Dev nD) (t : Fin cfg0.N) (j : Fin 2816) (d : Fin 1024) :
    iblk m c 3 t (ix3 0 j d) = m ((c : Thread nD τ).loc main_arg3) (ix2 j d) := by
  blk_simp [iblk, idx t]
  entry_read
  pointwise
  blk_ext [idx t]

/-- The gain at every grid point. -/
theorem blk4 (c : Dev nD) (t : Fin cfg0.N) (k : Fin 1024) :
    iblk m c 4 t (ix2 0 k) = m ((c : Thread nD τ).loc main_arg4) (ix1 k) := by
  blk_simp [iblk, idx t]
  entry_read
  pointwise
  blk_ext [idx t]

/-- The offset at every grid point. -/
theorem blk5 (c : Dev nD) (t : Fin cfg0.N) (k : Fin 1024) :
    iblk m c 5 t (ix2 0 k) = m ((c : Thread nD τ).loc main_arg5) (ix1 k) := by
  blk_simp [iblk, idx t]
  entry_read
  pointwise
  blk_ext [idx t]

/-- The output array after the run. -/
theorem final (c : Dev nD) : (dats m 0 c).arrAt 6 (cfgs 0).N
    = stepAll (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  idx_vars y
  refine (Cert.KernelIdeal.Step.out_at _ _ _ _ _ _ y0 y1).trans ?_
  unfold stepAll
  refine ffnRow_congr (fun k => ?_) (fun k j => blk1 m c t k j) (fun k j => blk2 m c t k j) (fun j d => blk3 m c t j d)
    (fun k => blk4 m c t k) (fun k => blk5 m c t k) ?_
  · refine blk0 m c t y0 k _ _ ?_
    blk_simp [idx t]
    show t.val * 512 + y0.val = (t.val * 512 + y0.val) / 8 * 8 + (t.val * 512 + y0.val) % 8
    omega
  · refine Fin.ext ?_
    blk_simp [idx t]

end Cert.Kernel3Ideal.Step

end
-- ==== Proof.FfnSampleReference.lean ====
/- The reference of the feed-forward step for the samples' rows, read at an index: the step of that row. -/
module

public import proofs.«01_k».proof.Proof.Gen.Reference3Ideal.Run
public import proofs.«01_k».proof.Proof.Gen.Reference3Ideal.Read
public import proofs.«01_k».proof.Proof.FfnSample

@[expose] public section

set_option maxRecDepth 16384

noncomputable section

namespace Cert.Reference3Ideal.Step

open Cert.Reference3Ideal Cert.Reference3Ideal.Read Idealize.ShloMosaic Cert.Ffn

variable (x : FVec Ideal S128x8x1024 .f32) (wg wu : FVec Ideal S1024x2816 .f32) (wd : FVec Ideal S2816x1024 .f32)
  (g b : FVec Ideal S1024 .f32)

/-- The mixed rows of the reference. -/
theorem mixed_at (a : Fin 128) (q : Fin 8) (d : Fin 1024) :
    val_main_v7 (F := Ideal) x wg wu wd (ix3 a q d)
      = mixed (fun k => x (ix3 a q k)) (fun k j => wg (ix2 k j)) (fun k j => wu (ix2 k j)) (fun j d => wd (ix2 j d)) d := by
  unfold mixed proj hid
  pointwise [val_main_v7, val_main_v1, val_main_v0, val_main_cst, val_main_v6, val_main_v5, val_main_v3, val_main_v2, val_main_v4,
    val_main_call0_v5, val_main_call0_v4, val_main_call0_v3, val_main_call0_v2, val_main_call0_v1, val_main_call0_v0, val_main_call0_cst, val_main_call0_cst_0]
  rfl

/-- The reference's normalisation of its mixed rows. -/
theorem lnorm_at (a : Fin 128) (q : Fin 8) (d : Fin 1024) :
    val_main_v31 (F := Ideal) x wg wu wd g b (ix3 a q d)
      = lnorm (fun k => val_main_v7 (F := Ideal) x wg wu wd (ix3 a q k)) (fun k => g (ix1 k)) (fun k => b (ix1 k)) d := by
  unfold lnorm mean
  pointwise [val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14, val_main_v13,
    val_main_v12, val_main_v11, val_main_v10, val_main_v9, val_main_v8, val_main_cst_0, val_main_cst_1, val_main_cst_2, val_main_cst_3, val_main_cst_4]

/-- The reference's result is the step of every row. -/
theorem result_eq : val_main_v32 (F := Ideal) x wg wu wd g b = Cert.Kernel3Ideal.Step.stepAll x wg wu wd g b := by
  funext i
  idx_vars i
  rw [val_main_v32_apply]
  unfold Cert.Kernel3Ideal.Step.stepAll ffnRow
  have e : idx_main_v32 (ix2 i0 i1) = ix3 ⟨i0.val / 8, by omega⟩ ⟨i0.val % 8, by omega⟩ i1 := by
    refine funext fun a => Fin.ext ?_
    match a with
    | ⟨0, _⟩ =>
      show (i0.val * 1024 + i1.val) / 8192 = i0.val / 8
      omega
    | ⟨1, _⟩ =>
      show (i0.val * 1024 + i1.val) / 1024 % 8 = i0.val % 8
      omega
    | ⟨2, _⟩ =>
      show (i0.val * 1024 + i1.val) % 1024 = i1.val
      omega
  rw [e, lnorm_at]
  refine lnorm_congr (fun k => ?_) (fun _ => rfl) (fun _ => rfl) _
  exact mixed_at x wg wu wd _ _ k

end Cert.Reference3Ideal.Step

end
-- ==== Proof.FfnClaims.lean ====
/- The claims about the feed-forward call: its frames and its value. -/
module

public import proofs.«01_k».proof.Defs
public import proofs.«01_k».proof.Proof.Gen.Kernel.Frame
public import proofs.«01_k».proof.Proof.Gen.Kernel3.Frame
public import proofs.«01_k».proof.Proof.FfnReference
public import proofs.«01_k».proof.Proof.FfnSampleReference
public import Idealize.ShloMosaic.Lib.Quiescent

@[expose] public section

set_option maxRecDepth 16384

noncomputable section

namespace Cert.Proof.Ffn

open Idealize.ShloMosaic Idealize.ShloMosaic.TcCoe Idealize.SL.Sem

/-! ## The call on the prompt's rows -/

theorem frame_k : Cert.quiescent_Kernel := fun m ρ _ => Cert.Kernel.Gen.frame m ρ
theorem frame_ki : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The idealisation rewrote nothing. -/
theorem preserves : Cert.preserves_Kernel_KernelIdeal := trivial

/-- Kernel and reference both leave the step of every row. -/
theorem algebraic : Cert.algebraic_KernelIdeal_ReferenceIdeal := by
  intro m ρ m' ρ' _ hagree
  refine ⟨fun c => (Cert.KernelIdeal.Gen.dats m 0 c).arrAt 6 Cert.KernelIdeal.cfg0.N, Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  refine Eq.trans ?_ (Cert.KernelIdeal.Step.final m c).symm
  rw [Cert.ReferenceIdeal.Read.val_main_v32_eq, h0, h1, h2, h3, h4, h5]
  exact Cert.ReferenceIdeal.Step.result_eq _ _ _ _ _ _

/-! ## The call on the samples' rows -/

theorem frame_k_sample : Cert.quiescent_Kernel3 := fun m ρ _ => Cert.Kernel3.Gen.frame m ρ
theorem frame_ki_sample : Cert.quiescent_Kernel3Ideal := fun m ρ _ => Cert.Kernel3Ideal.Gen.frame m ρ
theorem frame_ri_sample : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The idealisation rewrote nothing. -/
theorem preserves_sample : Cert.preserves_Kernel3_Kernel3Ideal := trivial

/-- Kernel and reference both leave the step of every row. -/
theorem algebraic_sample : Cert.algebraic_Kernel3Ideal_Reference3Ideal := by
  intro m ρ m' ρ' _ hagree
  refine ⟨fun c => (Cert.Kernel3Ideal.Gen.dats m 0 c).arrAt 6 Cert.Kernel3Ideal.cfg0.N, Cert.Kernel3Ideal.Value.run_blocks m ρ, ?_⟩
  refine (θ_run Cert.Reference3Ideal.defs _ _).mono (fun _ h c => ⟨(h c).1.trans ?_, (h c).2⟩)
    (Cert.Reference3Ideal.Value.run (F := Ideal) m' ρ')
  obtain ⟨h0, h1, h2, h3, h4, h5⟩ := hagree c
  refine Eq.trans ?_ (Cert.Kernel3Ideal.Step.final m c).symm
  rw [Cert.Reference3Ideal.Read.val_main_v32_eq, h0, h1, h2, h3, h4, h5]
  exact Cert.Reference3Ideal.Step.result_eq _ _ _ _ _ _

end Cert.Proof.Ffn

end
-- ==== Proof.SsmStep.lean ====
/- The state-space layer of one sequence over the extended reals, chunk by chunk: what the kernel and the reference are
   both read as. A sequence is cut into chunks of 128 rows; a column of the inner width 2048 belongs to head `col / 64` and
   to group `col / 512`. -/
module

public import Idealize.ShloMosaic.Lib.Pipeline.ValueKit
public import Idealize.ShloMosaic.Lib.Pointwise
public import proofs.«01_k».proof.Proof.FfnRow

@[expose] public section

set_option maxRecDepth 16384

noncomputable section

namespace Cert.Ssm

open Idealize.ShloMosaic Cert.Ffn

/-- The head of a column. -/
def hd (c : Fin 2048) : Fin 32 := ⟨c.val / 64, by omega⟩

/-- The group of a column. -/
def gr (c : Fin 2048) : Fin 4 := ⟨c.val / 512, by omega⟩

/-- The group of a head. -/
def hgr (h : Fin 32) : Fin 4 := ⟨h.val / 8, by omega⟩

/-- The channel of a column. -/
def xcol (c : Fin 2048) : Fin 3072 := ⟨c.val, by omega⟩

/-- The channel of the group's input vector at state coordinate `n`. -/
def bcol (g : Fin 4) (n : Fin 128) : Fin 3072 := ⟨2048 + g.val * 128 + n.val, by omega⟩

/-- The channel of the group's output vector at state coordinate `n`. -/
def ccol (g : Fin 4) (n : Fin 128) : Fin 3072 := ⟨2560 + g.val * 128 + n.val, by omega⟩

/-- The product of the output vector of row `t` with the input vector of row `s`. -/
def sim (u : Fin 128 → Fin 3072 → EReal) (g : Fin 4) (t s : Fin 128) : EReal := ∑ n, u t (ccol g n) * u s (bcol g n)

/-- The weight with which row `s` of a chunk enters row `t`. -/
def wgt (u : Fin 128 → Fin 3072 → EReal) (dt ac : Fin 128 → Fin 32 → EReal) (h : Fin 32) (g : Fin 4) (t s : Fin 128) : EReal :=
  sim u g t s * Ideal.exp (if s.val ≤ t.val then ac t h - ac s h else ⊥) * dt s h

/-- The part of a row of the chunk that its own rows give. -/
def inner (u : Fin 128 → Fin 3072 → EReal) (dt ac : Fin 128 → Fin 32 → EReal) (t : Fin 128) (c : Fin 2048) : EReal :=
  ∑ s, wgt u dt ac (hd c) (gr c) t s * u s (xcol c)

/-- The part that the state before the chunk gives, before its decay. -/
def carried (u : Fin 128 → Fin 3072 → EReal) (H : Fin 2048 → Fin 128 → EReal) (t : Fin 128) (c : Fin 2048) : EReal :=
  ∑ n, u t (ccol (gr c) n) * H c n

/-- A row of the chunk: its own rows' part, the decayed state's part and the skip. -/
def mixed (u : Fin 128 → Fin 3072 → EReal) (dt ac : Fin 128 → Fin 32 → EReal) (H : Fin 2048 → Fin 128 → EReal)
    (dsk : Fin 32 → EReal) (t : Fin 128) (c : Fin 2048) : EReal :=
  inner u dt ac t c + Ideal.exp (ac t (hd c)) * carried u H t c + dsk (hd c) * u t (xcol c)

/-- The state after the chunk. -/
def next (u : Fin 128 → Fin 3072 → EReal) (dt ac : Fin 128 → Fin 32 → EReal) (H : Fin 2048 → Fin 128 → EReal)
    (c : Fin 2048) (n : Fin 128) : EReal :=
  H c n * Ideal.exp (ac 127 (hd c))
    + ∑ s, u s (bcol (gr c) n) * (u s (xcol c) * (Ideal.exp (ac 127 (hd c) - ac s (hd c)) * dt s (hd c)))

/-- The step size: the softplus of the projection plus the bias. -/
def softplus (v : EReal) : EReal := max v 0 + Ideal.log1p (Ideal.exp (0 - max v (-v)))

/-- The gated row. -/
def gate (y z : Fin 2048 → EReal) (c : Fin 2048) : EReal := y c * (z c * Ideal.logistic (z c))

/-- The mean square of the gated row over the 512 columns of a group. -/
def meanSq (y z : Fin 2048 → EReal) (g : Fin 4) : EReal :=
  Ideal.div (∑ k : Fin 512, gate y z ⟨g.val * 512 + k.val, by omega⟩ * gate y z ⟨g.val * 512 + k.val, by omega⟩)
    (Ideal.ofBits .f32 0x44000000#32)

/-- The gated row, each group over its root mean square, with gain `nw`. -/
def gnorm (y z nw : Fin 2048 → EReal) (c : Fin 2048) : EReal :=
  gate y z c * Ideal.rsqrt (meanSq y z (gr c) + Ideal.ofBits .f32 0x3727C5AC#32) * nw c

/-- The row after the layer: the scaled residual plus the projected row, normalised. -/
def outRow (x : Fin 1024 → EReal) (y z nw : Fin 2048 → EReal) (wo : Fin 2048 → Fin 1024 → EReal) (g b : Fin 1024 → EReal)
    (d : Fin 1024) : EReal :=
  lnorm (fun k => Ideal.ofBits .f32 0x3FD744FD#32 * x k + ∑ c, gnorm y z nw c * wo c k) g b d

/-! ## A whole sequence -/

section Sequence

variable (x : Fin 2048 → Fin 1024 → EReal) (w : Fin 1024 → Fin 5152 → EReal) (cw : Fin 4 → Fin 3072 → EReal)
  (cb : Fin 3072 → EReal) (dtb al : Fin 32 → EReal)

/-- Row `q` of the projection to a channel; rows before the sequence, counted from three before it, are zero. -/
def padded (q : ℕ) (c : Fin 3072) : EReal :=
  if h : 3 ≤ q ∧ q - 3 < 2048 then ∑ k, x ⟨q - 3, h.2⟩ k * w k ⟨2048 + c.val, by omega⟩ else 0

/-- The convolution of the channel over four rows, before its activation. -/
def conv (q : ℕ) (c : Fin 3072) : EReal :=
  cb c + padded x w q c * cw 0 c + padded x w (q + 1) c * cw 1 c + padded x w (q + 2) c * cw 2 c + padded x w (q + 3) c * cw 3 c

/-- The channels of chunk `j`. -/
def chan (j : ℕ) (t : Fin 128) (c : Fin 3072) : EReal :=
  conv x w cw cb (j * 128 + t.val) c * Ideal.logistic (conv x w cw cb (j * 128 + t.val) c)

/-- The step sizes of chunk `j`. -/
def dts (j : ℕ) (t : Fin 128) (h : Fin 32) : EReal :=
  if hq : j * 128 + t.val < 2048 then softplus ((∑ k, x ⟨j * 128 + t.val, hq⟩ k * w k ⟨5120 + h.val, by omega⟩) + dtb h) else 0

/-- The decay exponents of chunk `j`, summed up to each row. -/
def acs (j : ℕ) (t : Fin 128) (h : Fin 32) : EReal :=
  ∑ s : Fin 128, if s.val ≤ t.val then dts x w dtb j s h * (0 - Ideal.exp (al h)) else 0

/-- The state before chunk `j`. -/
def state : ℕ → Fin 2048 → Fin 128 → EReal
  | 0 => fun _ _ => 0
  | j + 1 => next (chan x w cw cb j) (dts x w dtb j) (acs x w dtb al j) (state j)

/-- The gate's input of a row. -/
def zrow (q : Fin 2048) (c : Fin 2048) : EReal := ∑ k, x q k * w k ⟨c.val, by omega⟩

/-- The mixed row `q` of the sequence. -/
def yrow (dsk : Fin 32 → EReal) (q : Fin 2048) (c : Fin 2048) : EReal :=
  mixed (chan x w cw cb (q.val / 128)) (dts x w dtb (q.val / 128)) (acs x w dtb al (q.val / 128))
    (state x w cw cb dtb al (q.val / 128)) dsk ⟨q.val % 128, by omega⟩ c

end Sequence

/-! ## Finite numbers -/

/-- A number that is neither infinity. -/
def Fin' (v : EReal) : Prop := ∃ r : ℝ, v = (r : EReal)

theorem Fin'.add {a b : EReal} (ha : Fin' a) (hb : Fin' b) : Fin' (a + b) := by
  obtain ⟨r, rfl⟩ := ha
  obtain ⟨s, rfl⟩ := hb
  exact ⟨r + s, (EReal.coe_add r s).symm⟩

theorem Fin'.sub {a b : EReal} (ha : Fin' a) (hb : Fin' b) : Fin' (a - b) := by
  obtain ⟨r, rfl⟩ := ha
  obtain ⟨s, rfl⟩ := hb
  exact ⟨r - s, (EReal.coe_sub r s).symm⟩

theorem Fin'.mul {a b : EReal} (ha : Fin' a) (hb : Fin' b) : Fin' (a * b) := by
  obtain ⟨r, rfl⟩ := ha
  obtain ⟨s, rfl⟩ := hb
  exact ⟨r * s, (EReal.coe_mul r s).symm⟩

theorem Fin'.zero : Fin' 0 := ⟨0, EReal.coe_zero.symm⟩

theorem Fin'.sum {n : ℕ} {f : Fin n → EReal} (h : ∀ k, Fin' (f k)) : Fin' (∑ k, f k) :=
  Finset.sum_induction f Fin' (fun _ _ => Fin'.add) Fin'.zero fun k _ => h k

theorem Fin'.exp {a : EReal} (ha : Fin' a) : Fin' (Ideal.exp a) := by
  obtain ⟨r, rfl⟩ := ha
  exact ⟨Real.exp r, rfl⟩

theorem Fin'.max {a b : EReal} (ha : Fin' a) (hb : Fin' b) : Fin' (max a b) := by
  rcases max_choice a b with h | h <;> rw [h] <;> assumption

theorem Fin'.neg {a : EReal} (ha : Fin' a) : Fin' (-a) := by
  obtain ⟨r, rfl⟩ := ha
  exact ⟨-r, (EReal.coe_neg r).symm⟩

/-- The logarithm of one plus an exponential is finite. -/
theorem Fin'.log1p_exp {a : EReal} (ha : Fin' a) : Fin' (Ideal.log1p (Ideal.exp a)) := by
  obtain ⟨r, rfl⟩ := ha
  refine ⟨Real.log (1 + Real.exp r), ?_⟩
  show Ideal.log (1 + (Real.exp r : EReal)) = _
  rw [← EReal.coe_one, ← EReal.coe_add]
  show (if 1 + Real.exp r ≤ 0 then (⊥ : EReal) else _) = _
  rw [if_neg (by have := Real.exp_pos r; linarith)]

theorem Fin'.softplus {v : EReal} (hv : Fin' v) : Fin' (softplus v) :=
  (hv.max .zero).add (Fin'.zero.sub (hv.max hv.neg)).log1p_exp

/-- A finite number less itself is zero. -/
theorem Fin'.sub_self {a : EReal} (ha : Fin' a) : a - a = 0 := by
  obtain ⟨r, rfl⟩ := ha
  rw [← EReal.coe_sub, _root_.sub_self, EReal.coe_zero]

/-- A finite number is not an unordered one. -/
theorem fin_of_lt {a : EReal} (h : max a (-a) < ⊤) : Fin' a := by
  induction a with
  | bot => simp at h
  | top => simp at h
  | coe r => exact ⟨r, rfl⟩

/-! ## Finiteness of the layer's exponents -/

section Finite

variable {x : Fin 2048 → Fin 1024 → EReal} {w : Fin 1024 → Fin 5152 → EReal} {dtb al : Fin 32 → EReal}

theorem dts_fin (hx : ∀ q k, Fin' (x q k)) (hw : ∀ k c, Fin' (w k c)) (hb : ∀ h, Fin' (dtb h)) (j : ℕ) (t : Fin 128)
    (h : Fin 32) : Fin' (dts x w dtb j t h) := by
  unfold dts
  split
  · exact ((Fin'.sum fun k => (hx _ k).mul (hw k _)).add (hb h)).softplus
  · exact .zero

theorem acs_fin (hx : ∀ q k, Fin' (x q k)) (hw : ∀ k c, Fin' (w k c)) (hb : ∀ h, Fin' (dtb h)) (ha : ∀ h, Fin' (al h))
    (j : ℕ) (t : Fin 128) (h : Fin 32) : Fin' (acs x w dtb al j t h) := by
  refine Fin'.sum fun s => ?_
  split
  · exact (dts_fin hx hw hb j s h).mul (Fin'.zero.sub (ha h).exp)
  · exact .zero

end Finite

/-! ## Sums -/

/-- A sum against a column that is one at `i` and zero elsewhere. -/
theorem sum_onehot {n : ℕ} (f : Fin n → EReal) (i : Fin n) : ∑ k, f k * (if k = i then 1 else 0) = f i := by
  simp only [mul_ite, mul_one, mul_zero, Finset.sum_ite_eq', Finset.mem_univ, if_true]

/-- A sum against a row of the lower triangle. -/
theorem sum_tril {n : ℕ} (f : Fin n → EReal) (t : Fin n) :
    ∑ s, (if s.val ≤ t.val then (1 : EReal) else 0) * f s = ∑ s, if s.val ≤ t.val then f s else 0 := by
  simp only [ite_mul, one_mul, zero_mul]

/-- A sum over the inner columns group by group. -/
theorem sum_groups (f : Fin 2048 → EReal) :
    ∑ c, f c = (∑ k : Fin 512, f ⟨k.val, by omega⟩) + (∑ k : Fin 512, f ⟨512 + k.val, by omega⟩)
      + (∑ k : Fin 512, f ⟨1024 + k.val, by omega⟩) + ∑ k : Fin 512, f ⟨1536 + k.val, by omega⟩ := by
  rw [sum_cut (a := 1536) (b := 512) rfl, sum_cut (a := 1024) (b := 512) rfl, sum_cut (a := 512) (b := 512) rfl]

end Cert.Ssm

end
-- ==== Proof.SsmTable.lean ====
module

public import Idealize.ShloMosaic.Lib.Pipeline.ValueKit
public import Idealize.ShloMosaic.Lib.Pointwise
public import proofs.«01_k».proof.Proof.Gen.Kernel2Ideal.Value
public import proofs.«01_k».proof.Proof.SsmStep
public import Idealize.ShloMosaic.Lib.StableHlo.RunLoop
public import Idealize.ShloMosaic.Lib.StableHlo.RunRead

@[expose] public section

set_option maxRecDepth 16384

noncomputable section

namespace Cert.Kernel2Ideal.Ssm

open Cert.Kernel2Ideal Cert.Kernel2Ideal.Gen Idealize.ShloMosaic Idealize.ShloMosaic.TcCoe Idealize.SL.Sem Cert.Ssm Cert.Ffn

/-- The literal table: ones on and below the diagonal, row after row. -/
theorem ones_below : ∀ n : Fin 16384, lit0 n = if n.val % 128 ≤ n.val / 128 then 0x3F80#16 else 0#16 := by
  decide +kernel

end Cert.Kernel2Ideal.Ssm
end
-- ==== Proof.SsmBlocks.lean ====
module

public import Idealize.ShloMosaic.Lib.Pipeline.ValueKit
public import Idealize.ShloMosaic.Lib.Pointwise
public import proofs.«01_k».proof.Proof.Gen.Kernel2Ideal.Value
public import proofs.«01_k».proof.Proof.SsmStep
public import proofs.«01_k».proof.Proof.SsmTable
public import Idealize.ShloMosaic.Lib.StableHlo.RunLoop
public import Idealize.ShloMosaic.Lib.StableHlo.RunRead

@[expose] public section

set_option maxRecDepth 16384

noncomputable section

namespace Cert.Kernel2Ideal.Ssm

open Cert.Kernel2Ideal Cert.Kernel2Ideal.Gen Idealize.ShloMosaic Idealize.ShloMosaic.TcCoe Idealize.SL.Sem Cert.Ssm Cert.Ffn

variable (m : (ℓ : Loc nD τ sig) → Buf (Elt Ideal) ℓ)
/-- Where the blocks of a grid point lie. -/
theorem idx : ∀ t : Fin cfg0.N, win0_0.index t = ![t.val / 16, t.val % 16, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0]
    ∧ win0_14.index t = ![t.val / 16, t.val % 16, 0] ∧ win0_15.index t = ![t.val / 16, 0, 0] ∧ win0_16.index t = ![t.val / 16, 0, 0] :=
  (by decide +kernel : ∀ t : Fin grid0.N, _)

theorem lane64 : ∀ k : Fin 2048, IntOp.divsi ArithUnit.host (BitVec.ofNat 32 k.val) 64#32 = BitVec.ofNat 32 (k.val / 64) := by
  decide +kernel

theorem same_head : ∀ (h : Fin 128) (a : Fin 32),
    IntOp.cmpi CmpIPredicate.eq (BitVec.ofNat 32 a.val) (BitVec.ofNat 32 h.val) = if h.val = a.val then 1#1 else 0#1 := by
  decide +kernel

/-- The step-size weights, padded to a lane for every head. -/
theorem wdt_entry (c : Dev nD) (k : Fin 1024) (h : Fin 32) :
    (V m c main_v4 : FVec Ideal S1024x128 .bf16) (ix2 k ⟨h.val, by omega⟩) = m ((c : Thread nD τ).loc main_arg1) (ix2 k ⟨5120 + h.val, by omega⟩) := by
  unfold V
  rw [← StableHlo.afterL_eq_after_flatten]
  simp only [StableHlo.afterL_cons, StableHlo.afterL_nil]
  after_reads_simp
  simp only [StableHlo.TRef.toBuf, StableHlo.TRef.ofBuf, cast_eq, id]
  pointwise

theorem cb_entry (c : Dev nD) (k : Fin 3072) : (V m c main_v5 : FVec Ideal S1x3072 .f32) (ix2 0 k) = m ((c : Thread nD τ).loc main_arg3) (ix1 k) := by
  unfold V
  rw [← StableHlo.afterL_eq_after_flatten]
  simp only [StableHlo.afterL_cons, StableHlo.afterL_nil]
  after_reads_simp
  pointwise

theorem dtb_entry (c : Dev nD) (h : Fin 32) :
    (V m c main_v7 : FVec Ideal S1x128 .f32) (ix2 0 ⟨h.val, by omega⟩) = m ((c : Thread nD τ).loc main_arg4) (ix1 h) := by
  unfold V
  rw [← StableHlo.afterL_eq_after_flatten]
  simp only [StableHlo.afterL_cons, StableHlo.afterL_nil]
  after_reads_simp
  simp only [StableHlo.TRef.toBuf, StableHlo.TRef.ofBuf, cast_eq, id]
  pointwise

theorem alog_entry (c : Dev nD) (h : Fin 32) :
    (V m c main_v9 : FVec Ideal S1x128 .f32) (ix2 0 ⟨h.val, by omega⟩) = m ((c : Thread nD τ).loc main_arg5) (ix1 h) := by
  unfold V
  rw [← StableHlo.afterL_eq_after_flatten]
  simp only [StableHlo.afterL_cons, StableHlo.afterL_nil]
  after_reads_simp
  simp only [StableHlo.TRef.toBuf, StableHlo.TRef.ofBuf, cast_eq, id]
  pointwise

theorem dsk_entry (c : Dev nD) (k : Fin 2048) :
    (V m c main_v12 : FVec Ideal S1x2048 .f32) (ix2 0 k) = m ((c : Thread nD τ).loc main_arg6) (ix1 (hd k)) := by
  unfold V
  rw [← StableHlo.afterL_eq_after_flatten]
  simp only [StableHlo.afterL_cons, StableHlo.afterL_nil]
  after_reads_simp
  pointwise
  rfl

theorem nw_entry (c : Dev nD) (k : Fin 2048) : (V m c main_v13 : FVec Ideal S1x2048 .f32) (ix2 0 k) = m ((c : Thread nD τ).loc main_arg7) (ix1 k) := by
  unfold V
  rw [← StableHlo.afterL_eq_after_flatten]
  simp only [StableHlo.afterL_cons, StableHlo.afterL_nil]
  after_reads_simp
  pointwise

theorem wo_entry (c : Dev nD) (k : Fin 2048) (d : Fin 1024) : (V m c main_v1 : FVec Ideal S2048x1024 .bf16) (ix2 k d) = m ((c : Thread nD τ).loc main_arg8) (ix2 k d) := by
  unfold V
  rw [← StableHlo.afterL_eq_after_flatten]
  simp only [StableHlo.afterL_cons, StableHlo.afterL_nil]
  after_reads_simp
  pointwise

/-- The table that spreads a head's lane over its columns. -/
theorem e_entry (c : Dev nD) (h : Fin 128) (k : Fin 2048) :
    (V m c main_v22 : FVec Ideal S128x2048 .bf16) (ix2 h k) = if h.val = k.val / 64 then (1 : EReal) else 0 := by
  unfold V
  rw [← StableHlo.afterL_eq_after_flatten]
  simp only [StableHlo.afterL_cons, StableHlo.afterL_nil]
  after_reads_simp
  simp only [StableHlo.TRef.toBuf, StableHlo.TRef.ofBuf, cast_eq, id]
  pointwise
  rw [lane64, same_head h ⟨k.val / 64, by omega⟩]
  by_cases e : h.val = k.val / 64
  · simp [e, Scalar.select]
  · simp [e, Scalar.select]

/-- The table of ones on and below the diagonal. -/
theorem tril_entry (c : Dev nD) (s t : Fin 128) :
    (V m c main_cst : FVec Ideal S128x128 .bf16) (ix2 t s) = if s.val ≤ t.val then (1 : EReal) else 0 := by
  unfold V
  rw [← StableHlo.afterL_eq_after_flatten]
  simp only [StableHlo.afterL_cons, StableHlo.afterL_nil]
  after_reads_simp
  have e : (S128x128.rowMajor (ix2 t s)).val = t.val * 128 + s.val := by
    show (Shape.rowMajorPi ![128, 128] (ix2 t s)).val = _
    rw [Shape.rowMajorPi_succ_val, Shape.rowMajorPi_succ_val]
    simp
  have h : lit0 (S128x128.rowMajor (ix2 t s)) = if s.val ≤ t.val then 0x3F80#16 else 0#16 :=
    (ones_below _).trans (if_congr (by rw [show ((S128x128.rowMajor (ix2 t s) : Fin 16384) : ℕ) = t.val * 128 + s.val from e]; omega) rfl rfl)
  refine (congrArg (FloatOps.ofBits (F := Ideal) FTy.bf16) h).trans ?_
  by_cases q : s.val ≤ t.val
  · rw [if_pos q, if_pos q]; pointwise
  · rw [if_neg q, if_neg q]; pointwise

theorem ln_g_entry (c : Dev nD) (d : Fin 1024) : (V m c main_v14 : FVec Ideal S1x1024 .f32) (ix2 0 d) = m ((c : Thread nD τ).loc main_arg9) (ix1 d) := by
  unfold V
  rw [← StableHlo.afterL_eq_after_flatten]
  simp only [StableHlo.afterL_cons, StableHlo.afterL_nil]
  after_reads_simp
  pointwise

theorem ln_b_entry (c : Dev nD) (d : Fin 1024) : (V m c main_v15 : FVec Ideal S1x1024 .f32) (ix2 0 d) = m ((c : Thread nD τ).loc main_arg10) (ix1 d) := by
  unfold V
  rw [← StableHlo.afterL_eq_after_flatten]
  simp only [StableHlo.afterL_cons, StableHlo.afterL_nil]
  after_reads_simp
  pointwise

theorem blk0 (c : Dev nD) (t : Fin cfg0.N) (r : Fin 128) (k : Fin 1024) :
    (iblk m c 0 t : FVec Ideal S1x128x1024 .f32) (ix3 0 r k) = m ((c : Thread nD τ).loc main_arg0) (ix3 ⟨t.val / 16, Nat.div_lt_of_lt_mul (Nat.lt_of_lt_of_le t.isLt (by decide))⟩ ⟨t.val % 16 * 128 + r.val, by omega⟩ k) := by
  blk_simp [iblk, idx t]
  entry_read
  blk_ext [idx t]

/-- The input projection's weights as a grid point finds them: the block is never cut. -/
theorem blk1 (c : Dev nD) (t : Fin cfg0.N) (k : Fin 1024) (j : Fin 5120) :
    (X0_1 m c t : FVec Ideal S1024x5120 .bf16) (ix2 k j) = m ((c : Thread nD τ).loc main_arg1) (ix2 k ⟨j.val, by omega⟩) := by
  unfold X0_1
  refine (dif_pos (by rfl)).trans ?_
  blk_simp [iblk, idx t]
  entry_read
  pointwise
  blk_ext [idx t]

theorem blk2 (c : Dev nD) (t : Fin cfg0.N) (k : Fin 1024) (h : Fin 32) :
    (iblk m c 2 t : FVec Ideal S1024x128 .bf16) (ix2 k ⟨h.val, by omega⟩) = m ((c : Thread nD τ).loc main_arg1) (ix2 k ⟨5120 + h.val, by omega⟩) := by
  refine Eq.trans ?_ (wdt_entry m c k h)
  blk_simp [iblk, idx t]
  blk_ext [idx t]

theorem blk3 (c : Dev nD) (t : Fin cfg0.N) (j : Fin 4) (k : Fin 3072) :
    (iblk m c 3 t : FVec Ideal S4x3072 .f32) (ix2 j k) = m ((c : Thread nD τ).loc main_arg2) (ix2 j k) := by
  blk_simp [iblk, idx t]
  entry_read
  blk_ext [idx t]

theorem blk4 (c : Dev nD) (t : Fin cfg0.N) (k : Fin 3072) :
    (iblk m c 4 t : FVec Ideal S1x3072 .f32) (ix2 0 k) = m ((c : Thread nD τ).loc main_arg3) (ix1 k) := by
  refine Eq.trans ?_ (cb_entry m c k)
  blk_simp [iblk, idx t]
  blk_ext [idx t]

theorem blk5 (c : Dev nD) (t : Fin cfg0.N) (h : Fin 32) :
    (iblk m c 5 t : FVec Ideal S1x128 .f32) (ix2 0 ⟨h.val, by omega⟩) = m ((c : Thread nD τ).loc main_arg4) (ix1 h) := by
  refine Eq.trans ?_ (dtb_entry m c h)
  blk_simp [iblk, idx t]
  blk_ext [idx t]

theorem blk6 (c : Dev nD) (t : Fin cfg0.N) (h : Fin 32) :
    (iblk m c 6 t : FVec Ideal S1x128 .f32) (ix2 0 ⟨h.val, by omega⟩) = m ((c : Thread nD τ).loc main_arg5) (ix1 h) := by
  refine Eq.trans ?_ (alog_entry m c h)
  blk_simp [iblk, idx t]
  blk_ext [idx t]

theorem blk7 (c : Dev nD) (t : Fin cfg0.N) (k : Fin 2048) :
    (iblk m c 7 t : FVec Ideal S1x2048 .f32) (ix2 0 k) = m ((c : Thread nD τ).loc main_arg6) (ix1 (hd k)) := by
  refine Eq.trans ?_ (dsk_entry m c k)
  blk_simp [iblk, idx t]
  blk_ext [idx t]

theorem blk8 (c : Dev nD) (t : Fin cfg0.N) (k : Fin 2048) :
    (iblk m c 8 t : FVec Ideal S1x2048 .f32) (ix2 0 k) = m ((c : Thread nD τ).loc main_arg7) (ix1 k) := by
  refine Eq.trans ?_ (nw_entry m c k)
  blk_simp [iblk, idx t]
  blk_ext [idx t]

theorem blk9 (c : Dev nD) (t : Fin cfg0.N) (k : Fin 2048) (d : Fin 1024) :
    (iblk m c 9 t : FVec Ideal S2048x1024 .bf16) (ix2 k d) = m ((c : Thread nD τ).loc main_arg8) (ix2 k d) := by
  refine Eq.trans ?_ (wo_entry m c k d)
  blk_simp [iblk, idx t]
  blk_ext [idx t]

theorem blk10 (c : Dev nD) (t : Fin cfg0.N) (h : Fin 128) (k : Fin 2048) :
    (iblk m c 10 t : FVec Ideal S128x2048 .bf16) (ix2 h k) = if h.val = k.val / 64 then (1 : EReal) else 0 := by
  refine Eq.trans ?_ (e_entry m c h k)
  blk_simp [iblk, idx t]
  blk_ext [idx t]

theorem blk11 (c : Dev nD) (q : Fin cfg0.N) (s t : Fin 128) :
    (iblk m c 11 q : FVec Ideal S128x128 .bf16) (ix2 t s) = if s.val ≤ t.val then (1 : EReal) else 0 := by
  refine Eq.trans ?_ (tril_entry m c s t)
  blk_simp [iblk, idx q]
  blk_ext [idx q]

theorem blk12 (c : Dev nD) (t : Fin cfg0.N) (d : Fin 1024) :
    (iblk m c 12 t : FVec Ideal S1x1024 .f32) (ix2 0 d) = m ((c : Thread nD τ).loc main_arg9) (ix1 d) := by
  refine Eq.trans ?_ (ln_g_entry m c d)
  blk_simp [iblk, idx t]
  blk_ext [idx t]

theorem blk13 (c : Dev nD) (t : Fin cfg0.N) (d : Fin 1024) :
    (iblk m c 13 t : FVec Ideal S1x1024 .f32) (ix2 0 d) = m ((c : Thread nD τ).loc main_arg10) (ix1 d) := by
  refine Eq.trans ?_ (ln_b_entry m c d)
  blk_simp [iblk, idx t]
  blk_ext [idx t]

end Cert.Kernel2Ideal.Ssm
end
-- ==== Proof.SsmPay.lean ====
/- What the payloads of the state-space kernel are at an index: the decay exponents, the channels, the weights of each head,
   the state after a chunk and the normalised row. -/
module

public import Idealize.ShloMosaic.Lib.Pipeline.ValueKit
public import Idealize.ShloMosaic.Lib.Pointwise
public import proofs.«01_k».proof.Proof.Gen.Kernel2Ideal.Value
public import proofs.«01_k».proof.Proof.SsmStep

@[expose] public section

set_option maxRecDepth 16384

noncomputable section

namespace Cert.Kernel2Ideal.Ssm

open Cert.Kernel2Ideal Cert.Kernel2Ideal.Gen Idealize.ShloMosaic Idealize.ShloMosaic.TcCoe Idealize.SL.Sem Cert.Ssm Cert.Ffn

/-- The lane of a head among the 128 lanes. -/
def lane (h : Fin 32) : Fin 128 := ⟨h.val, by omega⟩

/-- The column of a head at an offset. -/
def hcol (h : Fin 32) (k : Fin 64) : Fin 2048 := ⟨h.val * 64 + k.val, by omega⟩

/-- The column of a group at an offset. -/
def gcol (g : Fin 4) (k : Fin 512) : Fin 2048 := ⟨g.val * 512 + k.val, by omega⟩

theorem hd_hcol (h : Fin 32) (k : Fin 64) : hd (hcol h k) = h := Fin.ext (by show (h.val * 64 + k.val) / 64 = h.val; omega)

theorem gr_hcol (h : Fin 32) (k : Fin 64) : gr (hcol h k) = hgr h :=
  Fin.ext (by show (h.val * 64 + k.val) / 512 = h.val / 8; omega)

theorem gr_gcol (g : Fin 4) (k : Fin 512) : gr (gcol g k) = g := Fin.ext (by show (g.val * 512 + k.val) / 512 = g.val; omega)

/-- The channels of a block as rows. -/
def rowsOf (v : FVec Ideal S128x3072 .f32) (t : Fin 128) (c : Fin 3072) : EReal := v (ix2 t c)

/-- The first 32 lanes of a block as rows. -/
def lanesOf (v : FVec Ideal S128x128 .f32) (t : Fin 128) (h : Fin 32) : EReal := v (ix2 t (lane h))

/-! ## Constants -/

theorem neg_inf : Ideal.ofBits .f32 0xFF800000#32 = ⊥ := by
  simp [Ideal.ofBits, Ideal.ieee]

theorem half_lt {p : Prop} [Decidable p] : (Ideal.ofBits .bf16 0x3F00#16 < if p then (1 : EReal) else 0) ↔ p := by
  have h : Ideal.ofBits .bf16 0x3F00#16 = ((1 / 2 : ℝ) : EReal) := by
    simp [Ideal.ofBits, Ideal.ieee, -EReal.coe_mul]
    norm_num
  rw [h]
  split
  · rename_i hp
    exact iff_of_true (by rw [← EReal.coe_one, EReal.coe_lt_coe_iff]; norm_num) hp
  · rename_i hp
    exact iff_of_false (by rw [← EReal.coe_zero, EReal.coe_lt_coe_iff]; norm_num) hp

/-! ## Step sizes, decay exponents, channels -/

theorem pay13_at (v6 : FVec Ideal S1x128x1024 .f32) (v12 : FVec Ideal S1024x128 .bf16) (v22 : FVec Ideal S1x128 .f32)
    (t h : Fin 128) :
    k0_pay13 (F := Ideal) (k0_pay11 v6 v12 v22) (k0_pay12 v6 v12 v22) (ix2 t h)
      = softplus ((∑ k, v6 (ix3 0 t k) * v12 (ix2 k h)) + v22 (ix2 0 h)) := by
  pointwise [k0_pay13, k0_pay11, k0_pay12, k0_pay10, k0_pay6, k0_pay5, softplus]
  rfl

theorem pay14_at (v27 v31 : FVec Ideal S128x128 .f32) (v34 : FVec Ideal S1x128 .f32) (v39 : FVec Ideal S128x128 .bf16)
    (hM : ∀ t s : Fin 128, v39 (ix2 t s) = if s.val ≤ t.val then (1 : EReal) else 0) (t h : Fin 128)
    (hf : ∀ s, Fin' (k0_pay13 (F := Ideal) v27 v31 (ix2 s h))) (ha : Fin' (v34 (ix2 0 h))) :
    k0_pay14 (F := Ideal) v27 v31 v34 v39 (ix2 t h)
      = ∑ s : Fin 128, if s.val ≤ t.val then k0_pay13 (F := Ideal) v27 v31 (ix2 s h) * (0 - Ideal.exp (v34 (ix2 0 h))) else 0 := by
  have hv : ∀ s, (k0_pay13 (F := Ideal) v27 v31 (ix2 s h) * (0 - Ideal.exp (v34 (ix2 0 h)))
      - k0_pay13 (F := Ideal) v27 v31 (ix2 s h) * (0 - Ideal.exp (v34 (ix2 0 h))) : EReal) = 0 :=
    fun s => ((hf s).mul (Fin'.zero.sub ha.exp)).sub_self
  pointwise [k0_pay14]
  simp only [hv, hM, sub_zero, mul_zero, Finset.sum_const_zero, add_zero, sum_tril]

theorem pay19_at (v27 v31 : FVec Ideal S128x128 .f32) (v34 : FVec Ideal S1x128 .f32) (v39 : FVec Ideal S128x128 .bf16)
    (t h : Fin 128) :
    k0_pay19 (F := Ideal) v27 v31 v34 v39 (ix2 t h)
      = Ideal.exp (k0_pay14 (F := Ideal) v27 v31 v34 v39 (ix2 127 h) - k0_pay14 (F := Ideal) v27 v31 v34 v39 (ix2 t h))
        * k0_pay13 (F := Ideal) v27 v31 (ix2 t h) := by
  pointwise [k0_pay19]

theorem pay22_at (v71 : FVec Ideal S1x3072 .f32) (v72 v79 v85 v91 : FVec Ideal S1x128x3072 .f32)
    (v74 v80 v86 v92 : FVec Ideal S1x3072 .f32) (t : Fin 128) (c : Fin 3072) (v : EReal)
    (hv : v71 (ix2 0 c) + v72 (ix3 0 t c) * v74 (ix2 0 c) + v79 (ix3 0 t c) * v80 (ix2 0 c) + v85 (ix3 0 t c) * v86 (ix2 0 c)
      + v91 (ix3 0 t c) * v92 (ix2 0 c) = v) :
    k0_pay22 (F := Ideal) (k0_pay20 v71) v72 (k0_pay21 v74) v79 v80 v85 v86 v91 v92 (ix2 t c) = v * Ideal.logistic v := by
  rw [← hv]
  pointwise [k0_pay22, k0_pay20, k0_pay21]

/-- The first columns of the channels. -/
theorem pay23_at (v71 v74 : FVec Ideal S1x1x3072 .f32) (v72 v79 v85 v91 : FVec Ideal S1x128x3072 .f32)
    (v80 v86 v92 : FVec Ideal S1x3072 .f32) (s : Fin 128) (c : Fin 2048) :
    k0_pay23 (F := Ideal) v71 v72 v74 v79 v80 v85 v86 v91 v92 (ix2 s c)
      = rowsOf (k0_pay22 (F := Ideal) v71 v72 v74 v79 v80 v85 v86 v91 v92) s (xcol c) := by
  pointwise [k0_pay23]
  rfl

theorem pay24_at (v71 v74 : FVec Ideal S1x1x3072 .f32) (v72 v79 v85 v91 : FVec Ideal S1x128x3072 .f32)
    (v80 v86 v92 : FVec Ideal S1x3072 .f32) (t s : Fin 128) :
    k0_pay24 (F := Ideal) v71 v72 v74 v79 v80 v85 v86 v91 v92 (ix2 t s)
      = sim (rowsOf (k0_pay22 (F := Ideal) v71 v72 v74 v79 v80 v85 v86 v91 v92)) 0 t s := by
  pointwise [k0_pay24]
  rfl

theorem pay37_at (v99 : FVec Ideal S128x3072 .f32) (t s : Fin 128) :
    k0_pay37 (F := Ideal) v99 (k0_pay36 (F := Ideal) v99) (ix2 t s) = sim (rowsOf v99) 1 t s := by
  pointwise [k0_pay37, k0_pay36]
  rfl

theorem pay51_at (v99 : FVec Ideal S128x3072 .f32) (t s : Fin 128) :
    k0_pay51 (F := Ideal) v99 (ix2 t s) = sim (rowsOf v99) 2 t s := by
  pointwise [k0_pay51]
  rfl

theorem pay63_at (v99 : FVec Ideal S128x3072 .f32) (t s : Fin 128) :
    k0_pay63 (F := Ideal) v99 (ix2 t s) = sim (rowsOf v99) 3 t s := by
  pointwise [k0_pay63]
  rfl

/-! ## The heads -/

theorem inner_head (u : Fin 128 → Fin 3072 → EReal) (dt ac : Fin 128 → Fin 32 → EReal) (t : Fin 128) (h : Fin 32) (k : Fin 64) :
    inner u dt ac t (hcol h k) = ∑ s, wgt u dt ac h (hgr h) t s * u s (xcol (hcol h k)) := by
  unfold Cert.Ssm.inner
  rw [hd_hcol, gr_hcol]

/-- One term of a head's sum. -/
theorem head_term (v27 v31 : FVec Ideal S128x128 .f32) (v34 : FVec Ideal S1x128 .f32) (v39 : FVec Ideal S128x128 .bf16)
    (v99 : FVec Ideal S128x3072 .f32) (v100 : FVec Ideal S128x2048 .f32)
    (hM : ∀ t s : Fin 128, v39 (ix2 t s) = if s.val ≤ t.val then (1 : EReal) else 0)
    (h100 : ∀ s c, v100 (ix2 s c) = rowsOf v99 s (xcol c)) (h : Fin 32) (g : Fin 4) (hg : hgr h = g) (t s : Fin 128) (C : EReal)
    (hC : C = sim (rowsOf v99) g t s) (c : Fin 2048) :
    C * Ideal.exp (if Ideal.ofBits .bf16 0x3F00#16 < v39 (ix2 t s) then
        k0_pay14 (F := Ideal) v27 v31 v34 v39 (ix2 t (lane h)) - k0_pay14 (F := Ideal) v27 v31 v34 v39 (ix2 s (lane h))
        else Ideal.ofBits .f32 0xFF800000#32) * k0_pay13 (F := Ideal) v27 v31 (ix2 s (lane h)) * v100 (ix2 s c)
      = wgt (rowsOf v99) (lanesOf (k0_pay13 (F := Ideal) v27 v31)) (lanesOf (k0_pay14 (F := Ideal) v27 v31 v34 v39)) h (hgr h) t s
        * rowsOf v99 s (xcol c) := by
  rw [hC, h100, hM, hg, neg_inf]
  simp only [half_lt]
  rfl

section Heads

variable (v27 v31 : FVec Ideal S128x128 .f32) (v34 : FVec Ideal S1x128 .f32) (v39 : FVec Ideal S128x128 .bf16)
  (v99 : FVec Ideal S128x3072 .f32) (v100 : FVec Ideal S128x2048 .f32)
  (hM : ∀ t s : Fin 128, v39 (ix2 t s) = if s.val ≤ t.val then (1 : EReal) else 0)
  (h100 : ∀ s c, v100 (ix2 s c) = rowsOf v99 s (xcol c))
include hM h100

theorem head0 (v71 v74 : FVec Ideal S1x1x3072 .f32) (v72 v79 v85 v91 : FVec Ideal S1x128x3072 .f32)
    (v80 v86 v92 : FVec Ideal S1x3072 .f32) (h99 : v99 = k0_pay22 (F := Ideal) v71 v72 v74 v79 v80 v85 v86 v91 v92) (t : Fin 128) (k : Fin 64) :
    k0_pay26 (F := Ideal) v100 (k0_pay25 (F := Ideal) (k0_pay14 (F := Ideal) v27 v31 v34 v39) (k0_pay15 (F := Ideal) v27 v31 v34 v39) (k0_pay16 (F := Ideal) v27 v31) (k0_pay17 (F := Ideal) v39) v71 v72 v74 v79 v80 v85 v86 v91 v92) (ix2 t k)
      = inner (rowsOf v99) (lanesOf (k0_pay13 (F := Ideal) v27 v31)) (lanesOf (k0_pay14 (F := Ideal) v27 v31 v34 v39)) t (hcol 0 k) := by
  rw [inner_head]
  pointwise [k0_pay26, k0_pay25, k0_pay15, k0_pay16, k0_pay17]
  exact Finset.sum_congr rfl fun s _ => (congrArg₂ (· * ·) rfl (congrArg (fun c : Fin 2048 => v100 (ix2 s c))
    (Fin.ext (by show k.val = 0 * 64 + k.val; omega) : _ = hcol 0 k))).trans
    (head_term v27 v31 v34 v39 v99 v100 hM h100 0 0 (by decide) t s _ (h99 ▸ pay24_at v71 v74 v72 v79 v85 v91 v80 v86 v92 t s) _)

theorem head1 (v105 : FVec Ideal S128x128 .f32)
    (h105 : ∀ t s, v105 (ix2 t s) = sim (rowsOf v99) 0 t s) (t : Fin 128) (k : Fin 64) :
    k0_pay27 (F := Ideal) (k0_pay14 (F := Ideal) v27 v31 v34 v39) (k0_pay15 (F := Ideal) v27 v31 v34 v39) (k0_pay16 (F := Ideal) v27 v31) (k0_pay17 (F := Ideal) v39) v100 v105 (ix2 t k)
      = inner (rowsOf v99) (lanesOf (k0_pay13 (F := Ideal) v27 v31)) (lanesOf (k0_pay14 (F := Ideal) v27 v31 v34 v39)) t (hcol 1 k) := by
  rw [inner_head]
  pointwise [k0_pay27, k0_pay15, k0_pay16, k0_pay17]
  exact Finset.sum_congr rfl fun s _ => head_term v27 v31 v34 v39 v99 v100 hM h100 1 0 (by decide) t s _ (h105 t s) _

theorem head2 (v105 : FVec Ideal S128x128 .f32)
    (h105 : ∀ t s, v105 (ix2 t s) = sim (rowsOf v99) 0 t s) (t : Fin 128) (k : Fin 64) :
    k0_pay28 (F := Ideal) (k0_pay14 (F := Ideal) v27 v31 v34 v39) (k0_pay15 (F := Ideal) v27 v31 v34 v39) (k0_pay16 (F := Ideal) v27 v31) (k0_pay17 (F := Ideal) v39) v100 v105 (ix2 t k)
      = inner (rowsOf v99) (lanesOf (k0_pay13 (F := Ideal) v27 v31)) (lanesOf (k0_pay14 (F := Ideal) v27 v31 v34 v39)) t (hcol 2 k) := by
  rw [inner_head]
  pointwise [k0_pay28, k0_pay15, k0_pay16, k0_pay17]
  exact Finset.sum_congr rfl fun s _ => head_term v27 v31 v34 v39 v99 v100 hM h100 2 0 (by decide) t s _ (h105 t s) _

theorem head3 (v105 : FVec Ideal S128x128 .f32)
    (h105 : ∀ t s, v105 (ix2 t s) = sim (rowsOf v99) 0 t s) (t : Fin 128) (k : Fin 64) :
    k0_pay30 (F := Ideal) (k0_pay15 (F := Ideal) v27 v31 v34 v39) (k0_pay16 (F := Ideal) v27 v31) (k0_pay17 (F := Ideal) v39) v100 v105 (k0_pay29 (F := Ideal) (k0_pay14 (F := Ideal) v27 v31 v34 v39)) (ix2 t k)
      = inner (rowsOf v99) (lanesOf (k0_pay13 (F := Ideal) v27 v31)) (lanesOf (k0_pay14 (F := Ideal) v27 v31 v34 v39)) t (hcol 3 k) := by
  rw [inner_head]
  pointwise [k0_pay30, k0_pay15, k0_pay16, k0_pay17, k0_pay29]
  exact Finset.sum_congr rfl fun s _ => head_term v27 v31 v34 v39 v99 v100 hM h100 3 0 (by decide) t s _ (h105 t s) _

theorem head4 (v105 : FVec Ideal S128x128 .f32)
    (h105 : ∀ t s, v105 (ix2 t s) = sim (rowsOf v99) 0 t s) (t : Fin 128) (k : Fin 64) :
    k0_pay31 (F := Ideal) (k0_pay14 (F := Ideal) v27 v31 v34 v39) (k0_pay15 (F := Ideal) v27 v31 v34 v39) (k0_pay16 (F := Ideal) v27 v31) (k0_pay17 (F := Ideal) v39) v100 v105 (ix2 t k)
      = inner (rowsOf v99) (lanesOf (k0_pay13 (F := Ideal) v27 v31)) (lanesOf (k0_pay14 (F := Ideal) v27 v31 v34 v39)) t (hcol 4 k) := by
  rw [inner_head]
  pointwise [k0_pay31, k0_pay15, k0_pay16, k0_pay17]
  exact Finset.sum_congr rfl fun s _ => head_term v27 v31 v34 v39 v99 v100 hM h100 4 0 (by decide) t s _ (h105 t s) _

theorem head5 (v105 : FVec Ideal S128x128 .f32)
    (h105 : ∀ t s, v105 (ix2 t s) = sim (rowsOf v99) 0 t s) (t : Fin 128) (k : Fin 64) :
    k0_pay33 (F := Ideal) v100 (k0_pay32 (F := Ideal) (k0_pay14 (F := Ideal) v27 v31 v34 v39) (k0_pay15 (F := Ideal) v27 v31 v34 v39) (k0_pay16 (F := Ideal) v27 v31) (k0_pay17 (F := Ideal) v39) v105) (ix2 t k)
      = inner (rowsOf v99) (lanesOf (k0_pay13 (F := Ideal) v27 v31)) (lanesOf (k0_pay14 (F := Ideal) v27 v31 v34 v39)) t (hcol 5 k) := by
  rw [inner_head]
  pointwise [k0_pay33, k0_pay32, k0_pay15, k0_pay16, k0_pay17]
  exact Finset.sum_congr rfl fun s _ => head_term v27 v31 v34 v39 v99 v100 hM h100 5 0 (by decide) t s _ (h105 t s) _

theorem head6 (v105 : FVec Ideal S128x128 .f32)
    (h105 : ∀ t s, v105 (ix2 t s) = sim (rowsOf v99) 0 t s) (t : Fin 128) (k : Fin 64) :
    k0_pay34 (F := Ideal) (k0_pay14 (F := Ideal) v27 v31 v34 v39) (k0_pay15 (F := Ideal) v27 v31 v34 v39) (k0_pay16 (F := Ideal) v27 v31) (k0_pay17 (F := Ideal) v39) v100 v105 (ix2 t k)
      = inner (rowsOf v99) (lanesOf (k0_pay13 (F := Ideal) v27 v31)) (lanesOf (k0_pay14 (F := Ideal) v27 v31 v34 v39)) t (hcol 6 k) := by
  rw [inner_head]
  pointwise [k0_pay34, k0_pay15, k0_pay16, k0_pay17]
  exact Finset.sum_congr rfl fun s _ => head_term v27 v31 v34 v39 v99 v100 hM h100 6 0 (by decide) t s _ (h105 t s) _

theorem head7 (v105 : FVec Ideal S128x128 .f32)
    (h105 : ∀ t s, v105 (ix2 t s) = sim (rowsOf v99) 0 t s) (t : Fin 128) (k : Fin 64) :
    k0_pay35 (F := Ideal) (k0_pay14 (F := Ideal) v27 v31 v34 v39) (k0_pay15 (F := Ideal) v27 v31 v34 v39) (k0_pay16 (F := Ideal) v27 v31) (k0_pay17 (F := Ideal) v39) v100 v105 (ix2 t k)
      = inner (rowsOf v99) (lanesOf (k0_pay13 (F := Ideal) v27 v31)) (lanesOf (k0_pay14 (F := Ideal) v27 v31 v34 v39)) t (hcol 7 k) := by
  rw [inner_head]
  pointwise [k0_pay35, k0_pay15, k0_pay16, k0_pay17]
  exact Finset.sum_congr rfl fun s _ => head_term v27 v31 v34 v39 v99 v100 hM h100 7 0 (by decide) t s _ (h105 t s) _

theorem head8 (t : Fin 128) (k : Fin 64) :
    k0_pay38 (F := Ideal) (k0_pay14 (F := Ideal) v27 v31 v34 v39) (k0_pay15 (F := Ideal) v27 v31 v34 v39) (k0_pay16 (F := Ideal) v27 v31) (k0_pay17 (F := Ideal) v39) v99 v100 (k0_pay36 (F := Ideal) v99) (ix2 t k)
      = inner (rowsOf v99) (lanesOf (k0_pay13 (F := Ideal) v27 v31)) (lanesOf (k0_pay14 (F := Ideal) v27 v31 v34 v39)) t (hcol 8 k) := by
  rw [inner_head]
  pointwise [k0_pay38, k0_pay15, k0_pay16, k0_pay17]
  exact Finset.sum_congr rfl fun s _ => head_term v27 v31 v34 v39 v99 v100 hM h100 8 1 (by decide) t s _ (pay37_at v99 t s) _

theorem head9 (t : Fin 128) (k : Fin 64) :
    k0_pay39 (F := Ideal) (k0_pay14 (F := Ideal) v27 v31 v34 v39) (k0_pay15 (F := Ideal) v27 v31 v34 v39) (k0_pay16 (F := Ideal) v27 v31) (k0_pay17 (F := Ideal) v39) v99 v100 (k0_pay36 (F := Ideal) v99) (ix2 t k)
      = inner (rowsOf v99) (lanesOf (k0_pay13 (F := Ideal) v27 v31)) (lanesOf (k0_pay14 (F := Ideal) v27 v31 v34 v39)) t (hcol 9 k) := by
  rw [inner_head]
  pointwise [k0_pay39, k0_pay15, k0_pay16, k0_pay17]
  exact Finset.sum_congr rfl fun s _ => head_term v27 v31 v34 v39 v99 v100 hM h100 9 1 (by decide) t s _ (pay37_at v99 t s) _

theorem head10 (t : Fin 128) (k : Fin 64) :
    k0_pay42 (F := Ideal) (k0_pay16 (F := Ideal) v27 v31) (k0_pay17 (F := Ideal) v39) v100 (k0_pay37 (F := Ideal) v99 (k0_pay36 (F := Ideal) v99)) (k0_pay40 (F := Ideal) (k0_pay14 (F := Ideal) v27 v31 v34 v39) (k0_pay15 (F := Ideal) v27 v31 v34 v39)) (k0_pay41 (F := Ideal) ) (ix2 t k)
      = inner (rowsOf v99) (lanesOf (k0_pay13 (F := Ideal) v27 v31)) (lanesOf (k0_pay14 (F := Ideal) v27 v31 v34 v39)) t (hcol 10 k) := by
  rw [inner_head]
  pointwise [k0_pay42, k0_pay16, k0_pay17, k0_pay40, k0_pay15, k0_pay41]
  exact Finset.sum_congr rfl fun s _ => head_term v27 v31 v34 v39 v99 v100 hM h100 10 1 (by decide) t s _ (pay37_at v99 t s) _

theorem head11 (t : Fin 128) (k : Fin 64) :
    k0_pay43 (F := Ideal) (k0_pay14 (F := Ideal) v27 v31 v34 v39) (k0_pay15 (F := Ideal) v27 v31 v34 v39) (k0_pay16 (F := Ideal) v27 v31) (k0_pay17 (F := Ideal) v39) v100 (k0_pay37 (F := Ideal) v99 (k0_pay36 (F := Ideal) v99)) (ix2 t k)
      = inner (rowsOf v99) (lanesOf (k0_pay13 (F := Ideal) v27 v31)) (lanesOf (k0_pay14 (F := Ideal) v27 v31 v34 v39)) t (hcol 11 k) := by
  rw [inner_head]
  pointwise [k0_pay43, k0_pay15, k0_pay16, k0_pay17]
  exact Finset.sum_congr rfl fun s _ => head_term v27 v31 v34 v39 v99 v100 hM h100 11 1 (by decide) t s _ (pay37_at v99 t s) _

theorem head12 (t : Fin 128) (k : Fin 64) :
    k0_pay45 (F := Ideal) (k0_pay44 (F := Ideal) (k0_pay14 (F := Ideal) v27 v31 v34 v39) (k0_pay15 (F := Ideal) v27 v31 v34 v39) (k0_pay16 (F := Ideal) v27 v31) (k0_pay17 (F := Ideal) v39) v100 (k0_pay37 (F := Ideal) v99 (k0_pay36 (F := Ideal) v99))) (ix2 t k)
      = inner (rowsOf v99) (lanesOf (k0_pay13 (F := Ideal) v27 v31)) (lanesOf (k0_pay14 (F := Ideal) v27 v31 v34 v39)) t (hcol 12 k) := by
  rw [inner_head]
  pointwise [k0_pay45, k0_pay44, k0_pay15, k0_pay16, k0_pay17]
  exact Finset.sum_congr rfl fun s _ => head_term v27 v31 v34 v39 v99 v100 hM h100 12 1 (by decide) t s _ (pay37_at v99 t s) _

theorem head13 (t : Fin 128) (k : Fin 64) :
    k0_pay46 (F := Ideal) (k0_pay14 (F := Ideal) v27 v31 v34 v39) (k0_pay15 (F := Ideal) v27 v31 v34 v39) (k0_pay16 (F := Ideal) v27 v31) (k0_pay17 (F := Ideal) v39) v100 (k0_pay37 (F := Ideal) v99 (k0_pay36 (F := Ideal) v99)) (ix2 t k)
      = inner (rowsOf v99) (lanesOf (k0_pay13 (F := Ideal) v27 v31)) (lanesOf (k0_pay14 (F := Ideal) v27 v31 v34 v39)) t (hcol 13 k) := by
  rw [inner_head]
  pointwise [k0_pay46, k0_pay15, k0_pay16, k0_pay17]
  exact Finset.sum_congr rfl fun s _ => head_term v27 v31 v34 v39 v99 v100 hM h100 13 1 (by decide) t s _ (pay37_at v99 t s) _

theorem head14 (t : Fin 128) (k : Fin 64) :
    k0_pay47 (F := Ideal) (k0_pay14 (F := Ideal) v27 v31 v34 v39) (k0_pay15 (F := Ideal) v27 v31 v34 v39) (k0_pay16 (F := Ideal) v27 v31) (k0_pay17 (F := Ideal) v39) v100 (k0_pay37 (F := Ideal) v99 (k0_pay36 (F := Ideal) v99)) (ix2 t k)
      = inner (rowsOf v99) (lanesOf (k0_pay13 (F := Ideal) v27 v31)) (lanesOf (k0_pay14 (F := Ideal) v27 v31 v34 v39)) t (hcol 14 k) := by
  rw [inner_head]
  pointwise [k0_pay47, k0_pay15, k0_pay16, k0_pay17]
  exact Finset.sum_congr rfl fun s _ => head_term v27 v31 v34 v39 v99 v100 hM h100 14 1 (by decide) t s _ (pay37_at v99 t s) _

theorem head15 (t : Fin 128) (k : Fin 64) :
    k0_pay50 (F := Ideal) (k0_pay16 (F := Ideal) v27 v31) (k0_pay17 (F := Ideal) v39) v100 (k0_pay37 (F := Ideal) v99 (k0_pay36 (F := Ideal) v99)) (k0_pay48 (F := Ideal) (k0_pay14 (F := Ideal) v27 v31 v34 v39) (k0_pay15 (F := Ideal) v27 v31 v34 v39)) (k0_pay49 (F := Ideal) ) (ix2 t k)
      = inner (rowsOf v99) (lanesOf (k0_pay13 (F := Ideal) v27 v31)) (lanesOf (k0_pay14 (F := Ideal) v27 v31 v34 v39)) t (hcol 15 k) := by
  rw [inner_head]
  pointwise [k0_pay50, k0_pay16, k0_pay17, k0_pay48, k0_pay15, k0_pay49]
  exact Finset.sum_congr rfl fun s _ => head_term v27 v31 v34 v39 v99 v100 hM h100 15 1 (by decide) t s _ (pay37_at v99 t s) _

theorem head16 (t : Fin 128) (k : Fin 64) :
    k0_pay52 (F := Ideal) (k0_pay14 (F := Ideal) v27 v31 v34 v39) (k0_pay15 (F := Ideal) v27 v31 v34 v39) (k0_pay16 (F := Ideal) v27 v31) (k0_pay17 (F := Ideal) v39) v99 v100 (ix2 t k)
      = inner (rowsOf v99) (lanesOf (k0_pay13 (F := Ideal) v27 v31)) (lanesOf (k0_pay14 (F := Ideal) v27 v31 v34 v39)) t (hcol 16 k) := by
  rw [inner_head]
  pointwise [k0_pay52, k0_pay15, k0_pay16, k0_pay17]
  exact Finset.sum_congr rfl fun s _ => head_term v27 v31 v34 v39 v99 v100 hM h100 16 2 (by decide) t s _ (pay51_at v99 t s) _

theorem head17 (t : Fin 128) (k : Fin 64) :
    k0_pay54 (F := Ideal) v100 (k0_pay53 (F := Ideal) (k0_pay14 (F := Ideal) v27 v31 v34 v39) (k0_pay15 (F := Ideal) v27 v31 v34 v39) (k0_pay16 (F := Ideal) v27 v31) (k0_pay17 (F := Ideal) v39) v99) (ix2 t k)
      = inner (rowsOf v99) (lanesOf (k0_pay13 (F := Ideal) v27 v31)) (lanesOf (k0_pay14 (F := Ideal) v27 v31 v34 v39)) t (hcol 17 k) := by
  rw [inner_head]
  pointwise [k0_pay54, k0_pay53, k0_pay15, k0_pay16, k0_pay17]
  exact Finset.sum_congr rfl fun s _ => head_term v27 v31 v34 v39 v99 v100 hM h100 17 2 (by decide) t s _ (pay51_at v99 t s) _

theorem head18 (t : Fin 128) (k : Fin 64) :
    k0_pay55 (F := Ideal) (k0_pay14 (F := Ideal) v27 v31 v34 v39) (k0_pay15 (F := Ideal) v27 v31 v34 v39) (k0_pay16 (F := Ideal) v27 v31) (k0_pay17 (F := Ideal) v39) v100 (k0_pay51 (F := Ideal) v99) (ix2 t k)
      = inner (rowsOf v99) (lanesOf (k0_pay13 (F := Ideal) v27 v31)) (lanesOf (k0_pay14 (F := Ideal) v27 v31 v34 v39)) t (hcol 18 k) := by
  rw [inner_head]
  pointwise [k0_pay55, k0_pay15, k0_pay16, k0_pay17]
  exact Finset.sum_congr rfl fun s _ => head_term v27 v31 v34 v39 v99 v100 hM h100 18 2 (by decide) t s _ (pay51_at v99 t s) _

theorem head19 (t : Fin 128) (k : Fin 64) :
    k0_pay56 (F := Ideal) (k0_pay14 (F := Ideal) v27 v31 v34 v39) (k0_pay15 (F := Ideal) v27 v31 v34 v39) (k0_pay16 (F := Ideal) v27 v31) (k0_pay17 (F := Ideal) v39) v100 (k0_pay51 (F := Ideal) v99) (ix2 t k)
      = inner (rowsOf v99) (lanesOf (k0_pay13 (F := Ideal) v27 v31)) (lanesOf (k0_pay14 (F := Ideal) v27 v31 v34 v39)) t (hcol 19 k) := by
  rw [inner_head]
  pointwise [k0_pay56, k0_pay15, k0_pay16, k0_pay17]
  exact Finset.sum_congr rfl fun s _ => head_term v27 v31 v34 v39 v99 v100 hM h100 19 2 (by decide) t s _ (pay51_at v99 t s) _

theorem head20 (t : Fin 128) (k : Fin 64) :
    k0_pay58 (F := Ideal) (k0_pay15 (F := Ideal) v27 v31 v34 v39) (k0_pay16 (F := Ideal) v27 v31) (k0_pay17 (F := Ideal) v39) v100 (k0_pay51 (F := Ideal) v99) (k0_pay57 (F := Ideal) (k0_pay14 (F := Ideal) v27 v31 v34 v39)) (ix2 t k)
      = inner (rowsOf v99) (lanesOf (k0_pay13 (F := Ideal) v27 v31)) (lanesOf (k0_pay14 (F := Ideal) v27 v31 v34 v39)) t (hcol 20 k) := by
  rw [inner_head]
  pointwise [k0_pay58, k0_pay15, k0_pay16, k0_pay17, k0_pay57]
  exact Finset.sum_congr rfl fun s _ => head_term v27 v31 v34 v39 v99 v100 hM h100 20 2 (by decide) t s _ (pay51_at v99 t s) _

theorem head21 (t : Fin 128) (k : Fin 64) :
    k0_pay59 (F := Ideal) (k0_pay14 (F := Ideal) v27 v31 v34 v39) (k0_pay15 (F := Ideal) v27 v31 v34 v39) (k0_pay16 (F := Ideal) v27 v31) (k0_pay17 (F := Ideal) v39) v100 (k0_pay51 (F := Ideal) v99) (ix2 t k)
      = inner (rowsOf v99) (lanesOf (k0_pay13 (F := Ideal) v27 v31)) (lanesOf (k0_pay14 (F := Ideal) v27 v31 v34 v39)) t (hcol 21 k) := by
  rw [inner_head]
  pointwise [k0_pay59, k0_pay15, k0_pay16, k0_pay17]
  exact Finset.sum_congr rfl fun s _ => head_term v27 v31 v34 v39 v99 v100 hM h100 21 2 (by decide) t s _ (pay51_at v99 t s) _

theorem head22 (t : Fin 128) (k : Fin 64) :
    k0_pay61 (F := Ideal) v100 (k0_pay60 (F := Ideal) (k0_pay14 (F := Ideal) v27 v31 v34 v39) (k0_pay15 (F := Ideal) v27 v31 v34 v39) (k0_pay16 (F := Ideal) v27 v31) (k0_pay17 (F := Ideal) v39) (k0_pay51 (F := Ideal) v99)) (ix2 t k)
      = inner (rowsOf v99) (lanesOf (k0_pay13 (F := Ideal) v27 v31)) (lanesOf (k0_pay14 (F := Ideal) v27 v31 v34 v39)) t (hcol 22 k) := by
  rw [inner_head]
  pointwise [k0_pay61, k0_pay60, k0_pay15, k0_pay16, k0_pay17]
  exact Finset.sum_congr rfl fun s _ => head_term v27 v31 v34 v39 v99 v100 hM h100 22 2 (by decide) t s _ (pay51_at v99 t s) _

theorem head23 (t : Fin 128) (k : Fin 64) :
    k0_pay62 (F := Ideal) (k0_pay14 (F := Ideal) v27 v31 v34 v39) (k0_pay15 (F := Ideal) v27 v31 v34 v39) (k0_pay16 (F := Ideal) v27 v31) (k0_pay17 (F := Ideal) v39) v100 (k0_pay51 (F := Ideal) v99) (ix2 t k)
      = inner (rowsOf v99) (lanesOf (k0_pay13 (F := Ideal) v27 v31)) (lanesOf (k0_pay14 (F := Ideal) v27 v31 v34 v39)) t (hcol 23 k) := by
  rw [inner_head]
  pointwise [k0_pay62, k0_pay15, k0_pay16, k0_pay17]
  exact Finset.sum_congr rfl fun s _ => head_term v27 v31 v34 v39 v99 v100 hM h100 23 2 (by decide) t s _ (pay51_at v99 t s) _

theorem head24 (t : Fin 128) (k : Fin 64) :
    k0_pay65 (F := Ideal) (k0_pay64 (F := Ideal) (k0_pay14 (F := Ideal) v27 v31 v34 v39) (k0_pay15 (F := Ideal) v27 v31 v34 v39) (k0_pay16 (F := Ideal) v27 v31) (k0_pay17 (F := Ideal) v39) v99 v100) (ix2 t k)
      = inner (rowsOf v99) (lanesOf (k0_pay13 (F := Ideal) v27 v31)) (lanesOf (k0_pay14 (F := Ideal) v27 v31 v34 v39)) t (hcol 24 k) := by
  rw [inner_head]
  pointwise [k0_pay65, k0_pay64, k0_pay15, k0_pay16, k0_pay17]
  exact Finset.sum_congr rfl fun s _ => head_term v27 v31 v34 v39 v99 v100 hM h100 24 3 (by decide) t s _ (pay63_at v99 t s) _

theorem head25 (t : Fin 128) (k : Fin 64) :
    k0_pay66 (F := Ideal) (k0_pay14 (F := Ideal) v27 v31 v34 v39) (k0_pay15 (F := Ideal) v27 v31 v34 v39) (k0_pay16 (F := Ideal) v27 v31) (k0_pay17 (F := Ideal) v39) v100 (k0_pay63 (F := Ideal) v99) (ix2 t k)
      = inner (rowsOf v99) (lanesOf (k0_pay13 (F := Ideal) v27 v31)) (lanesOf (k0_pay14 (F := Ideal) v27 v31 v34 v39)) t (hcol 25 k) := by
  rw [inner_head]
  pointwise [k0_pay66, k0_pay15, k0_pay16, k0_pay17]
  exact Finset.sum_congr rfl fun s _ => head_term v27 v31 v34 v39 v99 v100 hM h100 25 3 (by decide) t s _ (pay63_at v99 t s) _

theorem head26 (t : Fin 128) (k : Fin 64) :
    k0_pay67 (F := Ideal) (k0_pay14 (F := Ideal) v27 v31 v34 v39) (k0_pay15 (F := Ideal) v27 v31 v34 v39) (k0_pay16 (F := Ideal) v27 v31) (k0_pay17 (F := Ideal) v39) v100 (k0_pay63 (F := Ideal) v99) (ix2 t k)
      = inner (rowsOf v99) (lanesOf (k0_pay13 (F := Ideal) v27 v31)) (lanesOf (k0_pay14 (F := Ideal) v27 v31 v34 v39)) t (hcol 26 k) := by
  rw [inner_head]
  pointwise [k0_pay67, k0_pay15, k0_pay16, k0_pay17]
  exact Finset.sum_congr rfl fun s _ => head_term v27 v31 v34 v39 v99 v100 hM h100 26 3 (by decide) t s _ (pay63_at v99 t s) _

theorem head27 (t : Fin 128) (k : Fin 64) :
    k0_pay70 (F := Ideal) (k0_pay16 (F := Ideal) v27 v31) (k0_pay17 (F := Ideal) v39) v100 (k0_pay63 (F := Ideal) v99) (k0_pay68 (F := Ideal) (k0_pay14 (F := Ideal) v27 v31 v34 v39) (k0_pay15 (F := Ideal) v27 v31 v34 v39)) (k0_pay69 (F := Ideal) ) (ix2 t k)
      = inner (rowsOf v99) (lanesOf (k0_pay13 (F := Ideal) v27 v31)) (lanesOf (k0_pay14 (F := Ideal) v27 v31 v34 v39)) t (hcol 27 k) := by
  rw [inner_head]
  pointwise [k0_pay70, k0_pay16, k0_pay17, k0_pay68, k0_pay15, k0_pay69]
  exact Finset.sum_congr rfl fun s _ => head_term v27 v31 v34 v39 v99 v100 hM h100 27 3 (by decide) t s _ (pay63_at v99 t s) _

theorem head28 (t : Fin 128) (k : Fin 64) :
    k0_pay71 (F := Ideal) (k0_pay14 (F := Ideal) v27 v31 v34 v39) (k0_pay15 (F := Ideal) v27 v31 v34 v39) (k0_pay16 (F := Ideal) v27 v31) (k0_pay17 (F := Ideal) v39) v100 (k0_pay63 (F := Ideal) v99) (ix2 t k)
      = inner (rowsOf v99) (lanesOf (k0_pay13 (F := Ideal) v27 v31)) (lanesOf (k0_pay14 (F := Ideal) v27 v31 v34 v39)) t (hcol 28 k) := by
  rw [inner_head]
  pointwise [k0_pay71, k0_pay15, k0_pay16, k0_pay17]
  exact Finset.sum_congr rfl fun s _ => head_term v27 v31 v34 v39 v99 v100 hM h100 28 3 (by decide) t s _ (pay63_at v99 t s) _

theorem head29 (t : Fin 128) (k : Fin 64) :
    k0_pay73 (F := Ideal) (k0_pay72 (F := Ideal) (k0_pay14 (F := Ideal) v27 v31 v34 v39) (k0_pay15 (F := Ideal) v27 v31 v34 v39) (k0_pay16 (F := Ideal) v27 v31) (k0_pay17 (F := Ideal) v39) v100 (k0_pay63 (F := Ideal) v99)) (ix2 t k)
      = inner (rowsOf v99) (lanesOf (k0_pay13 (F := Ideal) v27 v31)) (lanesOf (k0_pay14 (F := Ideal) v27 v31 v34 v39)) t (hcol 29 k) := by
  rw [inner_head]
  pointwise [k0_pay73, k0_pay72, k0_pay15, k0_pay16, k0_pay17]
  exact Finset.sum_congr rfl fun s _ => head_term v27 v31 v34 v39 v99 v100 hM h100 29 3 (by decide) t s _ (pay63_at v99 t s) _

theorem head30 (t : Fin 128) (k : Fin 64) :
    k0_pay74 (F := Ideal) (k0_pay14 (F := Ideal) v27 v31 v34 v39) (k0_pay15 (F := Ideal) v27 v31 v34 v39) (k0_pay16 (F := Ideal) v27 v31) (k0_pay17 (F := Ideal) v39) v100 (k0_pay63 (F := Ideal) v99) (ix2 t k)
      = inner (rowsOf v99) (lanesOf (k0_pay13 (F := Ideal) v27 v31)) (lanesOf (k0_pay14 (F := Ideal) v27 v31 v34 v39)) t (hcol 30 k) := by
  rw [inner_head]
  pointwise [k0_pay74, k0_pay15, k0_pay16, k0_pay17]
  exact Finset.sum_congr rfl fun s _ => head_term v27 v31 v34 v39 v99 v100 hM h100 30 3 (by decide) t s _ (pay63_at v99 t s) _

theorem head31 (t : Fin 128) (k : Fin 64) :
    k0_pay75 (F := Ideal) (k0_pay14 (F := Ideal) v27 v31 v34 v39) (k0_pay15 (F := Ideal) v27 v31 v34 v39) (k0_pay16 (F := Ideal) v27 v31) (k0_pay17 (F := Ideal) v39) v100 (k0_pay63 (F := Ideal) v99) (ix2 t k)
      = inner (rowsOf v99) (lanesOf (k0_pay13 (F := Ideal) v27 v31)) (lanesOf (k0_pay14 (F := Ideal) v27 v31 v34 v39)) t (hcol 31 k) := by
  rw [inner_head]
  pointwise [k0_pay75, k0_pay15, k0_pay16, k0_pay17]
  exact Finset.sum_congr rfl fun s _ => head_term v27 v31 v34 v39 v99 v100 hM h100 31 3 (by decide) t s _ (pay63_at v99 t s) _

end Heads

end Cert.Kernel2Ideal.Ssm

end
-- ==== Proof.SsmMix.lean ====
/- The state after a chunk of the state-space kernel, the mixed row and the stored row, at an index. -/
module

public import Idealize.ShloMosaic.Lib.Pipeline.ValueKit
public import Idealize.ShloMosaic.Lib.Pointwise
public import proofs.«01_k».proof.Proof.Gen.Kernel2Ideal.Value
public import proofs.«01_k».proof.Proof.SsmPay

@[expose] public section

set_option maxRecDepth 16384

noncomputable section

namespace Cert.Kernel2Ideal.Ssm

open Cert.Kernel2Ideal Cert.Kernel2Ideal.Gen Idealize.ShloMosaic Idealize.ShloMosaic.TcCoe Idealize.SL.Sem Cert.Ssm Cert.Ffn

theorem gcol0 (k : Fin 512) : (⟨k.val, by omega⟩ : Fin 2048) = gcol 0 k := Fin.ext (by show k.val = 0 * 512 + k.val; omega)

theorem hd_lane (c : Fin 2048) (h : Fin 128) : (if h.val = c.val / 64 then (1 : EReal) else 0) = if h = lane (hd c) then 1 else 0 :=
  if_congr (by rw [Fin.ext_iff]; rfl) rfl rfl

/-- A block spread from lanes to columns, in two parts whose second is zero at a finite lane. -/
theorem spread (v : Fin 128 → EReal) (e : Fin 128 → EReal) (c : Fin 2048)
    (hE : ∀ h : Fin 128, e h = if h.val = c.val / 64 then (1 : EReal) else 0) (hf : Fin' (v (lane (hd c)))) :
    (∑ h, v h * e h) + ∑ h, (v h - v h) * e h = v (lane (hd c)) := by
  simp only [hE, hd_lane, sum_onehot]
  rw [hf.sub_self, add_zero]

section

variable (v27 v31 : FVec Ideal S128x128 .f32) (v34 : FVec Ideal S1x128 .f32) (v39 : FVec Ideal S128x128 .bf16)
  (v99 : FVec Ideal S128x3072 .f32) (v100 : FVec Ideal S128x2048 .f32) (v730 : FVec Ideal S128x2048 .bf16)
  (hE : ∀ (h : Fin 128) (c : Fin 2048), v730 (ix2 h c) = if h.val = c.val / 64 then (1 : EReal) else 0)
  (h100 : ∀ s c, v100 (ix2 s c) = rowsOf v99 s (xcol c))
  (hac : ∀ t h, Fin' (lanesOf (k0_pay14 (F := Ideal) v27 v31 v34 v39) t h))
  (hdt : ∀ t h, Fin' (lanesOf (k0_pay13 (F := Ideal) v27 v31) t h))

include hE

include hac in
theorem pay79_at (t : Fin 128) (c : Fin 2048) :
    k0_pay79 (F := Ideal) v730 (k0_pay77 (F := Ideal) (k0_pay18 (F := Ideal) v27 v31 v34 v39))
      (k0_pay78 (F := Ideal) (k0_pay18 (F := Ideal) v27 v31 v34 v39)) (ix2 t c)
      = Ideal.exp (lanesOf (k0_pay14 (F := Ideal) v27 v31 v34 v39) t (hd c)) := by
  pointwise [k0_pay79, k0_pay77, k0_pay78, k0_pay18]
  exact spread (fun h => Ideal.exp (k0_pay14 (F := Ideal) v27 v31 v34 v39 (ix2 t h))) (fun h => v730 (ix2 h c)) c (fun h => hE h c)
    (hac t (hd c)).exp

include h100 hac hdt in
theorem pay80_at (s : Fin 128) (c : Fin 2048) :
    k0_pay80 (F := Ideal) (k0_pay19 (F := Ideal) v27 v31 v34 v39) v100 v730 (ix2 s c)
      = rowsOf v99 s (xcol c) * (Ideal.exp (lanesOf (k0_pay14 (F := Ideal) v27 v31 v34 v39) 127 (hd c)
          - lanesOf (k0_pay14 (F := Ideal) v27 v31 v34 v39) s (hd c)) * lanesOf (k0_pay13 (F := Ideal) v27 v31) s (hd c)) := by
  have h := spread (fun h => k0_pay19 (F := Ideal) v27 v31 v34 v39 (ix2 s h)) (fun h => v730 (ix2 h c)) c (fun h => hE h c)
    (by rw [pay19_at]; exact ((hac 127 (hd c)).sub (hac s (hd c))).exp.mul (hdt s (hd c)))
  pointwise [k0_pay80]
  refine congrArg₂ (· * ·) (h100 s c) (h.trans ?_)
  rw [pay19_at]
  rfl

include h100 hac hdt

theorem state0 (v755 : FVec Ideal S128x512 .f32) (H : Fin 2048 → Fin 128 → EReal)
    (hH : ∀ n k, v755 (ix2 n k) = H (gcol 0 k) n) (n : Fin 128) (k : Fin 512) :
    k0_pay83 (F := Ideal) (k0_pay19 (F := Ideal) v27 v31 v34 v39) v99 v100 v730 (k0_pay77 (F := Ideal) (k0_pay18 (F := Ideal) v27 v31 v34 v39)) (k0_pay78 (F := Ideal) (k0_pay18 (F := Ideal) v27 v31 v34 v39)) v755 (ix2 n k)
      = next (rowsOf v99) (lanesOf (k0_pay13 (F := Ideal) v27 v31)) (lanesOf (k0_pay14 (F := Ideal) v27 v31 v34 v39)) H (gcol 0 k) n := by
  have h1 := pay79_at v27 v31 v34 v39 v730 hE hac 127 (gcol 0 k)
  have h2 := fun s => pay80_at v27 v31 v34 v39 v99 v100 v730 hE h100 hac hdt s (gcol 0 k)
  unfold next
  rw [← h1, gr_gcol, ← hH]
  simp only [← h2]
  pointwise [k0_pay83, k0_pay81]
  refine congrArg₂ (· + ·) (congrArg (fun c : Fin 2048 => v755 (ix2 n k) * k0_pay79 (F := Ideal) v730
    (k0_pay77 (F := Ideal) (k0_pay18 (F := Ideal) v27 v31 v34 v39)) (k0_pay78 (F := Ideal) (k0_pay18 (F := Ideal) v27 v31 v34 v39))
      (ix2 127 c)) (gcol0 k)) (Finset.sum_congr rfl fun s _ => congrArg₂ (· * ·) rfl ?_)
  exact congrArg (fun c : Fin 2048 => k0_pay80 (F := Ideal) (k0_pay19 (F := Ideal) v27 v31 v34 v39) v100 v730 (ix2 s c)) (gcol0 k)

theorem state1 (v772 : FVec Ideal S128x512 .f32) (H : Fin 2048 → Fin 128 → EReal)
    (hH : ∀ n k, v772 (ix2 n k) = H (gcol 1 k) n) (n : Fin 128) (k : Fin 512) :
    k0_pay87 (F := Ideal) (k0_pay80 (F := Ideal) (k0_pay19 (F := Ideal) v27 v31 v34 v39) v100 v730) (k0_pay84 (F := Ideal) v99) (k0_pay86 (F := Ideal) v730 (k0_pay77 (F := Ideal) (k0_pay18 (F := Ideal) v27 v31 v34 v39)) (k0_pay78 (F := Ideal) (k0_pay18 (F := Ideal) v27 v31 v34 v39)) v772) (ix2 n k)
      = next (rowsOf v99) (lanesOf (k0_pay13 (F := Ideal) v27 v31)) (lanesOf (k0_pay14 (F := Ideal) v27 v31 v34 v39)) H (gcol 1 k) n := by
  have h1 := pay79_at v27 v31 v34 v39 v730 hE hac 127 (gcol 1 k)
  have h2 := fun s => pay80_at v27 v31 v34 v39 v99 v100 v730 hE h100 hac hdt s (gcol 1 k)
  unfold next
  rw [← h1, gr_gcol, ← hH]
  simp only [← h2]
  pointwise [k0_pay87, k0_pay84, k0_pay86, k0_pay81]
  rfl

theorem state2 (v789 : FVec Ideal S128x512 .f32) (H : Fin 2048 → Fin 128 → EReal)
    (hH : ∀ n k, v789 (ix2 n k) = H (gcol 2 k) n) (n : Fin 128) (k : Fin 512) :
    k0_pay89 (F := Ideal) v99 (k0_pay80 (F := Ideal) (k0_pay19 (F := Ideal) v27 v31 v34 v39) v100 v730) (k0_pay81 (F := Ideal) v730 (k0_pay77 (F := Ideal) (k0_pay18 (F := Ideal) v27 v31 v34 v39)) (k0_pay78 (F := Ideal) (k0_pay18 (F := Ideal) v27 v31 v34 v39))) v789 (ix2 n k)
      = next (rowsOf v99) (lanesOf (k0_pay13 (F := Ideal) v27 v31)) (lanesOf (k0_pay14 (F := Ideal) v27 v31 v34 v39)) H (gcol 2 k) n := by
  have h1 := pay79_at v27 v31 v34 v39 v730 hE hac 127 (gcol 2 k)
  have h2 := fun s => pay80_at v27 v31 v34 v39 v99 v100 v730 hE h100 hac hdt s (gcol 2 k)
  unfold next
  rw [← h1, gr_gcol, ← hH]
  simp only [← h2]
  pointwise [k0_pay89, k0_pay81]
  rfl

theorem state3 (v806 : FVec Ideal S128x512 .f32) (H : Fin 2048 → Fin 128 → EReal)
    (hH : ∀ n k, v806 (ix2 n k) = H (gcol 3 k) n) (n : Fin 128) (k : Fin 512) :
    k0_pay91 (F := Ideal) v99 (k0_pay80 (F := Ideal) (k0_pay19 (F := Ideal) v27 v31 v34 v39) v100 v730) (k0_pay81 (F := Ideal) v730 (k0_pay77 (F := Ideal) (k0_pay18 (F := Ideal) v27 v31 v34 v39)) (k0_pay78 (F := Ideal) (k0_pay18 (F := Ideal) v27 v31 v34 v39))) v806 (ix2 n k)
      = next (rowsOf v99) (lanesOf (k0_pay13 (F := Ideal) v27 v31)) (lanesOf (k0_pay14 (F := Ideal) v27 v31 v34 v39)) H (gcol 3 k) n := by
  have h1 := pay79_at v27 v31 v34 v39 v730 hE hac 127 (gcol 3 k)
  have h2 := fun s => pay80_at v27 v31 v34 v39 v99 v100 v730 hE h100 hac hdt s (gcol 3 k)
  unfold next
  rw [← h1, gr_gcol, ← hH]
  simp only [← h2]
  pointwise [k0_pay91, k0_pay81]
  rfl

end

/-! ## The mixed row -/

theorem carried_at (v99 : FVec Ideal S128x3072 .f32) (H : Fin 2048 → Fin 128 → EReal) (g : Fin 4) (v : FVec Ideal S128x512 .f32)
    (hv : ∀ n k, v (ix2 n k) = H (gcol g k) n) (t : Fin 128) (c : Fin 2048) (k : Fin 512) (hk : c = gcol g k) :
    ∑ n, v99 (ix2 t (ccol g n)) * v (ix2 n k) = carried (rowsOf v99) H t c := by
  subst hk
  unfold carried
  rw [gr_gcol]
  exact Finset.sum_congr rfl fun n _ => congrArg (v99 (ix2 t (ccol g n)) * ·) (hv n k)

theorem pay92_at (v99 : FVec Ideal S128x3072 .f32) (v100 v739 : FVec Ideal S128x2048 .f32)
    (v755 v772 v789 v806 : FVec Ideal S128x512 .f32) (v820 : FVec Ideal S128x2048 .f32) (v824 : FVec Ideal S1x2048 .f32)
    (H : Fin 2048 → Fin 128 → EReal)
    (h0 : ∀ n k, v755 (ix2 n k) = H (gcol 0 k) n) (h1 : ∀ n k, v772 (ix2 n k) = H (gcol 1 k) n)
    (h2 : ∀ n k, v789 (ix2 n k) = H (gcol 2 k) n) (h3 : ∀ n k, v806 (ix2 n k) = H (gcol 3 k) n) (t : Fin 128) (c : Fin 2048) :
    k0_pay92 (F := Ideal) v100 v739 (k0_pay82 (F := Ideal) v99 v755) (k0_pay85 (F := Ideal) v99 v772)
      (k0_pay88 (F := Ideal) v99 v789) (k0_pay90 (F := Ideal) v99 v806) v820 v824 (ix2 t c)
      = v820 (ix2 t c) + v739 (ix2 t c) * carried (rowsOf v99) H t c + v824 (ix2 0 c) * v100 (ix2 t c) := by
  pointwise [k0_pay92, k0_pay82, k0_pay85, k0_pay88, k0_pay90]
  refine congrArg (· + v824 (ix2 0 c) * v100 (ix2 t c)) (congrArg (v820 (ix2 t c) + v739 (ix2 t c) * ·) ?_)
  have hc := c.isLt
  split
  · exact carried_at v99 H 0 v755 h0 t c _ (Fin.ext (by show c.val = 0 * 512 + c.val; omega))
  split
  · exact carried_at v99 H 1 v772 h1 t c _ (Fin.ext (by show c.val = 1 * 512 + (c.val - 512); omega))
  split
  · exact carried_at v99 H 2 v789 h2 t c _ (Fin.ext (by show c.val = 2 * 512 + (c.val - 512 - 512); omega))
  · exact carried_at v99 H 3 v806 h3 t c _ (Fin.ext (by show c.val = 3 * 512 + (c.val - 512 - 512 - 512); omega))

/-! ## The normalised row -/

/-- A column's gated and normalised value by its group. -/
theorem gnorm_group (y z nw : Fin 2048 → EReal) (g : Fin 4) (k : Fin 512) (c : Fin 2048) (hc : c = gcol g k) :
    gate y z (gcol g k) * Ideal.rsqrt (Ideal.div (∑ k : Fin 512, gate y z (gcol g k) * gate y z (gcol g k))
      (Ideal.ofBits .f32 0x44000000#32) + Ideal.ofBits .f32 0x3727C5AC#32) * nw (gcol g k) = gnorm y z nw c := by
  subst hc
  unfold gnorm meanSq
  rw [gr_gcol]
  rfl

theorem pay93_at (v15 v828 : FVec Ideal S128x2048 .f32) (nw : Fin 2048 → EReal) (v100 v739 : FVec Ideal S128x2048 .f32)
    (v757 v774 v791 v808 : FVec Ideal S128x512 .f32) (v820 : FVec Ideal S128x2048 .f32) (v824 : FVec Ideal S1x2048 .f32)
    (v831 : FVec Ideal S1x512 .f32) (h828 : k0_pay92 (F := Ideal) v100 v739 v757 v774 v791 v808 v820 v824 = v828)
    (h831 : ∀ k, v831 (ix2 0 k) = nw (gcol 0 k)) (t : Fin 128) (k : Fin 512) :
    k0_pay93 (F := Ideal) v15 v100 v739 v757 v774 v791 v808 v820 v824 v831 (ix2 t k)
      = gnorm (fun c => v828 (ix2 t c)) (fun c => v15 (ix2 t c)) nw (gcol 0 k) := by
  rw [← gnorm_group _ _ _ 0 k _ rfl, ← h831]
  pointwise [k0_pay93]
  rw [h828]
  simp only [gcol0]
  rfl

theorem pay94_at (v15 v828 : FVec Ideal S128x2048 .f32) (nw : Fin 2048 → EReal) (v100 v739 : FVec Ideal S128x2048 .f32)
    (v757 v774 v791 v808 : FVec Ideal S128x512 .f32) (v820 : FVec Ideal S128x2048 .f32) (v824 : FVec Ideal S1x2048 .f32)
    (v850 : FVec Ideal S1x512 .f32) (h828 : k0_pay92 (F := Ideal) v100 v739 v757 v774 v791 v808 v820 v824 = v828)
    (h850 : ∀ k, v850 (ix2 0 k) = nw (gcol 1 k)) (t : Fin 128) (k : Fin 512) :
    k0_pay94 (F := Ideal) v15 v100 v739 v757 v774 v791 v808 v820 v824 (ix2 t k) * k0_pay95 (F := Ideal) v850 (ix2 t k)
      = gnorm (fun c => v828 (ix2 t c)) (fun c => v15 (ix2 t c)) nw (gcol 1 k) := by
  rw [← gnorm_group _ _ _ 1 k _ rfl, ← h850]
  pointwise [k0_pay94, k0_pay95]
  rw [h828]
  rfl

theorem pay96_at (v15 v828 : FVec Ideal S128x2048 .f32) (nw : Fin 2048 → EReal) (v847 v864 v865 : FVec Ideal S128x512 .f32)
    (v869 v888 : FVec Ideal S1x512 .f32) (v907 : FVec Ideal S2048x1024 .bf16) (t : Fin 128)
    (h847 : ∀ k, v847 (ix2 t k) = gnorm (fun c => v828 (ix2 t c)) (fun c => v15 (ix2 t c)) nw (gcol 0 k))
    (h864 : ∀ k, v864 (ix2 t k) * v865 (ix2 t k) = gnorm (fun c => v828 (ix2 t c)) (fun c => v15 (ix2 t c)) nw (gcol 1 k))
    (h869 : ∀ k, v869 (ix2 0 k) = nw (gcol 2 k)) (h888 : ∀ k, v888 (ix2 0 k) = nw (gcol 3 k)) (d : Fin 1024) :
    k0_pay96 (F := Ideal) v15 v828 v847 v864 v865 v869 v888 v907 (ix2 t d)
      = ∑ c, gnorm (fun c => v828 (ix2 t c)) (fun c => v15 (ix2 t c)) nw c * v907 (ix2 c d) := by
  pointwise [k0_pay96]
  refine Finset.sum_congr rfl fun c _ => congrArg (· * v907 (ix2 c d)) ?_
  have hc := c.isLt
  split
  · exact (h847 _).trans (congrArg _ (Fin.ext (by show 0 * 512 + c.val = c.val; omega)))
  split
  · exact (h864 _).trans (congrArg _ (Fin.ext (by show 1 * 512 + (c.val - 512) = c.val; omega)))
  split
  · rw [h869]
    exact gnorm_group (fun c => v828 (ix2 t c)) (fun c => v15 (ix2 t c)) nw 2 ⟨c.val - 512 - 512, by omega⟩ c (Fin.ext (by show c.val = 2 * 512 + (c.val - 512 - 512); omega))
  · rw [h888]
    exact gnorm_group (fun c => v828 (ix2 t c)) (fun c => v15 (ix2 t c)) nw 3 ⟨c.val - 512 - 512 - 512, by omega⟩ c (Fin.ext (by show c.val = 3 * 512 + (c.val - 512 - 512 - 512); omega))

theorem pay98_at (v909 : FVec Ideal S128x1024 .f32) (v6 : FVec Ideal S1x128x1024 .f32) (v913 v915 : FVec Ideal S1x1024 .f32)
    (t : Fin 128) (d : Fin 1024) :
    k0_pay98 (F := Ideal) v909 (k0_pay97 (F := Ideal) (k0_pay5 (F := Ideal) v6)) v913 v915 (ix3 0 t d)
      = lnorm (fun k => Ideal.ofBits .f32 0x3FD744FD#32 * v6 (ix3 0 t k) + v909 (ix2 t k)) (fun k => v913 (ix2 0 k))
          (fun k => v915 (ix2 0 k)) d := by
  pointwise [k0_pay98, k0_pay97, k0_pay5]
  rfl

theorem pay8_at (v6 : FVec Ideal S1x128x1024 .f32) (v9 : FVec Ideal S1024x5120 .bf16) (t : Fin 128) (c : Fin 2048) :
    k0_pay8 (F := Ideal) v6 v9 (ix2 t c) = ∑ k, v6 (ix3 0 t k) * v9 (ix2 k ⟨c.val, by omega⟩) := by
  pointwise [k0_pay8, k0_pay7, k0_pay6, k0_pay5]

theorem pay9_at (v6 : FVec Ideal S1x128x1024 .f32) (v9 : FVec Ideal S1024x5120 .bf16) (t : Fin 128) (c : Fin 3072) :
    k0_pay9 (F := Ideal) v6 v9 (ix3 0 t c) = ∑ k, v6 (ix3 0 t k) * v9 (ix2 k ⟨2048 + c.val, by omega⟩) := by
  pointwise [k0_pay9, k0_pay7, k0_pay6, k0_pay5]

theorem pay1_at (v : FVec Ideal S128x2048 .f32) (c : Fin 2048) (n : Fin 128) :
    k0_pay1 (F := Ideal) v (ix3 0 c n) = v (ix2 n c) := by
  pointwise [k0_pay1]

theorem pay2_at (t : Fin 8) (c : Fin 3072) : k0_pay2 (F := Ideal) (ix3 0 t c) = 0 := by
  pointwise [k0_pay2]

theorem pay3_at (n : Fin 128) (c : Fin 2048) : k0_pay3 (F := Ideal) (ix2 n c) = 0 := by
  pointwise [k0_pay3]

theorem pay4_at (v : FVec Ideal S1x8x3072 .f32) (t : Fin 8) (c : Fin 3072) :
    k0_pay4 (F := Ideal) v (ix3 0 t c) = v (ix3 0 t c) := by
  pointwise [k0_pay4]

end Cert.Kernel2Ideal.Ssm

end
-- ==== Proof.SsmBuf.lean ====
module

public import Idealize.ShloMosaic.Lib.Pipeline.ValueKit
public import Idealize.ShloMosaic.Lib.Pointwise
public import proofs.«01_k».proof.Proof.Gen.Kernel2Ideal.Value
public import proofs.«01_k».proof.Proof.SsmMix
public import Idealize.ShloMosaic.Lib.StableHlo.RunLoop
public import Idealize.ShloMosaic.Lib.StableHlo.RunRead

@[expose] public section

set_option maxRecDepth 16384

noncomputable section

namespace Cert.Kernel2Ideal.Ssm

open Cert.Kernel2Ideal Cert.Kernel2Ideal.Gen Idealize.ShloMosaic Idealize.ShloMosaic.TcCoe Idealize.SL.Sem Cert.Ssm Cert.Ffn

/-- A buffer of columns written piece by piece, at an index: the newest piece that holds it. -/
theorem canon_cols {o k : ℕ} (inb : ∀ a, (![0, o] : Fin 2 → ℕ) a + (![128, k] : Fin 2 → ℕ) a ≤ S128x2048.size a)
    (w : (Rect.unit (s := S128x2048) ![0, o] ![128, k] inb).shape.Idx → EReal) (L : List (View.Piece (Elt Ideal) S128x2048 cc0_scratch1.ty.elt))
    (n : Fin 128) (c : Fin 2048) (v : EReal)
    (h1 : ∀ i : Fin k, c.val = o + i.val → w (ix2 n i) = v)
    (h2 : c.val < o ∨ o + k ≤ c.val → View.canon (Val := Elt Ideal) L (ix2 n c) = v) :
    View.canon (Val := Elt Ideal) (⟨Rect.unit (s := S128x2048) ![0, o] ![128, k] inb, w⟩ :: L) (ix2 n c) = v := by
  by_cases h : o ≤ c.val ∧ c.val < o + k
  · have e : (ix2 n c : S128x2048.Idx) = (Rect.unit (s := S128x2048) ![0, o] ![128, k] inb).emb (ix2 n (⟨c.val - o, by omega⟩ : Fin k)) := by
      refine funext fun a => Fin.ext ?_
      match a with
      | ⟨0, _⟩ => show n.val = 0 + 1 * n.val; omega
      | ⟨1, _⟩ => show c.val = o + 1 * (c.val - o); omega
    rw [e]
    exact (View.canon_cons_emb _ w L _).trans (h1 ⟨c.val - o, by omega⟩ (by show c.val = o + (c.val - o); omega))
  · refine (View.canon_cons_of_not_mem _ L ?_).trans (h2 (by omega))
    intro hm
    have hm' : _ ∈ (Rect.unit (s := S128x2048) ![0, o] ![128, k] inb).set := hm
    rw [Rect.mem_set_unit] at hm'
    exact h (hm' 1)

/-- A load of columns, at an index. -/
theorem load_cols {o k : ℕ} (inb : ∀ a, (![0, o] : Fin 2 → ℕ) a + (![128, k] : Fin 2 → ℕ) a ≤ S128x2048.size a) (ho : o + k ≤ 2048)
    (V : View sig .tc (.core .vmem) S128x2048 cc0_scratch1.ty.elt) (L : List (View.Piece (Elt Ideal) S128x2048 cc0_scratch1.ty.elt))
    (n : Fin 128) (i : Fin k) :
    View.readCov (Val := Elt Ideal) V L (Rect.unit (s := S128x2048) ![0, o] ![128, k] inb).toLoadRect (ix2 n i)
      = View.canon (Val := Elt Ideal) L (ix2 n (⟨o + i.val, by omega⟩ : Fin 2048)) := by
  rw [View.readCov_eq_canon']
  refine congrArg (View.canon (Val := Elt Ideal) L) (funext fun a => Fin.ext ?_)
  match a with
  | ⟨0, _⟩ => show 0 + 1 * n.val = n.val; omega
  | ⟨1, _⟩ => show o + 1 * i.val = o + i.val; omega

/-- The buffer of projected rows, at an index. -/
theorem canon_rows {o k : ℕ} (inb : ∀ a, (![0, o, 0] : Fin 3 → ℕ) a + (![1, k, 3072] : Fin 3 → ℕ) a ≤ S1x136x3072.size a)
    (w : (Rect.unit (s := S1x136x3072) ![0, o, 0] ![1, k, 3072] inb).shape.Idx → EReal) (L : List (View.Piece (Elt Ideal) S1x136x3072 cc0_scratch0.ty.elt))
    (r : Fin 136) (c : Fin 3072) (v : EReal)
    (h1 : ∀ i : Fin k, r.val = o + i.val → w (ix3 0 i c) = v)
    (h2 : r.val < o ∨ o + k ≤ r.val → View.canon (Val := Elt Ideal) L (ix3 0 r c) = v) :
    View.canon (Val := Elt Ideal) (⟨Rect.unit (s := S1x136x3072) ![0, o, 0] ![1, k, 3072] inb, w⟩ :: L) (ix3 0 r c) = v := by
  by_cases h : o ≤ r.val ∧ r.val < o + k
  · have e : (ix3 0 r c : S1x136x3072.Idx) = (Rect.unit (s := S1x136x3072) ![0, o, 0] ![1, k, 3072] inb).emb (ix3 0 (⟨r.val - o, by omega⟩ : Fin k) c) := by
      refine funext fun a => Fin.ext ?_
      match a with
      | ⟨0, _⟩ => rfl
      | ⟨1, _⟩ => show r.val = o + 1 * (r.val - o); omega
      | ⟨2, _⟩ => show c.val = 0 + 1 * c.val; omega
    rw [e]
    exact (View.canon_cons_emb _ w L _).trans (h1 ⟨r.val - o, by omega⟩ (by show r.val = o + (r.val - o); omega))
  · refine (View.canon_cons_of_not_mem _ L ?_).trans (h2 (by omega))
    intro hm
    have hm' : _ ∈ (Rect.unit (s := S1x136x3072) ![0, o, 0] ![1, k, 3072] inb).set := hm
    rw [Rect.mem_set_unit] at hm'
    exact h (hm' 1)

theorem load_rows {o k : ℕ} (inb : ∀ a, (![0, o, 0] : Fin 3 → ℕ) a + (![1, k, 3072] : Fin 3 → ℕ) a ≤ S1x136x3072.size a) (ho : o + k ≤ 136)
    (V : View sig .tc (.core .vmem) S1x136x3072 cc0_scratch0.ty.elt) (L : List (View.Piece (Elt Ideal) S1x136x3072 cc0_scratch0.ty.elt))
    (i : Fin k) (c : Fin 3072) :
    View.readCov (Val := Elt Ideal) V L (Rect.unit (s := S1x136x3072) ![0, o, 0] ![1, k, 3072] inb).toLoadRect (ix3 0 i c)
      = View.canon (Val := Elt Ideal) L (ix3 0 (⟨o + i.val, by omega⟩ : Fin 136) c) := by
  rw [View.readCov_eq_canon']
  refine congrArg (View.canon (Val := Elt Ideal) L) (funext fun a => Fin.ext ?_)
  match a with
  | ⟨0, _⟩ => rfl
  | ⟨1, _⟩ => show o + 1 * i.val = o + i.val; omega
  | ⟨2, _⟩ => show 0 + 1 * c.val = c.val; omega

section

variable (v27 v31 : FVec Ideal S128x128 .f32) (v34 : FVec Ideal S1x128 .f32) (v39 : FVec Ideal S128x128 .bf16)
  (v99 : FVec Ideal S128x3072 .f32) (v100 : FVec Ideal S128x2048 .f32)

/-- The rows of the heads, gathered from their pieces. -/
theorem heads_at (hM : ∀ t s : Fin 128, v39 (ix2 t s) = if s.val ≤ t.val then (1 : EReal) else 0)
    (h100 : ∀ s c, v100 (ix2 s c) = rowsOf v99 s (xcol c)) (v71 v74 : FVec Ideal S1x1x3072 .f32) (v72 v79 v85 v91 : FVec Ideal S1x128x3072 .f32)
    (v80 v86 v92 : FVec Ideal S1x3072 .f32) (h99 : v99 = k0_pay22 (F := Ideal) v71 v72 v74 v79 v80 v85 v86 v91 v92)
    (v105 : FVec Ideal S128x128 .f32) (h105 : ∀ t s, v105 (ix2 t s) = sim (rowsOf v99) 0 t s) (t : Fin 128) (c : Fin 2048) :
    View.readCov (Val := Elt Ideal) (View.whole cc0_scratch2) [
      ⟨Rect.unit ![0, 1984] ![128, 64] inb_S128x2048_S128x64_0_1984, k0_pay75 (F := Ideal) (k0_pay14 (F := Ideal) v27 v31 v34 v39) (k0_pay15 (F := Ideal) v27 v31 v34 v39) (k0_pay16 (F := Ideal) v27 v31) (k0_pay17 (F := Ideal) v39) v100 (k0_pay63 (F := Ideal) v99)⟩,
      ⟨Rect.unit ![0, 1920] ![128, 64] inb_S128x2048_S128x64_0_1920, k0_pay74 (F := Ideal) (k0_pay14 (F := Ideal) v27 v31 v34 v39) (k0_pay15 (F := Ideal) v27 v31 v34 v39) (k0_pay16 (F := Ideal) v27 v31) (k0_pay17 (F := Ideal) v39) v100 (k0_pay63 (F := Ideal) v99)⟩,
      ⟨Rect.unit ![0, 1856] ![128, 64] inb_S128x2048_S128x64_0_1856, k0_pay73 (F := Ideal) (k0_pay72 (F := Ideal) (k0_pay14 (F := Ideal) v27 v31 v34 v39) (k0_pay15 (F := Ideal) v27 v31 v34 v39) (k0_pay16 (F := Ideal) v27 v31) (k0_pay17 (F := Ideal) v39) v100 (k0_pay63 (F := Ideal) v99))⟩,
      ⟨Rect.unit ![0, 1792] ![128, 64] inb_S128x2048_S128x64_0_1792, k0_pay71 (F := Ideal) (k0_pay14 (F := Ideal) v27 v31 v34 v39) (k0_pay15 (F := Ideal) v27 v31 v34 v39) (k0_pay16 (F := Ideal) v27 v31) (k0_pay17 (F := Ideal) v39) v100 (k0_pay63 (F := Ideal) v99)⟩,
      ⟨Rect.unit ![0, 1728] ![128, 64] inb_S128x2048_S128x64_0_1728, k0_pay70 (F := Ideal) (k0_pay16 (F := Ideal) v27 v31) (k0_pay17 (F := Ideal) v39) v100 (k0_pay63 (F := Ideal) v99) (k0_pay68 (F := Ideal) (k0_pay14 (F := Ideal) v27 v31 v34 v39) (k0_pay15 (F := Ideal) v27 v31 v34 v39)) (k0_pay69 (F := Ideal) )⟩,
      ⟨Rect.unit ![0, 1664] ![128, 64] inb_S128x2048_S128x64_0_1664, k0_pay67 (F := Ideal) (k0_pay14 (F := Ideal) v27 v31 v34 v39) (k0_pay15 (F := Ideal) v27 v31 v34 v39) (k0_pay16 (F := Ideal) v27 v31) (k0_pay17 (F := Ideal) v39) v100 (k0_pay63 (F := Ideal) v99)⟩,
      ⟨Rect.unit ![0, 1600] ![128, 64] inb_S128x2048_S128x64_0_1600, k0_pay66 (F := Ideal) (k0_pay14 (F := Ideal) v27 v31 v34 v39) (k0_pay15 (F := Ideal) v27 v31 v34 v39) (k0_pay16 (F := Ideal) v27 v31) (k0_pay17 (F := Ideal) v39) v100 (k0_pay63 (F := Ideal) v99)⟩,
      ⟨Rect.unit ![0, 1536] ![128, 64] inb_S128x2048_S128x64_0_1536, k0_pay65 (F := Ideal) (k0_pay64 (F := Ideal) (k0_pay14 (F := Ideal) v27 v31 v34 v39) (k0_pay15 (F := Ideal) v27 v31 v34 v39) (k0_pay16 (F := Ideal) v27 v31) (k0_pay17 (F := Ideal) v39) v99 v100)⟩,
      ⟨Rect.unit ![0, 1472] ![128, 64] inb_S128x2048_S128x64_0_1472, k0_pay62 (F := Ideal) (k0_pay14 (F := Ideal) v27 v31 v34 v39) (k0_pay15 (F := Ideal) v27 v31 v34 v39) (k0_pay16 (F := Ideal) v27 v31) (k0_pay17 (F := Ideal) v39) v100 (k0_pay51 (F := Ideal) v99)⟩,
      ⟨Rect.unit ![0, 1408] ![128, 64] inb_S128x2048_S128x64_0_1408, k0_pay61 (F := Ideal) v100 (k0_pay60 (F := Ideal) (k0_pay14 (F := Ideal) v27 v31 v34 v39) (k0_pay15 (F := Ideal) v27 v31 v34 v39) (k0_pay16 (F := Ideal) v27 v31) (k0_pay17 (F := Ideal) v39) (k0_pay51 (F := Ideal) v99))⟩,
      ⟨Rect.unit ![0, 1344] ![128, 64] inb_S128x2048_S128x64_0_1344, k0_pay59 (F := Ideal) (k0_pay14 (F := Ideal) v27 v31 v34 v39) (k0_pay15 (F := Ideal) v27 v31 v34 v39) (k0_pay16 (F := Ideal) v27 v31) (k0_pay17 (F := Ideal) v39) v100 (k0_pay51 (F := Ideal) v99)⟩,
      ⟨Rect.unit ![0, 1280] ![128, 64] inb_S128x2048_S128x64_0_1280, k0_pay58 (F := Ideal) (k0_pay15 (F := Ideal) v27 v31 v34 v39) (k0_pay16 (F := Ideal) v27 v31) (k0_pay17 (F := Ideal) v39) v100 (k0_pay51 (F := Ideal) v99) (k0_pay57 (F := Ideal) (k0_pay14 (F := Ideal) v27 v31 v34 v39))⟩,
      ⟨Rect.unit ![0, 1216] ![128, 64] inb_S128x2048_S128x64_0_1216, k0_pay56 (F := Ideal) (k0_pay14 (F := Ideal) v27 v31 v34 v39) (k0_pay15 (F := Ideal) v27 v31 v34 v39) (k0_pay16 (F := Ideal) v27 v31) (k0_pay17 (F := Ideal) v39) v100 (k0_pay51 (F := Ideal) v99)⟩,
      ⟨Rect.unit ![0, 1152] ![128, 64] inb_S128x2048_S128x64_0_1152, k0_pay55 (F := Ideal) (k0_pay14 (F := Ideal) v27 v31 v34 v39) (k0_pay15 (F := Ideal) v27 v31 v34 v39) (k0_pay16 (F := Ideal) v27 v31) (k0_pay17 (F := Ideal) v39) v100 (k0_pay51 (F := Ideal) v99)⟩,
      ⟨Rect.unit ![0, 1088] ![128, 64] inb_S128x2048_S128x64_0_1088, k0_pay54 (F := Ideal) v100 (k0_pay53 (F := Ideal) (k0_pay14 (F := Ideal) v27 v31 v34 v39) (k0_pay15 (F := Ideal) v27 v31 v34 v39) (k0_pay16 (F := Ideal) v27 v31) (k0_pay17 (F := Ideal) v39) v99)⟩,
      ⟨Rect.unit ![0, 1024] ![128, 64] inb_S128x2048_S128x64_0_1024, k0_pay52 (F := Ideal) (k0_pay14 (F := Ideal) v27 v31 v34 v39) (k0_pay15 (F := Ideal) v27 v31 v34 v39) (k0_pay16 (F := Ideal) v27 v31) (k0_pay17 (F := Ideal) v39) v99 v100⟩,
      ⟨Rect.unit ![0, 960] ![128, 64] inb_S128x2048_S128x64_0_960, k0_pay50 (F := Ideal) (k0_pay16 (F := Ideal) v27 v31) (k0_pay17 (F := Ideal) v39) v100 (k0_pay37 (F := Ideal) v99 (k0_pay36 (F := Ideal) v99)) (k0_pay48 (F := Ideal) (k0_pay14 (F := Ideal) v27 v31 v34 v39) (k0_pay15 (F := Ideal) v27 v31 v34 v39)) (k0_pay49 (F := Ideal) )⟩,
      ⟨Rect.unit ![0, 896] ![128, 64] inb_S128x2048_S128x64_0_896, k0_pay47 (F := Ideal) (k0_pay14 (F := Ideal) v27 v31 v34 v39) (k0_pay15 (F := Ideal) v27 v31 v34 v39) (k0_pay16 (F := Ideal) v27 v31) (k0_pay17 (F := Ideal) v39) v100 (k0_pay37 (F := Ideal) v99 (k0_pay36 (F := Ideal) v99))⟩,
      ⟨Rect.unit ![0, 832] ![128, 64] inb_S128x2048_S128x64_0_832, k0_pay46 (F := Ideal) (k0_pay14 (F := Ideal) v27 v31 v34 v39) (k0_pay15 (F := Ideal) v27 v31 v34 v39) (k0_pay16 (F := Ideal) v27 v31) (k0_pay17 (F := Ideal) v39) v100 (k0_pay37 (F := Ideal) v99 (k0_pay36 (F := Ideal) v99))⟩,
      ⟨Rect.unit ![0, 768] ![128, 64] inb_S128x2048_S128x64_0_768, k0_pay45 (F := Ideal) (k0_pay44 (F := Ideal) (k0_pay14 (F := Ideal) v27 v31 v34 v39) (k0_pay15 (F := Ideal) v27 v31 v34 v39) (k0_pay16 (F := Ideal) v27 v31) (k0_pay17 (F := Ideal) v39) v100 (k0_pay37 (F := Ideal) v99 (k0_pay36 (F := Ideal) v99)))⟩,
      ⟨Rect.unit ![0, 704] ![128, 64] inb_S128x2048_S128x64_0_704, k0_pay43 (F := Ideal) (k0_pay14 (F := Ideal) v27 v31 v34 v39) (k0_pay15 (F := Ideal) v27 v31 v34 v39) (k0_pay16 (F := Ideal) v27 v31) (k0_pay17 (F := Ideal) v39) v100 (k0_pay37 (F := Ideal) v99 (k0_pay36 (F := Ideal) v99))⟩,
      ⟨Rect.unit ![0, 640] ![128, 64] inb_S128x2048_S128x64_0_640, k0_pay42 (F := Ideal) (k0_pay16 (F := Ideal) v27 v31) (k0_pay17 (F := Ideal) v39) v100 (k0_pay37 (F := Ideal) v99 (k0_pay36 (F := Ideal) v99)) (k0_pay40 (F := Ideal) (k0_pay14 (F := Ideal) v27 v31 v34 v39) (k0_pay15 (F := Ideal) v27 v31 v34 v39)) (k0_pay41 (F := Ideal) )⟩,
      ⟨Rect.unit ![0, 576] ![128, 64] inb_S128x2048_S128x64_0_576, k0_pay39 (F := Ideal) (k0_pay14 (F := Ideal) v27 v31 v34 v39) (k0_pay15 (F := Ideal) v27 v31 v34 v39) (k0_pay16 (F := Ideal) v27 v31) (k0_pay17 (F := Ideal) v39) v99 v100 (k0_pay36 (F := Ideal) v99)⟩,
      ⟨Rect.unit ![0, 512] ![128, 64] inb_S128x2048_S128x64_0_512, k0_pay38 (F := Ideal) (k0_pay14 (F := Ideal) v27 v31 v34 v39) (k0_pay15 (F := Ideal) v27 v31 v34 v39) (k0_pay16 (F := Ideal) v27 v31) (k0_pay17 (F := Ideal) v39) v99 v100 (k0_pay36 (F := Ideal) v99)⟩,
      ⟨Rect.unit ![0, 448] ![128, 64] inb_S128x2048_S128x64_0_448, k0_pay35 (F := Ideal) (k0_pay14 (F := Ideal) v27 v31 v34 v39) (k0_pay15 (F := Ideal) v27 v31 v34 v39) (k0_pay16 (F := Ideal) v27 v31) (k0_pay17 (F := Ideal) v39) v100 v105⟩,
      ⟨Rect.unit ![0, 384] ![128, 64] inb_S128x2048_S128x64_0_384, k0_pay34 (F := Ideal) (k0_pay14 (F := Ideal) v27 v31 v34 v39) (k0_pay15 (F := Ideal) v27 v31 v34 v39) (k0_pay16 (F := Ideal) v27 v31) (k0_pay17 (F := Ideal) v39) v100 v105⟩,
      ⟨Rect.unit ![0, 320] ![128, 64] inb_S128x2048_S128x64_0_320, k0_pay33 (F := Ideal) v100 (k0_pay32 (F := Ideal) (k0_pay14 (F := Ideal) v27 v31 v34 v39) (k0_pay15 (F := Ideal) v27 v31 v34 v39) (k0_pay16 (F := Ideal) v27 v31) (k0_pay17 (F := Ideal) v39) v105)⟩,
      ⟨Rect.unit ![0, 256] ![128, 64] inb_S128x2048_S128x64_0_256, k0_pay31 (F := Ideal) (k0_pay14 (F := Ideal) v27 v31 v34 v39) (k0_pay15 (F := Ideal) v27 v31 v34 v39) (k0_pay16 (F := Ideal) v27 v31) (k0_pay17 (F := Ideal) v39) v100 v105⟩,
      ⟨Rect.unit ![0, 192] ![128, 64] inb_S128x2048_S128x64_0_192, k0_pay30 (F := Ideal) (k0_pay15 (F := Ideal) v27 v31 v34 v39) (k0_pay16 (F := Ideal) v27 v31) (k0_pay17 (F := Ideal) v39) v100 v105 (k0_pay29 (F := Ideal) (k0_pay14 (F := Ideal) v27 v31 v34 v39))⟩,
      ⟨Rect.unit ![0, 128] ![128, 64] inb_S128x2048_S128x64_0_128, k0_pay28 (F := Ideal) (k0_pay14 (F := Ideal) v27 v31 v34 v39) (k0_pay15 (F := Ideal) v27 v31 v34 v39) (k0_pay16 (F := Ideal) v27 v31) (k0_pay17 (F := Ideal) v39) v100 v105⟩,
      ⟨Rect.unit ![0, 64] ![128, 64] inb_S128x2048_S128x64_0_64, k0_pay27 (F := Ideal) (k0_pay14 (F := Ideal) v27 v31 v34 v39) (k0_pay15 (F := Ideal) v27 v31 v34 v39) (k0_pay16 (F := Ideal) v27 v31) (k0_pay17 (F := Ideal) v39) v100 v105⟩,
      ⟨Rect.unit ![0, 0] ![128, 64] inb_S128x2048_S128x64_0_0, k0_pay26 (F := Ideal) v100 (k0_pay25 (F := Ideal) (k0_pay14 (F := Ideal) v27 v31 v34 v39) (k0_pay15 (F := Ideal) v27 v31 v34 v39) (k0_pay16 (F := Ideal) v27 v31) (k0_pay17 (F := Ideal) v39) v71 v72 v74 v79 v80 v85 v86 v91 v92)⟩] (Rect.unit (s := S128x2048) ![0, 0] ![128, 2048] inb_S128x2048_S128x2048_0_0).toLoadRect (ix2 t c)
      = inner (rowsOf v99) (lanesOf (k0_pay13 (F := Ideal) v27 v31)) (lanesOf (k0_pay14 (F := Ideal) v27 v31 v34 v39)) t c := by
  have e0 := load_cols (o := 0) (k := 2048) inb_S128x2048_S128x2048_0_0 (by omega) (View.whole cc0_scratch2)
  refine (e0 _ t c).trans ?_
  have ec : (⟨0 + c.val, by omega⟩ : Fin 2048) = c := Fin.ext (Nat.zero_add _)
  rw [ec]
  refine canon_cols _ _ _ t c _ (fun i h => (head31 v27 v31 v34 v39 v99 v100 hM h100 t i).trans (congrArg _ (Fin.ext (by show 31 * 64 + i.val = c.val; omega)))) fun q31 => ?_
  refine canon_cols _ _ _ t c _ (fun i h => (head30 v27 v31 v34 v39 v99 v100 hM h100 t i).trans (congrArg _ (Fin.ext (by show 30 * 64 + i.val = c.val; omega)))) fun q30 => ?_
  refine canon_cols _ _ _ t c _ (fun i h => (head29 v27 v31 v34 v39 v99 v100 hM h100 t i).trans (congrArg _ (Fin.ext (by show 29 * 64 + i.val = c.val; omega)))) fun q29 => ?_
  refine canon_cols _ _ _ t c _ (fun i h => (head28 v27 v31 v34 v39 v99 v100 hM h100 t i).trans (congrArg _ (Fin.ext (by show 28 * 64 + i.val = c.val; omega)))) fun q28 => ?_
  refine canon_cols _ _ _ t c _ (fun i h => (head27 v27 v31 v34 v39 v99 v100 hM h100 t i).trans (congrArg _ (Fin.ext (by show 27 * 64 + i.val = c.val; omega)))) fun q27 => ?_
  refine canon_cols _ _ _ t c _ (fun i h => (head26 v27 v31 v34 v39 v99 v100 hM h100 t i).trans (congrArg _ (Fin.ext (by show 26 * 64 + i.val = c.val; omega)))) fun q26 => ?_
  refine canon_cols _ _ _ t c _ (fun i h => (head25 v27 v31 v34 v39 v99 v100 hM h100 t i).trans (congrArg _ (Fin.ext (by show 25 * 64 + i.val = c.val; omega)))) fun q25 => ?_
  refine canon_cols _ _ _ t c _ (fun i h => (head24 v27 v31 v34 v39 v99 v100 hM h100 t i).trans (congrArg _ (Fin.ext (by show 24 * 64 + i.val = c.val; omega)))) fun q24 => ?_
  refine canon_cols _ _ _ t c _ (fun i h => (head23 v27 v31 v34 v39 v99 v100 hM h100 t i).trans (congrArg _ (Fin.ext (by show 23 * 64 + i.val = c.val; omega)))) fun q23 => ?_
  refine canon_cols _ _ _ t c _ (fun i h => (head22 v27 v31 v34 v39 v99 v100 hM h100 t i).trans (congrArg _ (Fin.ext (by show 22 * 64 + i.val = c.val; omega)))) fun q22 => ?_
  refine canon_cols _ _ _ t c _ (fun i h => (head21 v27 v31 v34 v39 v99 v100 hM h100 t i).trans (congrArg _ (Fin.ext (by show 21 * 64 + i.val = c.val; omega)))) fun q21 => ?_
  refine canon_cols _ _ _ t c _ (fun i h => (head20 v27 v31 v34 v39 v99 v100 hM h100 t i).trans (congrArg _ (Fin.ext (by show 20 * 64 + i.val = c.val; omega)))) fun q20 => ?_
  refine canon_cols _ _ _ t c _ (fun i h => (head19 v27 v31 v34 v39 v99 v100 hM h100 t i).trans (congrArg _ (Fin.ext (by show 19 * 64 + i.val = c.val; omega)))) fun q19 => ?_
  refine canon_cols _ _ _ t c _ (fun i h => (head18 v27 v31 v34 v39 v99 v100 hM h100 t i).trans (congrArg _ (Fin.ext (by show 18 * 64 + i.val = c.val; omega)))) fun q18 => ?_
  refine canon_cols _ _ _ t c _ (fun i h => (head17 v27 v31 v34 v39 v99 v100 hM h100 t i).trans (congrArg _ (Fin.ext (by show 17 * 64 + i.val = c.val; omega)))) fun q17 => ?_
  refine canon_cols _ _ _ t c _ (fun i h => (head16 v27 v31 v34 v39 v99 v100 hM h100 t i).trans (congrArg _ (Fin.ext (by show 16 * 64 + i.val = c.val; omega)))) fun q16 => ?_
  refine canon_cols _ _ _ t c _ (fun i h => (head15 v27 v31 v34 v39 v99 v100 hM h100 t i).trans (congrArg _ (Fin.ext (by show 15 * 64 + i.val = c.val; omega)))) fun q15 => ?_
  refine canon_cols _ _ _ t c _ (fun i h => (head14 v27 v31 v34 v39 v99 v100 hM h100 t i).trans (congrArg _ (Fin.ext (by show 14 * 64 + i.val = c.val; omega)))) fun q14 => ?_
  refine canon_cols _ _ _ t c _ (fun i h => (head13 v27 v31 v34 v39 v99 v100 hM h100 t i).trans (congrArg _ (Fin.ext (by show 13 * 64 + i.val = c.val; omega)))) fun q13 => ?_
  refine canon_cols _ _ _ t c _ (fun i h => (head12 v27 v31 v34 v39 v99 v100 hM h100 t i).trans (congrArg _ (Fin.ext (by show 12 * 64 + i.val = c.val; omega)))) fun q12 => ?_
  refine canon_cols _ _ _ t c _ (fun i h => (head11 v27 v31 v34 v39 v99 v100 hM h100 t i).trans (congrArg _ (Fin.ext (by show 11 * 64 + i.val = c.val; omega)))) fun q11 => ?_
  refine canon_cols _ _ _ t c _ (fun i h => (head10 v27 v31 v34 v39 v99 v100 hM h100 t i).trans (congrArg _ (Fin.ext (by show 10 * 64 + i.val = c.val; omega)))) fun q10 => ?_
  refine canon_cols _ _ _ t c _ (fun i h => (head9 v27 v31 v34 v39 v99 v100 hM h100 t i).trans (congrArg _ (Fin.ext (by show 9 * 64 + i.val = c.val; omega)))) fun q9 => ?_
  refine canon_cols _ _ _ t c _ (fun i h => (head8 v27 v31 v34 v39 v99 v100 hM h100 t i).trans (congrArg _ (Fin.ext (by show 8 * 64 + i.val = c.val; omega)))) fun q8 => ?_
  refine canon_cols _ _ _ t c _ (fun i h => (head7 v27 v31 v34 v39 v99 v100 hM h100 v105 h105 t i).trans (congrArg _ (Fin.ext (by show 7 * 64 + i.val = c.val; omega)))) fun q7 => ?_
  refine canon_cols _ _ _ t c _ (fun i h => (head6 v27 v31 v34 v39 v99 v100 hM h100 v105 h105 t i).trans (congrArg _ (Fin.ext (by show 6 * 64 + i.val = c.val; omega)))) fun q6 => ?_
  refine canon_cols _ _ _ t c _ (fun i h => (head5 v27 v31 v34 v39 v99 v100 hM h100 v105 h105 t i).trans (congrArg _ (Fin.ext (by show 5 * 64 + i.val = c.val; omega)))) fun q5 => ?_
  refine canon_cols _ _ _ t c _ (fun i h => (head4 v27 v31 v34 v39 v99 v100 hM h100 v105 h105 t i).trans (congrArg _ (Fin.ext (by show 4 * 64 + i.val = c.val; omega)))) fun q4 => ?_
  refine canon_cols _ _ _ t c _ (fun i h => (head3 v27 v31 v34 v39 v99 v100 hM h100 v105 h105 t i).trans (congrArg _ (Fin.ext (by show 3 * 64 + i.val = c.val; omega)))) fun q3 => ?_
  refine canon_cols _ _ _ t c _ (fun i h => (head2 v27 v31 v34 v39 v99 v100 hM h100 v105 h105 t i).trans (congrArg _ (Fin.ext (by show 2 * 64 + i.val = c.val; omega)))) fun q2 => ?_
  refine canon_cols _ _ _ t c _ (fun i h => (head1 v27 v31 v34 v39 v99 v100 hM h100 v105 h105 t i).trans (congrArg _ (Fin.ext (by show 1 * 64 + i.val = c.val; omega)))) fun q1 => ?_
  refine canon_cols _ _ _ t c _ (fun i h => (head0 v27 v31 v34 v39 v99 v100 hM h100 v71 v74 v72 v79 v85 v91 v80 v86 v92 h99 t i).trans (congrArg _ (Fin.ext (by show 0 * 64 + i.val = c.val; omega)))) fun q0 => ?_
  exact absurd c.isLt (by omega)

end

/-- The new state, gathered from its four pieces. -/
theorem next_at (v27 v31 : FVec Ideal S128x128 .f32) (v34 : FVec Ideal S1x128 .f32) (v39 : FVec Ideal S128x128 .bf16)
  (v99 : FVec Ideal S128x3072 .f32) (v100 : FVec Ideal S128x2048 .f32) (v730 : FVec Ideal S128x2048 .bf16)
    (hE : ∀ (h : Fin 128) (c : Fin 2048), v730 (ix2 h c) = if h.val = c.val / 64 then (1 : EReal) else 0)
    (h100 : ∀ s c, v100 (ix2 s c) = rowsOf v99 s (xcol c))
    (hac : ∀ t h, Fin' (lanesOf (k0_pay14 (F := Ideal) v27 v31 v34 v39) t h))
    (hdt : ∀ t h, Fin' (lanesOf (k0_pay13 (F := Ideal) v27 v31) t h))
    (v755 v772 v789 v806 : FVec Ideal S128x512 .f32) (H : Fin 2048 → Fin 128 → EReal)
    (h0 : ∀ n k, v755 (ix2 n k) = H (gcol 0 k) n) (h1 : ∀ n k, v772 (ix2 n k) = H (gcol 1 k) n)
    (h2 : ∀ n k, v789 (ix2 n k) = H (gcol 2 k) n) (h3 : ∀ n k, v806 (ix2 n k) = H (gcol 3 k) n)
    (L : List (View.Piece (Elt Ideal) S128x2048 cc0_scratch1.ty.elt)) (n : Fin 128) (c : Fin 2048) :
    View.canon (Val := Elt Ideal) (
      ⟨Rect.unit ![0, 1536] ![128, 512] inb_S128x2048_S128x512_0_1536, k0_pay91 (F := Ideal) v99 (k0_pay80 (F := Ideal) (k0_pay19 (F := Ideal) v27 v31 v34 v39) v100 v730) (k0_pay81 (F := Ideal) v730 (k0_pay77 (F := Ideal) (k0_pay18 (F := Ideal) v27 v31 v34 v39)) (k0_pay78 (F := Ideal) (k0_pay18 (F := Ideal) v27 v31 v34 v39))) v806⟩ ::
      ⟨Rect.unit ![0, 1024] ![128, 512] inb_S128x2048_S128x512_0_1024, k0_pay89 (F := Ideal) v99 (k0_pay80 (F := Ideal) (k0_pay19 (F := Ideal) v27 v31 v34 v39) v100 v730) (k0_pay81 (F := Ideal) v730 (k0_pay77 (F := Ideal) (k0_pay18 (F := Ideal) v27 v31 v34 v39)) (k0_pay78 (F := Ideal) (k0_pay18 (F := Ideal) v27 v31 v34 v39))) v789⟩ ::
      ⟨Rect.unit ![0, 512] ![128, 512] inb_S128x2048_S128x512_0_512, k0_pay87 (F := Ideal) (k0_pay80 (F := Ideal) (k0_pay19 (F := Ideal) v27 v31 v34 v39) v100 v730) (k0_pay84 (F := Ideal) v99) (k0_pay86 (F := Ideal) v730 (k0_pay77 (F := Ideal) (k0_pay18 (F := Ideal) v27 v31 v34 v39)) (k0_pay78 (F := Ideal) (k0_pay18 (F := Ideal) v27 v31 v34 v39)) v772)⟩ ::
      ⟨Rect.unit ![0, 0] ![128, 512] inb_S128x2048_S128x512_0_0, k0_pay83 (F := Ideal) (k0_pay19 (F := Ideal) v27 v31 v34 v39) v99 v100 v730 (k0_pay77 (F := Ideal) (k0_pay18 (F := Ideal) v27 v31 v34 v39)) (k0_pay78 (F := Ideal) (k0_pay18 (F := Ideal) v27 v31 v34 v39)) v755⟩ :: L) (ix2 n c)
      = next (rowsOf v99) (lanesOf (k0_pay13 (F := Ideal) v27 v31)) (lanesOf (k0_pay14 (F := Ideal) v27 v31 v34 v39)) H c n := by
  refine canon_cols _ _ _ n c _ (fun i h => (state3 v27 v31 v34 v39 v99 v100 v730 hE h100 hac hdt v806 H h3 n i).trans
    (congrArg (fun d => next _ _ _ H d n) (Fin.ext (by show 3 * 512 + i.val = c.val; omega) : gcol 3 i = c))) fun q3 => ?_
  refine canon_cols _ _ _ n c _ (fun i h => (state2 v27 v31 v34 v39 v99 v100 v730 hE h100 hac hdt v789 H h2 n i).trans
    (congrArg (fun d => next _ _ _ H d n) (Fin.ext (by show 2 * 512 + i.val = c.val; omega) : gcol 2 i = c))) fun q2 => ?_
  refine canon_cols _ _ _ n c _ (fun i h => (state1 v27 v31 v34 v39 v99 v100 v730 hE h100 hac hdt v772 H h1 n i).trans
    (congrArg (fun d => next _ _ _ H d n) (Fin.ext (by show 1 * 512 + i.val = c.val; omega) : gcol 1 i = c))) fun q1 => ?_
  refine canon_cols _ _ _ n c _ (fun i h => (state0 v27 v31 v34 v39 v99 v100 v730 hE h100 hac hdt v755 H h0 n i).trans
    (congrArg (fun d => next _ _ _ H d n) (Fin.ext (by show 0 * 512 + i.val = c.val; omega) : gcol 0 i = c))) fun q0 => ?_
  exact absurd c.isLt (by omega)

end Cert.Kernel2Ideal.Ssm

end
-- ==== Proof.SsmPoint.lean ====
module

public import Idealize.ShloMosaic.Lib.Pipeline.ValueKit
public import Idealize.ShloMosaic.Lib.Pointwise
public import proofs.«01_k».proof.Proof.Gen.Kernel2Ideal.Value
public import proofs.«01_k».proof.Proof.SsmBlocks
public import proofs.«01_k».proof.Proof.SsmBuf
public import Idealize.ShloMosaic.Lib.StableHlo.RunLoop
public import Idealize.ShloMosaic.Lib.StableHlo.RunRead

@[expose] public section

set_option maxRecDepth 16384

noncomputable section

namespace Cert.Kernel2Ideal.Ssm

open Cert.Kernel2Ideal Cert.Kernel2Ideal.Gen Idealize.ShloMosaic Idealize.ShloMosaic.TcCoe Idealize.SL.Sem Cert.Ssm Cert.Ffn

variable (m : (ℓ : Loc nD τ sig) → Buf (Elt Ideal) ℓ) (c : Dev nD)

/-! ## The arrays as rows -/

/-- The input rows of a sequence. -/
def xs (b : Fin 8) (q : Fin 2048) (k : Fin 1024) : EReal := m ((c : Thread nD τ).loc main_arg0) (ix3 b q k)
/-- The input projection. -/
def ws (k : Fin 1024) (j : Fin 5152) : EReal := m ((c : Thread nD τ).loc main_arg1) (ix2 k j)
/-- The convolution's weights. -/
def cws (j : Fin 4) (d : Fin 3072) : EReal := m ((c : Thread nD τ).loc main_arg2) (ix2 j d)
/-- The convolution's bias. -/
def cbs (d : Fin 3072) : EReal := m ((c : Thread nD τ).loc main_arg3) (ix1 d)
/-- The bias of the step sizes. -/
def dtbs (h : Fin 32) : EReal := m ((c : Thread nD τ).loc main_arg4) (ix1 h)
/-- The logarithms of the decays. -/
def als (h : Fin 32) : EReal := m ((c : Thread nD τ).loc main_arg5) (ix1 h)
/-- The skip weights. -/
def dsks (h : Fin 32) : EReal := m ((c : Thread nD τ).loc main_arg6) (ix1 h)
/-- The weights of the group norm. -/
def nws (d : Fin 2048) : EReal := m ((c : Thread nD τ).loc main_arg7) (ix1 d)
/-- The output projection. -/
def wos (k : Fin 2048) (d : Fin 1024) : EReal := m ((c : Thread nD τ).loc main_arg8) (ix2 k d)
/-- The scale of the layer norm. -/
def lgs (d : Fin 1024) : EReal := m ((c : Thread nD τ).loc main_arg9) (ix1 d)
/-- The shift of the layer norm. -/
def lbs (d : Fin 1024) : EReal := m ((c : Thread nD τ).loc main_arg10) (ix1 d)

/-- The sequence of a grid point. -/
def sq (t : Fin cfg0.N) : Fin 8 := ⟨t.val / 16, Nat.div_lt_of_lt_mul (Nat.lt_of_lt_of_le t.isLt (by decide))⟩

/-- The channels of a grid point. -/
abbrev U (t : Fin cfg0.N) := chan (xs m c (sq t)) (ws m c) (cws m c) (cbs m c) (t.val % 16)
/-- Its step sizes. -/
abbrev D (t : Fin cfg0.N) := dts (xs m c (sq t)) (ws m c) (dtbs m c) (t.val % 16)
/-- Its decay exponents. -/
abbrev E (t : Fin cfg0.N) := acs (xs m c (sq t)) (ws m c) (dtbs m c) (als m c) (t.val % 16)
/-- The state of a sequence before a chunk. -/
abbrev H (b : Fin 8) (j : ℕ) := state (xs m c b) (ws m c) (cws m c) (cbs m c) (dtbs m c) (als m c) j
/-- The projected rows of a grid point's sequence. -/
abbrev Pr (t : Fin cfg0.N) (q : ℕ) (d : Fin 3072) : EReal := padded (xs m c (sq t)) (ws m c) q d

/-! ## What a grid point computes from its blocks -/

/-- The step sizes. -/
theorem D_at (t : Fin cfg0.N) (r : Fin 128) (h : Fin 32) :
    lanesOf (k0_pay13 (F := Ideal) (k0_pay11 (iblk m c 0 t) (iblk m c 2 t) (iblk m c 5 t)) (k0_pay12 (iblk m c 0 t) (iblk m c 2 t) (iblk m c 5 t))) r h = D m c t r h := by
  refine (pay13_at (iblk m c 0 t) (iblk m c 2 t) (iblk m c 5 t) r (lane h)).trans ?_
  unfold D dts
  rw [dif_pos (by omega)]
  refine congrArg softplus (congrArg₂ (· + ·) (Finset.sum_congr rfl fun k _ => congrArg₂ (· * ·) (blk0 m c t r k) (blk2 m c t k h)) (blk5 m c t h))

theorem D_fun (t : Fin cfg0.N) :
    lanesOf (k0_pay13 (F := Ideal) (k0_pay11 (iblk m c 0 t) (iblk m c 2 t) (iblk m c 5 t)) (k0_pay12 (iblk m c 0 t) (iblk m c 2 t) (iblk m c 5 t))) = D m c t :=
  funext fun r => funext fun h => D_at m c t r h

/-- The arrays whose numbers must be finite. -/
structure Finite : Prop where
  x : ∀ b q k, Fin' (xs m c b q k)
  w : ∀ k j, Fin' (ws m c k j)
  b : ∀ h, Fin' (dtbs m c h)
  a : ∀ h, Fin' (als m c h)

variable {m c} (hf : Finite m c)
include hf

theorem D_fin (t : Fin cfg0.N) (r : Fin 128) (h : Fin 32) :
    Fin' (lanesOf (k0_pay13 (F := Ideal) (k0_pay11 (iblk m c 0 t) (iblk m c 2 t) (iblk m c 5 t)) (k0_pay12 (iblk m c 0 t) (iblk m c 2 t) (iblk m c 5 t))) r h) :=
  (D_at m c t r h).symm ▸ dts_fin (hf.x _) hf.w hf.b _ r h

theorem E_fun (t : Fin cfg0.N) :
    lanesOf (k0_pay14 (F := Ideal) (k0_pay11 (iblk m c 0 t) (iblk m c 2 t) (iblk m c 5 t)) (k0_pay12 (iblk m c 0 t) (iblk m c 2 t) (iblk m c 5 t)) (iblk m c 6 t) (iblk m c 11 t)) = E m c t := by
  funext r h
  refine (pay14_at _ _ (iblk m c 6 t) (iblk m c 11 t) (fun t' s => blk11 m c t s t') r (lane h) (fun s => ?_) ?_).trans ?_
  · exact D_fin hf t s h
  · exact (blk6 m c t h).symm ▸ hf.a h
  · unfold E acs
    refine Finset.sum_congr rfl fun s _ => ?_
    by_cases q : s.val ≤ r.val
    · rw [if_pos q, if_pos q]
      exact congrArg₂ (· * ·) (D_at m c t s h) (congrArg (fun v : EReal => 0 - Ideal.exp v) (blk6 m c t h))
    · rw [if_neg q, if_neg q]

theorem E_fin (t : Fin cfg0.N) (r : Fin 128) (h : Fin 32) :
    Fin' (lanesOf (k0_pay14 (F := Ideal) (k0_pay11 (iblk m c 0 t) (iblk m c 2 t) (iblk m c 5 t)) (k0_pay12 (iblk m c 0 t) (iblk m c 2 t) (iblk m c 5 t)) (iblk m c 6 t) (iblk m c 11 t)) r h) := by
  rw [E_fun hf t]
  exact acs_fin (hf.x _) hf.w hf.b hf.a _ r h

omit hf

/-- A row of the convolution's weights. -/
theorem cw_row (t : Fin cfg0.N) (j : Fin 4) (inb) (d : Fin 3072) :
    View.ld (iblk m c 3 t : FVec Ideal S4x3072 .f32) (Rect.unit (s := S4x3072) ![j.val, 0] ![1, 3072] inb) (ix2 0 d) = cws m c j d := by
  refine Eq.trans (congrArg (iblk m c 3 t : FVec Ideal S4x3072 .f32) (?_ : _ = ix2 j d)) (blk3 m c t j d)
  refine funext fun a => Fin.ext ?_
  match a with
  | ⟨0, _⟩ => show j.val + 1 * 0 = j.val; omega
  | ⟨1, _⟩ => show 0 + 1 * d.val = d.val; omega

/-- A part of the weights of the group norm. -/
theorem nw_part (t : Fin cfg0.N) (g : Fin 4) (o : ℕ) (ho : o = g.val * 512) (inb) (k : Fin 512) :
    View.ld (iblk m c 8 t : FVec Ideal S1x2048 .f32) (Rect.unit (s := S1x2048) ![0, o] ![1, 512] inb) (ix2 0 k) = nws m c (gcol g k) := by
  refine Eq.trans (congrArg (iblk m c 8 t : FVec Ideal S1x2048 .f32) (?_ : _ = ix2 0 (gcol g k))) (blk8 m c t (gcol g k))
  refine funext fun a => Fin.ext ?_
  match a with
  | ⟨0, _⟩ => rfl
  | ⟨1, _⟩ => show o + 1 * k.val = g.val * 512 + k.val; omega

/-- The channels, from the loads of the projected rows. -/
theorem U_fun (t : Fin cfg0.N) (W5 W6 W7 W8 : FVec Ideal S1x128x3072 .f32) (i0 i1 i2 i3)
    (h5 : ∀ r d, W5 (ix3 0 r d) = Pr m c t (t.val % 16 * 128 + r.val) d) (h6 : ∀ r d, W6 (ix3 0 r d) = Pr m c t (t.val % 16 * 128 + r.val + 1) d)
    (h7 : ∀ r d, W7 (ix3 0 r d) = Pr m c t (t.val % 16 * 128 + r.val + 2) d) (h8 : ∀ r d, W8 (ix3 0 r d) = Pr m c t (t.val % 16 * 128 + r.val + 3) d) :
    rowsOf (k0_pay22 (F := Ideal) (k0_pay20 (iblk m c 4 t)) W5 (k0_pay21 (View.ld (iblk m c 3 t : FVec Ideal S4x3072 .f32) (Rect.unit (s := S4x3072) ![0, 0] ![1, 3072] i0)))
      W6 (View.ld (iblk m c 3 t : FVec Ideal S4x3072 .f32) (Rect.unit (s := S4x3072) ![1, 0] ![1, 3072] i1)) W7 (View.ld (iblk m c 3 t : FVec Ideal S4x3072 .f32) (Rect.unit (s := S4x3072) ![2, 0] ![1, 3072] i2))
      W8 (View.ld (iblk m c 3 t : FVec Ideal S4x3072 .f32) (Rect.unit (s := S4x3072) ![3, 0] ![1, 3072] i3))) = U m c t := by
  funext r d
  refine pay22_at (iblk m c 4 t) W5 W6 W7 W8 _ _ _ _ r d _ ?_
  unfold conv
  refine congrArg₂ (· + ·) (congrArg₂ (· + ·) (congrArg₂ (· + ·) (congrArg₂ (· + ·) (blk4 m c t d) ?_) ?_) ?_) ?_
  · exact congrArg₂ (· * ·) (h5 r d) (cw_row t 0 _ d)
  · exact congrArg₂ (· * ·) (h6 r d) (cw_row t 1 _ d)
  · exact congrArg₂ (· * ·) (h7 r d) (cw_row t 2 _ d)
  · exact congrArg₂ (· * ·) (h8 r d) (cw_row t 3 _ d)

/-- A freshly projected row. -/
theorem fresh_at (t : Fin cfg0.N) (r : Fin 128) (d : Fin 3072) :
    k0_pay9 (F := Ideal) (iblk m c 0 t) (X0_1 m c t) (ix3 0 r d) = Pr m c t (t.val % 16 * 128 + r.val + 3) d := by
  refine (pay9_at (iblk m c 0 t) (X0_1 m c t) r d).trans ?_
  unfold Pr padded
  rw [dif_pos (by omega)]
  refine Finset.sum_congr rfl fun k _ => congrArg₂ (· * ·) ((blk0 m c t r k).trans ?_) (blk1 m c t k _)
  exact congrArg (fun q : Fin 2048 => xs m c (sq t) q k) (Fin.ext (by show t.val % 16 * 128 + r.val = t.val % 16 * 128 + r.val + 3 - 3; omega))

/-- The buffer of projected rows of a grid point, from what its first eight rows are. -/
theorem buffer_at (t : Fin cfg0.N) (new : FVec Ideal S1x128x3072 .f32) (old : FVec Ideal S1x8x3072 .f32) (i8 i0)
    (hn : ∀ r d, new (ix3 0 r d) = Pr m c t (t.val % 16 * 128 + r.val + 3) d)
    (ho : ∀ (r : Fin 8) d, 5 ≤ r.val → old (ix3 0 r d) = Pr m c t (t.val % 16 * 128 + r.val - 5) d) (r : Fin 136) (d : Fin 3072) (hr : 5 ≤ r.val) :
    View.canon (Val := Elt Ideal) (s := S1x136x3072) (e := cc0_scratch0.ty.elt) [⟨Rect.unit (s := S1x136x3072) ![0, 8, 0] ![1, 128, 3072] i8, new⟩,
      ⟨Rect.unit (s := S1x136x3072) ![0, 0, 0] ![1, 8, 3072] i0, old⟩] (ix3 0 r d) = Pr m c t (t.val % 16 * 128 + r.val - 5) d := by
  refine canon_rows _ _ _ r d _ (fun i h => (hn i d).trans ?_) fun q => canon_rows _ _ _ r d _ (fun i h => (ho i d (by omega)).trans ?_) fun q' => absurd r.isLt (by omega)
  · exact congrArg (fun n => Pr m c t n d) (by omega)
  · exact congrArg (fun n => Pr m c t n d) (by omega)

/-- A load from it. -/
theorem window_at (t : Fin cfg0.N) (new : FVec Ideal S1x128x3072 .f32) (old : FVec Ideal S1x8x3072 .f32) (i8 i0) (o : ℕ) (h5 : 5 ≤ o) (h8 : o ≤ 8) (io)
    (hn : ∀ r d, new (ix3 0 r d) = Pr m c t (t.val % 16 * 128 + r.val + 3) d)
    (ho : ∀ (r : Fin 8) d, 5 ≤ r.val → old (ix3 0 r d) = Pr m c t (t.val % 16 * 128 + r.val - 5) d) (r : Fin 128) (d : Fin 3072) :
    View.readCov (Val := Elt Ideal) (View.whole cc0_scratch0) [⟨Rect.unit (s := S1x136x3072) ![0, 8, 0] ![1, 128, 3072] i8, new⟩,
      ⟨Rect.unit (s := S1x136x3072) ![0, 0, 0] ![1, 8, 3072] i0, old⟩] (Rect.unit (s := S1x136x3072) ![0, o, 0] ![1, 128, 3072] io).toLoadRect (ix3 0 r d)
      = Pr m c t (t.val % 16 * 128 + r.val + (o - 5)) d := by
  have e := load_rows (o := o) (k := 128) io (by omega) (View.whole cc0_scratch0)
  refine (e _ r d).trans ((buffer_at t new old i8 i0 hn ho _ d (by show 5 ≤ o + r.val; omega)).trans ?_)
  exact congrArg (fun n => Pr m c t n d) (by show t.val % 16 * 128 + (o + r.val) - 5 = _; omega)

/-- The table that spreads lanes, as the kernel loads it. -/
theorem spread_at (t : Fin cfg0.N) (h : Fin 128) (d : Fin 2048) :
    k0_pay76 (F := Ideal) (iblk m c 10 t) (ix2 h d) = if h.val = d.val / 64 then (1 : EReal) else 0 := by
  refine Eq.trans ?_ (blk10 m c t h d)
  pointwise [k0_pay76]

/-- The place of a grid point's row in its sequence. -/
def qr (t : Fin cfg0.N) (r : Fin 128) : Fin 2048 := ⟨t.val % 16 * 128 + r.val, by omega⟩

theorem yrow_at (t : Fin cfg0.N) (r : Fin 128) (d : Fin 2048) :
    yrow (xs m c (sq t)) (ws m c) (cws m c) (cbs m c) (dtbs m c) (als m c) (dsks m c) (qr t r) d
      = mixed (U m c t) (D m c t) (E m c t) (H m c (sq t) (t.val % 16)) (dsks m c) r d := by
  unfold yrow
  have e1 : (qr t r).val / 128 = t.val % 16 := by show (t.val % 16 * 128 + r.val) / 128 = _; omega
  have e2 : (⟨(qr t r).val % 128, by omega⟩ : Fin 128) = r := Fin.ext (by show (t.val % 16 * 128 + r.val) % 128 = _; omega)
  rw [e2, e1]

include hf

/-- A row of the layer's output. -/
theorem row_at (t : Fin cfg0.N) (v99 : FVec Ideal S128x3072 .f32) (v100 Y : FVec Ideal S128x2048 .f32) (v755 v772 v789 v806 : FVec Ideal S128x512 .f32)
    (hU : rowsOf v99 = U m c t) (h100 : ∀ s d, v100 (ix2 s d) = rowsOf v99 s (xcol d))
    (hY : ∀ r d, Y (ix2 r d) = inner (U m c t) (D m c t) (E m c t) r d)
    (h0 : ∀ n k, v755 (ix2 n k) = H m c (sq t) (t.val % 16) (gcol 0 k) n) (h1 : ∀ n k, v772 (ix2 n k) = H m c (sq t) (t.val % 16) (gcol 1 k) n)
    (h2 : ∀ n k, v789 (ix2 n k) = H m c (sq t) (t.val % 16) (gcol 2 k) n) (h3 : ∀ n k, v806 (ix2 n k) = H m c (sq t) (t.val % 16) (gcol 3 k) n)
    (i0 i1 i2 i3) (r : Fin 128) (d : Fin 1024) :
    k0_pay98 (F := Ideal) (k0_pay96 (F := Ideal) (k0_pay8 (F := Ideal) (iblk m c 0 t) (X0_1 m c t))
        (k0_pay92 (F := Ideal) v100 (k0_pay79 (F := Ideal) (k0_pay76 (F := Ideal) (iblk m c 10 t)) (k0_pay77 (F := Ideal) (k0_pay18 (F := Ideal) (k0_pay11 (F := Ideal) (iblk m c 0 t) (iblk m c 2 t) (iblk m c 5 t)) (k0_pay12 (F := Ideal) (iblk m c 0 t) (iblk m c 2 t) (iblk m c 5 t)) (iblk m c 6 t) (iblk m c 11 t))) (k0_pay78 (F := Ideal) (k0_pay18 (F := Ideal) (k0_pay11 (F := Ideal) (iblk m c 0 t) (iblk m c 2 t) (iblk m c 5 t)) (k0_pay12 (F := Ideal) (iblk m c 0 t) (iblk m c 2 t) (iblk m c 5 t)) (iblk m c 6 t) (iblk m c 11 t))))
          (k0_pay82 (F := Ideal) v99 v755) (k0_pay85 (F := Ideal) v99 v772) (k0_pay88 (F := Ideal) v99 v789) (k0_pay90 (F := Ideal) v99 v806) Y (iblk m c 7 t))
        (k0_pay93 (F := Ideal) (k0_pay8 (F := Ideal) (iblk m c 0 t) (X0_1 m c t)) v100 (k0_pay79 (F := Ideal) (k0_pay76 (F := Ideal) (iblk m c 10 t)) (k0_pay77 (F := Ideal) (k0_pay18 (F := Ideal) (k0_pay11 (F := Ideal) (iblk m c 0 t) (iblk m c 2 t) (iblk m c 5 t)) (k0_pay12 (F := Ideal) (iblk m c 0 t) (iblk m c 2 t) (iblk m c 5 t)) (iblk m c 6 t) (iblk m c 11 t))) (k0_pay78 (F := Ideal) (k0_pay18 (F := Ideal) (k0_pay11 (F := Ideal) (iblk m c 0 t) (iblk m c 2 t) (iblk m c 5 t)) (k0_pay12 (F := Ideal) (iblk m c 0 t) (iblk m c 2 t) (iblk m c 5 t)) (iblk m c 6 t) (iblk m c 11 t))))
          (k0_pay82 (F := Ideal) v99 v755) (k0_pay85 (F := Ideal) v99 v772) (k0_pay88 (F := Ideal) v99 v789) (k0_pay90 (F := Ideal) v99 v806) Y (iblk m c 7 t) (View.ld (iblk m c 8 t : FVec Ideal S1x2048 .f32) (Rect.unit (s := S1x2048) ![0, 0] ![1, 512] i0)))
        (k0_pay94 (F := Ideal) (k0_pay8 (F := Ideal) (iblk m c 0 t) (X0_1 m c t)) v100 (k0_pay79 (F := Ideal) (k0_pay76 (F := Ideal) (iblk m c 10 t)) (k0_pay77 (F := Ideal) (k0_pay18 (F := Ideal) (k0_pay11 (F := Ideal) (iblk m c 0 t) (iblk m c 2 t) (iblk m c 5 t)) (k0_pay12 (F := Ideal) (iblk m c 0 t) (iblk m c 2 t) (iblk m c 5 t)) (iblk m c 6 t) (iblk m c 11 t))) (k0_pay78 (F := Ideal) (k0_pay18 (F := Ideal) (k0_pay11 (F := Ideal) (iblk m c 0 t) (iblk m c 2 t) (iblk m c 5 t)) (k0_pay12 (F := Ideal) (iblk m c 0 t) (iblk m c 2 t) (iblk m c 5 t)) (iblk m c 6 t) (iblk m c 11 t))))
          (k0_pay82 (F := Ideal) v99 v755) (k0_pay85 (F := Ideal) v99 v772) (k0_pay88 (F := Ideal) v99 v789) (k0_pay90 (F := Ideal) v99 v806) Y (iblk m c 7 t))
        (k0_pay95 (F := Ideal) (View.ld (iblk m c 8 t : FVec Ideal S1x2048 .f32) (Rect.unit (s := S1x2048) ![0, 512] ![1, 512] i1)))
        (View.ld (iblk m c 8 t : FVec Ideal S1x2048 .f32) (Rect.unit (s := S1x2048) ![0, 1024] ![1, 512] i2))
        (View.ld (iblk m c 8 t : FVec Ideal S1x2048 .f32) (Rect.unit (s := S1x2048) ![0, 1536] ![1, 512] i3)) (iblk m c 9 t))
      (k0_pay97 (F := Ideal) (k0_pay5 (F := Ideal) (iblk m c 0 t))) (iblk m c 12 t) (iblk m c 13 t) (ix3 0 r d)
      = outRow (xs m c (sq t) (qr t r)) (yrow (xs m c (sq t)) (ws m c) (cws m c) (cbs m c) (dtbs m c) (als m c) (dsks m c) (qr t r))
          (zrow (xs m c (sq t)) (ws m c) (qr t r)) (nws m c) (wos m c) (lgs m c) (lbs m c) d := by
  have hy : (fun e => (k0_pay92 (F := Ideal) v100 (k0_pay79 (F := Ideal) (k0_pay76 (F := Ideal) (iblk m c 10 t)) (k0_pay77 (F := Ideal) (k0_pay18 (F := Ideal) (k0_pay11 (F := Ideal) (iblk m c 0 t) (iblk m c 2 t) (iblk m c 5 t)) (k0_pay12 (F := Ideal) (iblk m c 0 t) (iblk m c 2 t) (iblk m c 5 t)) (iblk m c 6 t) (iblk m c 11 t))) (k0_pay78 (F := Ideal) (k0_pay18 (F := Ideal) (k0_pay11 (F := Ideal) (iblk m c 0 t) (iblk m c 2 t) (iblk m c 5 t)) (k0_pay12 (F := Ideal) (iblk m c 0 t) (iblk m c 2 t) (iblk m c 5 t)) (iblk m c 6 t) (iblk m c 11 t))))
          (k0_pay82 (F := Ideal) v99 v755) (k0_pay85 (F := Ideal) v99 v772) (k0_pay88 (F := Ideal) v99 v789) (k0_pay90 (F := Ideal) v99 v806) Y (iblk m c 7 t)) (ix2 r e)) = yrow (xs m c (sq t)) (ws m c) (cws m c) (cbs m c) (dtbs m c) (als m c) (dsks m c) (qr t r) := by
    funext e
    rw [yrow_at t r e]
    refine (pay92_at v99 v100 _ v755 v772 v789 v806 Y (iblk m c 7 t) (H m c (sq t) (t.val % 16)) h0 h1 h2 h3 r e).trans ?_
    unfold Cert.Ssm.mixed
    refine congrArg₂ (· + ·) (congrArg₂ (· + ·) (hY r e) (congrArg₂ (· * ·) ?_ (hU ▸ rfl))) (congrArg₂ (· * ·) (blk7 m c t e) ((h100 r e).trans (hU ▸ rfl)))
    refine (pay79_at _ _ _ _ _ (spread_at t) (E_fin hf t) r e).trans ?_
    rw [E_fun hf t]
  have hz : (fun e => k0_pay8 (F := Ideal) (iblk m c 0 t) (X0_1 m c t) (ix2 r e)) = zrow (xs m c (sq t)) (ws m c) (qr t r) := by
    funext e
    refine (pay8_at (iblk m c 0 t) (X0_1 m c t) r e).trans ?_
    unfold zrow
    exact Finset.sum_congr rfl fun k _ => congrArg₂ (· * ·) (blk0 m c t r k) (blk1 m c t k _)
  refine (pay98_at _ (iblk m c 0 t) (iblk m c 12 t) (iblk m c 13 t) r d).trans ?_
  unfold outRow
  refine congrFun (congr (congr (congrArg lnorm (funext fun k => ?_)) (funext fun k => blk12 m c t k)) (funext fun k => blk13 m c t k)) d
  refine congrArg₂ (· + ·) (congrArg (Ideal.ofBits .f32 0x3FD744FD#32 * ·) (blk0 m c t r k)) ?_
  refine (pay96_at _ _ (nws m c) _ _ _ _ _ (iblk m c 9 t) r (pay93_at _ _ (nws m c) _ _ _ _ _ _ _ _ _ rfl (nw_part t 0 0 rfl i0) r)
    (pay94_at _ _ (nws m c) _ _ _ _ _ _ _ _ _ rfl (nw_part t 1 512 rfl i1) r) (nw_part t 2 1024 rfl i2) (nw_part t 3 1536 rfl i3) k).trans ?_
  rw [hy, hz]
  exact Finset.sum_congr rfl fun e _ => congrArg (_ * ·) (blk9 m c t e k)

end Cert.Kernel2Ideal.Ssm

end
-- ==== Proof.SsmRun.lean ====
module

public import Idealize.ShloMosaic.Lib.Pipeline.ValueKit
public import Idealize.ShloMosaic.Lib.Pointwise
public import proofs.«01_k».proof.Proof.Gen.Kernel2Ideal.Value
public import proofs.«01_k».proof.Proof.SsmPoint
public import Idealize.ShloMosaic.Lib.Pipeline.ReadBack
public import Idealize.ShloMosaic.Lib.StableHlo.RunLoop
public import Idealize.ShloMosaic.Lib.StableHlo.RunRead

@[expose] public section

set_option maxRecDepth 16384

noncomputable section

namespace Cert.Kernel2Ideal.Ssm

open Cert.Kernel2Ideal Cert.Kernel2Ideal.Gen Idealize.ShloMosaic Idealize.ShloMosaic.TcCoe Idealize.SL.Sem Cert.Ssm Cert.Ffn

variable {m : (ℓ : Loc nD τ sig) → Buf (Elt Ideal) ℓ} {c : Dev nD}

/-! ## What a grid point reads of the one before -/

/-- A part of the state of the point before. -/
theorem prev_cols (S : FVec Ideal S128x2048 .f32) (g : Fin 4) (o : ℕ) (ho : o = g.val * 512) (i) (n : Fin 128) (k : Fin 512) :
    View.ld (View.read (Elt Ideal) (View.whole cc0_scratch1) ((Memref.isWhole_whole cc0_scratch1).unread (Val := Elt Ideal) S))
      (Rect.unit (s := S128x2048) ![0, o] ![128, 512] i) (ix2 n k) = S (ix2 n (gcol g k)) := by
  have hS : (View.read (Elt Ideal) (View.whole cc0_scratch1) ((Memref.isWhole_whole cc0_scratch1).unread (Val := Elt Ideal) S) : FVec Ideal S128x2048 .f32) = S :=
    read_unread_whole (Val := Elt Ideal) cc0_scratch1 (Memref.isWhole_whole cc0_scratch1) S
  refine (congrFun hS ((Rect.unit (s := S128x2048) ![0, o] ![128, 512] i).idx (ix2 n k))).trans ?_
  refine congrArg S (funext fun a => Fin.ext ?_)
  match a with
  | ⟨0, _⟩ => show 0 + 1 * n.val = n.val; omega
  | ⟨1, _⟩ => show o + 1 * k.val = g.val * 512 + k.val; omega

/-- The last rows of the buffer of the point before. -/
theorem prev_rows (S : FVec Ideal S1x136x3072 .f32) (i) (r : Fin 8) (d : Fin 3072) :
    k0_pay4 (F := Ideal) (View.ld (View.read (Elt Ideal) (View.whole cc0_scratch0) ((Memref.isWhole_whole cc0_scratch0).unread (Val := Elt Ideal) S))
      (Rect.unit (s := S1x136x3072) ![0, 128, 0] ![1, 8, 3072] i)) (ix3 0 r d) = S (ix3 0 (⟨128 + r.val, by omega⟩ : Fin 136) d) := by
  refine (pay4_at _ r d).trans ?_
  have hS : (View.read (Elt Ideal) (View.whole cc0_scratch0) ((Memref.isWhole_whole cc0_scratch0).unread (Val := Elt Ideal) S) : FVec Ideal S1x136x3072 .f32) = S :=
    read_unread_whole (Val := Elt Ideal) cc0_scratch0 (Memref.isWhole_whole cc0_scratch0) S
  refine (congrFun hS ((Rect.unit (s := S1x136x3072) ![0, 128, 0] ![1, 8, 3072] i).idx (ix3 0 r d))).trans ?_
  refine congrArg S (funext fun a => Fin.ext ?_)
  match a with
  | ⟨0, _⟩ => rfl
  | ⟨1, _⟩ => show 128 + 1 * r.val = 128 + r.val; omega
  | ⟨2, _⟩ => show 0 + 1 * d.val = d.val; omega

/-- The grid point before. -/
def pred (t : Fin cfg0.N) : Fin cfg0.N := ⟨t.val - 1, Nat.lt_of_le_of_lt (Nat.sub_le _ _) t.isLt⟩

theorem sq_pred (t : Fin cfg0.N) (h1 : 1 ≤ t.val % 16) : sq (pred t) = sq t := Fin.ext (by show (t.val - 1) / 16 = t.val / 16; omega)
theorem mod_pred (t : Fin cfg0.N) (h1 : 1 ≤ t.val % 16) : (pred t).val % 16 + 1 = t.val % 16 := by show (t.val - 1) % 16 + 1 = _; omega

/-- The rows a grid point leaves in the buffer. -/
theorem rows_kept (t : Fin cfg0.N) (r : Fin 136) (hr : 8 ≤ r.val) (d : Fin 3072) :
    (outsAt0 m c t.val t.isLt).2.2.2.1 (ix3 0 r d) = Pr m c t (t.val % 16 * 128 + r.val - 5) d := by
  by_cases h0 : t.val % 16 = 0
  · rw [outsAt0_A m c t h0 (by omega) (by omega)]
    frame_out
    refine canon_rows _ _ _ r d _ (fun i h => (fresh_at t i d).trans (congrArg (fun n => Pr m c t n d) (by omega))) fun q => absurd r.isLt (by omega)
  · by_cases h2 : t.val % 16 = 15
    · rw [outsAt0_C m c t h0 (by omega) h2]
      frame_out
      refine canon_rows _ _ _ r d _ (fun i h => (fresh_at t i d).trans (congrArg (fun n => Pr m c t n d) (by omega))) fun q => absurd r.isLt (by omega)
    · rw [outsAt0_B m c t h0 (by omega) h2]
      frame_out
      refine canon_rows _ _ _ r d _ (fun i h => (fresh_at t i d).trans (congrArg (fun n => Pr m c t n d) (by omega))) fun q => absurd r.isLt (by omega)

/-- The rows before a sequence are zero. -/
theorem old_first (t : Fin cfg0.N) (h0 : t.val % 16 = 0) (r : Fin 8) (d : Fin 3072) (hr : 5 ≤ r.val) :
    k0_pay2 (F := Ideal) (ix3 0 r d) = Pr m c t (t.val % 16 * 128 + r.val - 5) d := by
  refine (pay2_at r d).trans (Eq.symm ?_)
  unfold Pr padded
  exact dif_neg (by omega)

/-- The rows before a later chunk are the last ones of the chunk before. -/
theorem old_later (t : Fin cfg0.N) (h1 : 1 ≤ t.val % 16) (hlt) (i) (r : Fin 8) (d : Fin 3072) (hr : 5 ≤ r.val) :
    k0_pay4 (F := Ideal) (View.ld (View.read (Elt Ideal) (View.whole cc0_scratch0) ((Memref.isWhole_whole cc0_scratch0).unread (Val := Elt Ideal)
      (outsAt0 m c (t.val - 1) hlt).2.2.2.1))
      (Rect.unit (s := S1x136x3072) ![0, 128, 0] ![1, 8, 3072] i)) (ix3 0 r d) = Pr m c t (t.val % 16 * 128 + r.val - 5) d := by
  refine (prev_rows _ i r d).trans ((rows_kept (m := m) (c := c) (pred t) ⟨128 + r.val, by omega⟩ (by show 8 ≤ 128 + r.val; omega) d).trans ?_)
  unfold Pr
  rw [sq_pred t h1]
  have e := mod_pred t h1
  exact congrArg (fun n => padded (xs m c (sq t)) (ws m c) n d) (by show (pred t).val % 16 * 128 + (128 + r.val) - 5 = _; omega)

/-- The channels of a grid point, from its buffer. -/
theorem channels_at (t : Fin cfg0.N) (old : FVec Ideal S1x8x3072 .f32) (i8 i0 j5 j6 j7 j8 k0 k1 k2 k3)
    (ho : ∀ (r : Fin 8) d, 5 ≤ r.val → old (ix3 0 r d) = Pr m c t (t.val % 16 * 128 + r.val - 5) d) :
    rowsOf (k0_pay22 (F := Ideal) (k0_pay20 (iblk m c 4 t)) (View.readCov (Val := Elt Ideal) (View.whole cc0_scratch0) [⟨Rect.unit (s := S1x136x3072) ![0, 8, 0] ![1, 128, 3072] i8, k0_pay9 (F := Ideal) (iblk m c 0 t) (X0_1 m c t)⟩,
      ⟨Rect.unit (s := S1x136x3072) ![0, 0, 0] ![1, 8, 3072] i0, old⟩] (Rect.unit (s := S1x136x3072) ![0, 5, 0] ![1, 128, 3072] j5).toLoadRect) (k0_pay21 (View.ld (iblk m c 3 t : FVec Ideal S4x3072 .f32) (Rect.unit (s := S4x3072) ![0, 0] ![1, 3072] k0)))
      (View.readCov (Val := Elt Ideal) (View.whole cc0_scratch0) [⟨Rect.unit (s := S1x136x3072) ![0, 8, 0] ![1, 128, 3072] i8, k0_pay9 (F := Ideal) (iblk m c 0 t) (X0_1 m c t)⟩,
      ⟨Rect.unit (s := S1x136x3072) ![0, 0, 0] ![1, 8, 3072] i0, old⟩] (Rect.unit (s := S1x136x3072) ![0, 6, 0] ![1, 128, 3072] j6).toLoadRect) (View.ld (iblk m c 3 t : FVec Ideal S4x3072 .f32) (Rect.unit (s := S4x3072) ![1, 0] ![1, 3072] k1))
      (View.readCov (Val := Elt Ideal) (View.whole cc0_scratch0) [⟨Rect.unit (s := S1x136x3072) ![0, 8, 0] ![1, 128, 3072] i8, k0_pay9 (F := Ideal) (iblk m c 0 t) (X0_1 m c t)⟩,
      ⟨Rect.unit (s := S1x136x3072) ![0, 0, 0] ![1, 8, 3072] i0, old⟩] (Rect.unit (s := S1x136x3072) ![0, 7, 0] ![1, 128, 3072] j7).toLoadRect) (View.ld (iblk m c 3 t : FVec Ideal S4x3072 .f32) (Rect.unit (s := S4x3072) ![2, 0] ![1, 3072] k2))
      (View.readCov (Val := Elt Ideal) (View.whole cc0_scratch0) [⟨Rect.unit (s := S1x136x3072) ![0, 8, 0] ![1, 128, 3072] i8, k0_pay9 (F := Ideal) (iblk m c 0 t) (X0_1 m c t)⟩,
      ⟨Rect.unit (s := S1x136x3072) ![0, 0, 0] ![1, 8, 3072] i0, old⟩] (Rect.unit (s := S1x136x3072) ![0, 8, 0] ![1, 128, 3072] j8).toLoadRect) (View.ld (iblk m c 3 t : FVec Ideal S4x3072 .f32) (Rect.unit (s := S4x3072) ![3, 0] ![1, 3072] k3))) = U m c t :=
  U_fun t _ _ _ _ k0 k1 k2 k3
    (fun s e => window_at t _ old i8 i0 5 (by decide) (by decide) j5 (fresh_at t) ho s e) (fun s e => window_at t _ old i8 i0 6 (by decide) (by decide) j6 (fresh_at t) ho s e)
    (fun s e => window_at t _ old i8 i0 7 (by decide) (by decide) j7 (fresh_at t) ho s e) (fun s e => window_at t _ old i8 i0 8 (by decide) (by decide) j8 (fresh_at t) ho s e)

variable (hf : Finite m c)
include hf

/-- The state after a chunk. -/
theorem state_A (t : Fin cfg0.N) (h0 : t.val % 16 = 0) (h1 : ¬1 ≤ t.val % 16) (h2 : ¬t.val % 16 = 15) (n : Fin 128) (d : Fin 2048) :
    (outsAt0 m c t.val t.isLt).2.2.2.2 (ix2 n d) = H m c (sq t) (t.val % 16 + 1) d n := by
  rw [outsAt0_A m c t h0 h1 h2]
  frame_out
  refine Eq.trans (next_at _ _ _ _ _ _ _ (spread_at t) (fun s e => pay23_at _ _ _ _ _ _ _ _ _ s e) (E_fin hf t) (D_fin hf t) _ _ _ _
    (H m c (sq t) (t.val % 16)) ?_ ?_ ?_ ?_ _ n d) ?_
  · intro n k
    have e0 := load_cols (o := 0) (k := 512) inb_S128x2048_S128x512_0_0 (by omega) (View.whole cc0_scratch1)
    refine (e0 _ n k).trans ?_
    rw [h0]
    show _ = (0 : EReal)
    refine canon_cols _ _ _ n _ _ (fun i h => pay3_at n i) fun q => absurd (show 0 + k.val < 0 ∨ 0 + 2048 ≤ 0 + k.val from q) (by omega)
  · intro n k
    have e0 := load_cols (o := 512) (k := 512) inb_S128x2048_S128x512_0_512 (by omega) (View.whole cc0_scratch1)
    refine (e0 _ n k).trans ?_
    rw [h0]
    show _ = (0 : EReal)
    refine canon_cols _ _ _ n _ _ (fun i h => absurd (show 512 + k.val = _ + i.val from h) (by omega)) fun _ => ?_
    refine canon_cols _ _ _ n _ _ (fun i h => pay3_at n i) fun q => absurd (show 512 + k.val < 0 ∨ 0 + 2048 ≤ 512 + k.val from q) (by omega)
  · intro n k
    have e0 := load_cols (o := 1024) (k := 512) inb_S128x2048_S128x512_0_1024 (by omega) (View.whole cc0_scratch1)
    refine (e0 _ n k).trans ?_
    rw [h0]
    show _ = (0 : EReal)
    refine canon_cols _ _ _ n _ _ (fun i h => absurd (show 1024 + k.val = _ + i.val from h) (by omega)) fun _ => ?_
    refine canon_cols _ _ _ n _ _ (fun i h => absurd (show 1024 + k.val = _ + i.val from h) (by omega)) fun _ => ?_
    refine canon_cols _ _ _ n _ _ (fun i h => pay3_at n i) fun q => absurd (show 1024 + k.val < 0 ∨ 0 + 2048 ≤ 1024 + k.val from q) (by omega)
  · intro n k
    have e0 := load_cols (o := 1536) (k := 512) inb_S128x2048_S128x512_0_1536 (by omega) (View.whole cc0_scratch1)
    refine (e0 _ n k).trans ?_
    rw [h0]
    show _ = (0 : EReal)
    refine canon_cols _ _ _ n _ _ (fun i h => absurd (show 1536 + k.val = _ + i.val from h) (by omega)) fun _ => ?_
    refine canon_cols _ _ _ n _ _ (fun i h => absurd (show 1536 + k.val = _ + i.val from h) (by omega)) fun _ => ?_
    refine canon_cols _ _ _ n _ _ (fun i h => absurd (show 1536 + k.val = _ + i.val from h) (by omega)) fun _ => ?_
    refine canon_cols _ _ _ n _ _ (fun i h => pay3_at n i) fun q => absurd (show 1536 + k.val < 0 ∨ 0 + 2048 ≤ 1536 + k.val from q) (by omega)
  · rw [D_fun, E_fun hf t]
    refine Eq.trans (congrArg (fun u => next u (D m c t) (E m c t) (H m c (sq t) (t.val % 16)) d n) (channels_at t _ _ _ _ _ _ _ _ _ _ _ (old_first t h0))) ?_
    rfl

/-- The rows of the layer's output of a chunk. -/
theorem rows_A (t : Fin cfg0.N) (h0 : t.val % 16 = 0) (h1 : ¬1 ≤ t.val % 16) (h2 : ¬t.val % 16 = 15) (r : Fin 128) (d : Fin 1024) :
    (outsAt0 m c t.val t.isLt).1 (ix3 0 r d) = outRow (xs m c (sq t) (qr t r)) (yrow (xs m c (sq t)) (ws m c) (cws m c) (cbs m c) (dtbs m c) (als m c) (dsks m c) (qr t r))
          (zrow (xs m c (sq t)) (ws m c) (qr t r)) (nws m c) (wos m c) (lgs m c) (lbs m c) d := by
  rw [outsAt0_A m c t h0 h1 h2]
  frame_out
  refine row_at hf t _ _ _ _ _ _ _ (channels_at t _ _ _ _ _ _ _ _ _ _ _ (old_first t h0)) (fun s e => pay23_at _ _ _ _ _ _ _ _ _ s e) (fun s e => ?_) ?_ ?_ ?_ ?_ _ _ _ _ r d
  · refine (heads_at _ _ _ _ _ _ (fun a b => blk11 m c t b a) (fun s e => pay23_at _ _ _ _ _ _ _ _ _ s e) _ _ _ _ _ _ _ _ _ rfl _
      (fun a b => pay24_at _ _ _ _ _ _ _ _ _ a b) s e).trans ?_
    rw [D_fun, E_fun hf t]
    exact congrArg (fun u => inner u (D m c t) (E m c t) s e) (channels_at t _ _ _ _ _ _ _ _ _ _ _ (old_first t h0))
  · intro n k
    have e0 := load_cols (o := 0) (k := 512) inb_S128x2048_S128x512_0_0 (by omega) (View.whole cc0_scratch1)
    refine (e0 _ n k).trans ?_
    rw [h0]
    show _ = (0 : EReal)
    refine canon_cols _ _ _ n _ _ (fun i h => pay3_at n i) fun q => absurd (show 0 + k.val < 0 ∨ 0 + 2048 ≤ 0 + k.val from q) (by omega)
  · intro n k
    have e0 := load_cols (o := 512) (k := 512) inb_S128x2048_S128x512_0_512 (by omega) (View.whole cc0_scratch1)
    refine (e0 _ n k).trans ?_
    rw [h0]
    show _ = (0 : EReal)
    refine canon_cols _ _ _ n _ _ (fun i h => absurd (show 512 + k.val = _ + i.val from h) (by omega)) fun _ => ?_
    refine canon_cols _ _ _ n _ _ (fun i h => pay3_at n i) fun q => absurd (show 512 + k.val < 0 ∨ 0 + 2048 ≤ 512 + k.val from q) (by omega)
  · intro n k
    have e0 := load_cols (o := 1024) (k := 512) inb_S128x2048_S128x512_0_1024 (by omega) (View.whole cc0_scratch1)
    refine (e0 _ n k).trans ?_
    rw [h0]
    show _ = (0 : EReal)
    refine canon_cols _ _ _ n _ _ (fun i h => absurd (show 1024 + k.val = _ + i.val from h) (by omega)) fun _ => ?_
    refine canon_cols _ _ _ n _ _ (fun i h => absurd (show 1024 + k.val = _ + i.val from h) (by omega)) fun _ => ?_
    refine canon_cols _ _ _ n _ _ (fun i h => pay3_at n i) fun q => absurd (show 1024 + k.val < 0 ∨ 0 + 2048 ≤ 1024 + k.val from q) (by omega)
  · intro n k
    have e0 := load_cols (o := 1536) (k := 512) inb_S128x2048_S128x512_0_1536 (by omega) (View.whole cc0_scratch1)
    refine (e0 _ n k).trans ?_
    rw [h0]
    show _ = (0 : EReal)
    refine canon_cols _ _ _ n _ _ (fun i h => absurd (show 1536 + k.val = _ + i.val from h) (by omega)) fun _ => ?_
    refine canon_cols _ _ _ n _ _ (fun i h => absurd (show 1536 + k.val = _ + i.val from h) (by omega)) fun _ => ?_
    refine canon_cols _ _ _ n _ _ (fun i h => absurd (show 1536 + k.val = _ + i.val from h) (by omega)) fun _ => ?_
    refine canon_cols _ _ _ n _ _ (fun i h => pay3_at n i) fun q => absurd (show 1536 + k.val < 0 ∨ 0 + 2048 ≤ 1536 + k.val from q) (by omega)

/-- The state after a chunk. -/
theorem state_B (t : Fin cfg0.N) (h0 : ¬t.val % 16 = 0) (h1 : 1 ≤ t.val % 16) (h2 : ¬t.val % 16 = 15)
    (hp : ∀ n d, (outsAt0 m c (t.val - 1) (Nat.lt_of_le_of_lt (Nat.sub_le _ _) t.isLt)).2.2.2.2 (ix2 n d) = H m c (sq t) (t.val % 16) d n) (n : Fin 128) (d : Fin 2048) :
    (outsAt0 m c t.val t.isLt).2.2.2.2 (ix2 n d) = H m c (sq t) (t.val % 16 + 1) d n := by
  rw [outsAt0_B m c t h0 h1 h2]
  frame_out
  refine Eq.trans (next_at _ _ _ _ _ _ _ (spread_at t) (fun s e => pay23_at _ _ _ _ _ _ _ _ _ s e) (E_fin hf t) (D_fin hf t) _ _ _ _
    (H m c (sq t) (t.val % 16)) ?_ ?_ ?_ ?_ _ n d) ?_
  · exact fun n k => (prev_cols _ 0 0 rfl _ n k).trans (hp n _)
  · exact fun n k => (prev_cols _ 1 512 rfl _ n k).trans (hp n _)
  · exact fun n k => (prev_cols _ 2 1024 rfl _ n k).trans (hp n _)
  · exact fun n k => (prev_cols _ 3 1536 rfl _ n k).trans (hp n _)
  · rw [D_fun, E_fun hf t]
    refine Eq.trans (congrArg (fun u => next u (D m c t) (E m c t) (H m c (sq t) (t.val % 16)) d n) (channels_at t _ _ _ _ _ _ _ _ _ _ _ (old_later t h1 _ _))) ?_
    rfl

/-- The rows of the layer's output of a chunk. -/
theorem rows_B (t : Fin cfg0.N) (h0 : ¬t.val % 16 = 0) (h1 : 1 ≤ t.val % 16) (h2 : ¬t.val % 16 = 15)
    (hp : ∀ n d, (outsAt0 m c (t.val - 1) (Nat.lt_of_le_of_lt (Nat.sub_le _ _) t.isLt)).2.2.2.2 (ix2 n d) = H m c (sq t) (t.val % 16) d n) (r : Fin 128) (d : Fin 1024) :
    (outsAt0 m c t.val t.isLt).1 (ix3 0 r d) = outRow (xs m c (sq t) (qr t r)) (yrow (xs m c (sq t)) (ws m c) (cws m c) (cbs m c) (dtbs m c) (als m c) (dsks m c) (qr t r))
          (zrow (xs m c (sq t)) (ws m c) (qr t r)) (nws m c) (wos m c) (lgs m c) (lbs m c) d := by
  rw [outsAt0_B m c t h0 h1 h2]
  frame_out
  refine row_at hf t _ _ _ _ _ _ _ (channels_at t _ _ _ _ _ _ _ _ _ _ _ (old_later t h1 _ _)) (fun s e => pay23_at _ _ _ _ _ _ _ _ _ s e) (fun s e => ?_) ?_ ?_ ?_ ?_ _ _ _ _ r d
  · refine (heads_at _ _ _ _ _ _ (fun a b => blk11 m c t b a) (fun s e => pay23_at _ _ _ _ _ _ _ _ _ s e) _ _ _ _ _ _ _ _ _ rfl _
      (fun a b => pay24_at _ _ _ _ _ _ _ _ _ a b) s e).trans ?_
    rw [D_fun, E_fun hf t]
    exact congrArg (fun u => inner u (D m c t) (E m c t) s e) (channels_at t _ _ _ _ _ _ _ _ _ _ _ (old_later t h1 _ _))
  · exact fun n k => (prev_cols _ 0 0 rfl _ n k).trans (hp n _)
  · exact fun n k => (prev_cols _ 1 512 rfl _ n k).trans (hp n _)
  · exact fun n k => (prev_cols _ 2 1024 rfl _ n k).trans (hp n _)
  · exact fun n k => (prev_cols _ 3 1536 rfl _ n k).trans (hp n _)

/-- The state after a chunk. -/
theorem state_C (t : Fin cfg0.N) (h0 : ¬t.val % 16 = 0) (h1 : 1 ≤ t.val % 16) (h2 : t.val % 16 = 15)
    (hp : ∀ n d, (outsAt0 m c (t.val - 1) (Nat.lt_of_le_of_lt (Nat.sub_le _ _) t.isLt)).2.2.2.2 (ix2 n d) = H m c (sq t) (t.val % 16) d n) (n : Fin 128) (d : Fin 2048) :
    (outsAt0 m c t.val t.isLt).2.2.2.2 (ix2 n d) = H m c (sq t) (t.val % 16 + 1) d n := by
  rw [outsAt0_C m c t h0 h1 h2]
  frame_out
  refine Eq.trans (next_at _ _ _ _ _ _ _ (spread_at t) (fun s e => pay23_at _ _ _ _ _ _ _ _ _ s e) (E_fin hf t) (D_fin hf t) _ _ _ _
    (H m c (sq t) (t.val % 16)) ?_ ?_ ?_ ?_ _ n d) ?_
  · exact fun n k => (prev_cols _ 0 0 rfl _ n k).trans (hp n _)
  · exact fun n k => (prev_cols _ 1 512 rfl _ n k).trans (hp n _)
  · exact fun n k => (prev_cols _ 2 1024 rfl _ n k).trans (hp n _)
  · exact fun n k => (prev_cols _ 3 1536 rfl _ n k).trans (hp n _)
  · rw [D_fun, E_fun hf t]
    refine Eq.trans (congrArg (fun u => next u (D m c t) (E m c t) (H m c (sq t) (t.val % 16)) d n) (channels_at t _ _ _ _ _ _ _ _ _ _ _ (old_later t h1 _ _))) ?_
    rfl

/-- The rows of the layer's output of a chunk. -/
theorem rows_C (t : Fin cfg0.N) (h0 : ¬t.val % 16 = 0) (h1 : 1 ≤ t.val % 16) (h2 : t.val % 16 = 15)
    (hp : ∀ n d, (outsAt0 m c (t.val - 1) (Nat.lt_of_le_of_lt (Nat.sub_le _ _) t.isLt)).2.2.2.2 (ix2 n d) = H m c (sq t) (t.val % 16) d n) (r : Fin 128) (d : Fin 1024) :
    (outsAt0 m c t.val t.isLt).1 (ix3 0 r d) = outRow (xs m c (sq t) (qr t r)) (yrow (xs m c (sq t)) (ws m c) (cws m c) (cbs m c) (dtbs m c) (als m c) (dsks m c) (qr t r))
          (zrow (xs m c (sq t)) (ws m c) (qr t r)) (nws m c) (wos m c) (lgs m c) (lbs m c) d := by
  rw [outsAt0_C m c t h0 h1 h2]
  frame_out
  refine row_at hf t _ _ _ _ _ _ _ (channels_at t _ _ _ _ _ _ _ _ _ _ _ (old_later t h1 _ _)) (fun s e => pay23_at _ _ _ _ _ _ _ _ _ s e) (fun s e => ?_) ?_ ?_ ?_ ?_ _ _ _ _ r d
  · refine (heads_at _ _ _ _ _ _ (fun a b => blk11 m c t b a) (fun s e => pay23_at _ _ _ _ _ _ _ _ _ s e) _ _ _ _ _ _ _ _ _ rfl _
      (fun a b => pay24_at _ _ _ _ _ _ _ _ _ a b) s e).trans ?_
    rw [D_fun, E_fun hf t]
    exact congrArg (fun u => inner u (D m c t) (E m c t) s e) (channels_at t _ _ _ _ _ _ _ _ _ _ _ (old_later t h1 _ _))
  · exact fun n k => (prev_cols _ 0 0 rfl _ n k).trans (hp n _)
  · exact fun n k => (prev_cols _ 1 512 rfl _ n k).trans (hp n _)
  · exact fun n k => (prev_cols _ 2 1024 rfl _ n k).trans (hp n _)
  · exact fun n k => (prev_cols _ 3 1536 rfl _ n k).trans (hp n _)

/-- The state the run hands back. -/
theorem state_out (t : Fin cfg0.N) (h0 : ¬t.val % 16 = 0) (h1 : 1 ≤ t.val % 16) (h2 : t.val % 16 = 15)
    (hp : ∀ n d, (outsAt0 m c (t.val - 1) (Nat.lt_of_le_of_lt (Nat.sub_le _ _) t.isLt)).2.2.2.2 (ix2 n d) = H m c (sq t) (t.val % 16) d n) (d : Fin 2048) (n : Fin 128) :
    (outsAt0 m c t.val t.isLt).2.2.1 (ix3 0 d n) = H m c (sq t) 16 d n := by
  rw [outsAt0_C m c t h0 h1 h2]
  frame_out
  refine (pay1_at _ d n).trans ?_
  have e0 := load_cols (o := 0) (k := 2048) inb_S128x2048_S128x2048_0_0 (by omega) (View.whole cc0_scratch1)
  refine (e0 _ n d).trans ?_
  rw [show (⟨0 + d.val, by omega⟩ : Fin 2048) = d from Fin.ext (by show 0 + d.val = d.val; omega)]
  refine Eq.trans (next_at _ _ _ _ _ _ _ (spread_at t) (fun s e => pay23_at _ _ _ _ _ _ _ _ _ s e) (E_fin hf t) (D_fin hf t) _ _ _ _
    (H m c (sq t) (t.val % 16)) ?_ ?_ ?_ ?_ _ n d) ?_
  · exact fun n k => (prev_cols _ 0 0 rfl _ n k).trans (hp n _)
  · exact fun n k => (prev_cols _ 1 512 rfl _ n k).trans (hp n _)
  · exact fun n k => (prev_cols _ 2 1024 rfl _ n k).trans (hp n _)
  · exact fun n k => (prev_cols _ 3 1536 rfl _ n k).trans (hp n _)
  · rw [D_fun, E_fun hf t]
    refine Eq.trans (congrArg (fun u => next u (D m c t) (E m c t) (H m c (sq t) (t.val % 16)) d n) (channels_at t _ _ _ _ _ _ _ _ _ _ _ (old_later t h1 _ _))) ?_
    exact congrArg (fun j => H m c (sq t) j d n) (show t.val % 16 + 1 = 16 by omega)

omit hf in
/-- The last projected rows of a sequence. -/
theorem tail_out (t : Fin cfg0.N) (h0 : ¬t.val % 16 = 0) (h1 : 1 ≤ t.val % 16) (h2 : t.val % 16 = 15) (r : Fin 3) (d : Fin 3072) :
    (outsAt0 m c t.val t.isLt).2.1 (ix3 0 r d) = Pr m c t (2048 + r.val) d := by
  rw [outsAt0_C m c t h0 h1 h2]
  frame_out
  have e0 := load_rows (o := 133) (k := 3) inb_S1x136x3072_S1x3x3072_0_133_0 (by omega) (View.whole cc0_scratch0)
  refine (e0 _ r d).trans ((buffer_at t _ _ _ _ (fresh_at t) (old_later t h1 _ _) _ d (by show 5 ≤ 133 + r.val; omega)).trans ?_)
  exact congrArg (fun n => Pr m c t n d) (by show t.val % 16 * 128 + (133 + r.val) - 5 = _; omega)

/-- The state after a chunk, over the run. -/
theorem state_kept (n : ℕ) : ∀ hn : n < cfg0.N, ∀ (a : Fin 128) (d : Fin 2048),
    (outsAt0 m c n hn).2.2.2.2 (ix2 a d) = H m c (sq ⟨n, hn⟩) (n % 16 + 1) d a := by
  induction n using Nat.strong_induction_on with
  | _ n ih =>
    intro hn a d
    by_cases h0 : n % 16 = 0
    · exact state_A hf ⟨n, hn⟩ h0 (by show ¬1 ≤ n % 16; omega) (by show ¬n % 16 = 15; omega) a d
    · have hp : ∀ (a : Fin 128) (d : Fin 2048), (outsAt0 m c (n - 1) (Nat.lt_of_le_of_lt (Nat.sub_le _ _) hn)).2.2.2.2 (ix2 a d)
          = H m c (sq ⟨n, hn⟩) (n % 16) d a := fun a d => by
        refine (ih (n - 1) (by omega) _ a d).trans ?_
        have e1 : (n - 1) % 16 + 1 = n % 16 := mod_pred ⟨n, hn⟩ (by show 1 ≤ n % 16; omega)
        have e2 : sq ⟨n - 1, Nat.lt_of_le_of_lt (Nat.sub_le _ _) hn⟩ = sq ⟨n, hn⟩ := sq_pred ⟨n, hn⟩ (by show 1 ≤ n % 16; omega)
        rw [e1, e2]
      by_cases h2 : n % 16 = 15
      · exact state_C hf ⟨n, hn⟩ h0 (by show 1 ≤ n % 16; omega) h2 hp a d
      · exact state_B hf ⟨n, hn⟩ h0 (by show 1 ≤ n % 16; omega) h2 hp a d

/-- The state a later grid point finds. -/
theorem state_found (t : Fin cfg0.N) (h1 : 1 ≤ t.val % 16) (a : Fin 128) (d : Fin 2048) :
    (outsAt0 m c (t.val - 1) (Nat.lt_of_le_of_lt (Nat.sub_le _ _) t.isLt)).2.2.2.2 (ix2 a d) = H m c (sq t) (t.val % 16) d a := by
  refine (state_kept hf (t.val - 1) _ a d).trans ?_
  have e1 : (t.val - 1) % 16 + 1 = t.val % 16 := mod_pred t h1
  have e2 : sq ⟨t.val - 1, Nat.lt_of_le_of_lt (Nat.sub_le _ _) t.isLt⟩ = sq t := sq_pred t h1
  rw [e1, e2]

/-- The rows of the layer's output at every grid point. -/
theorem rows_at (t : Fin cfg0.N) (r : Fin 128) (d : Fin 1024) :
    (outsAt0 m c t.val t.isLt).1 (ix3 0 r d) = outRow (xs m c (sq t) (qr t r)) (yrow (xs m c (sq t)) (ws m c) (cws m c) (cbs m c) (dtbs m c) (als m c) (dsks m c) (qr t r))
          (zrow (xs m c (sq t)) (ws m c) (qr t r)) (nws m c) (wos m c) (lgs m c) (lbs m c) d := by
  by_cases h0 : t.val % 16 = 0
  · exact rows_A hf t h0 (by omega) (by omega) r d
  · by_cases h2 : t.val % 16 = 15
    · exact rows_C hf t h0 (by omega) h2 (state_found hf t (by omega)) r d
    · exact rows_B hf t h0 (by omega) h2 (state_found hf t (by omega)) r d

end Cert.Kernel2Ideal.Ssm

end
-- ==== Proof.SsmFinal.lean ====
module

public import Idealize.ShloMosaic.Lib.Pipeline.ValueKit
public import Idealize.ShloMosaic.Lib.Pointwise
public import proofs.«01_k».proof.Proof.Gen.Kernel2Ideal.Value
public import proofs.«01_k».proof.Proof.SsmRun

@[expose] public section

set_option maxRecDepth 16384

noncomputable section

namespace Cert.Kernel2Ideal.Ssm

open Cert.Kernel2Ideal Cert.Kernel2Ideal.Gen Idealize.ShloMosaic Idealize.ShloMosaic.TcCoe Idealize.SL.Sem Cert.Ssm Cert.Ffn

open Idealize.ShloMosaic.Pipeline (Dat)

variable {m : (ℓ : Loc nD τ sig) → Buf (Elt Ideal) ℓ} {c : Dev nD}

variable (m c) in
/-- The layer's rows. -/
def rowsAll : FVec Ideal S8x2048x1024 .f32 := fun i => outRow (xs m c (i 0) (i 1)) (yrow (xs m c (i 0)) (ws m c) (cws m c) (cbs m c) (dtbs m c) (als m c) (dsks m c) (i 1)) (zrow (xs m c (i 0)) (ws m c) (i 1)) (nws m c) (wos m c)
  (lgs m c) (lbs m c) (i 2)

variable (m c) in
/-- The last three rows of the projection. -/
def tailAll : FVec Ideal S8x3x3072 .f32 := fun i => padded (xs m c (i 0)) (ws m c) (2048 + (i 1).val) (i 2)

variable (m c) in
/-- The state after the last chunk. -/
def stateAll : FVec Ideal S8x2048x128 .f32 := fun i => state (xs m c (i 0)) (ws m c) (cws m c) (cbs m c) (dtbs m c) (als m c) 16 (i 1) (i 2)

/-- The array of rows after the run. -/
theorem final_rows (hf : Finite m c) : (dats m 0 c).arrAt 14 cfg0.N = rowsAll m c := by
  refine (dats m 0 c).arrAt_eq_of_covers 14 _ (by decide +kernel) fun t _ y => ?_
  blk_simp
  rw [after0_14]
  idx_vars y
  have hy : y0 = 0 := Fin.ext (by have := y0.isLt; omega)
  subst hy
  refine (rows_at hf t y1 y2).trans ?_
  refine congrArg (rowsAll m c) (a₁ := ix3 (sq t) (qr t y1) y2) ?_
  blk_ext [idx t]
  all_goals rfl

/-- The array of the last rows after the run. -/
theorem final_tail : (dats m 0 c).arrAt 15 cfg0.N = tailAll m c := by
  refine (dats m 0 c).arrAt_eq_of_covers 15 _ (by decide +kernel) fun t hfl y => ?_
  have h2 := (flush0_15 t).mp hfl
  blk_simp
  rw [after0_15]
  idx_vars y
  have hy : y0 = 0 := Fin.ext (by have := y0.isLt; omega)
  subst hy
  refine (tail_out t (by omega) (by omega) h2 y1 y2).trans ?_
  refine congrArg (tailAll m c) (a₁ := ix3 (sq t) y1 y2) ?_
  blk_ext [idx t]
  all_goals rfl

/-- The array of states after the run. -/
theorem final_state (hf : Finite m c) : (dats m 0 c).arrAt 16 cfg0.N = stateAll m c := by
  refine (dats m 0 c).arrAt_eq_of_covers 16 _ (by decide +kernel) fun t hfl y => ?_
  have h2 := (flush0_16 t).mp hfl
  blk_simp
  rw [after0_16]
  idx_vars y
  have hy : y0 = 0 := Fin.ext (by have := y0.isLt; omega)
  subst hy
  refine (state_out hf t (by omega) (by omega) h2 (fun n d => state_found hf t (by omega) n d) y1 y2).trans ?_
  refine congrArg (stateAll m c) (a₁ := ix3 (sq t) y1 y2) ?_
  blk_ext [idx t]
  all_goals rfl

end Cert.Kernel2Ideal.Ssm

end
-- ==== Proof.SsmLoop.lean ====
module

public import Idealize.ShloMosaic.Lib.Pointwise
public import proofs.«01_k».proof.Proof.Gen.Reference2Ideal.Run
public import proofs.«01_k».proof.Proof.SsmStep
public import Idealize.ShloMosaic.Lib.StableHlo.RunLoop
public import Idealize.ShloMosaic.Lib.StableHlo.RunRead

@[expose] public section

set_option maxRecDepth 16384

noncomputable section

namespace Cert.Reference2Ideal.Ssm

open Cert.Reference2Ideal Cert.Reference2Ideal.Gen Cert.Reference2Ideal.Value Idealize.ShloMosaic Idealize.ShloMosaic.TcCoe Idealize.SL.Sem Cert.Ssm Cert.Ffn

/-! ## Sums over a window -/

theorem foldl_add {ι : Type} (G : ι → EReal) (l : List ι) : ∀ v : EReal, l.foldl (fun a n => a + G n) v = v + (l.map G).sum := by
  induction l with
  | nil => intro v; simp
  | cons a l ih => intro v; rw [List.foldl_cons, ih, List.map_cons, List.sum_cons, add_assoc]

/-- The places of a window of 128 rows that end at row `t`, counted by the row they read. -/
def place (t : Fin 128) : Fin 128 ≃ (⟨4, ![1, 128, 1, 1]⟩ : Shape).Idx where
  toFun s := ix4 (0 : Fin 1) (⟨(s.val + 127 - t.val) % 128, Nat.mod_lt _ (by decide)⟩ : Fin 128) (0 : Fin 1) (0 : Fin 1)
  invFun w := ⟨((w 1).val + t.val + 1) % 128, Nat.mod_lt _ (by decide)⟩
  left_inv s := Fin.ext (by show ((s.val + 127 - t.val) % 128 + t.val + 1) % 128 = s.val; omega)
  right_inv w := by
    have h1 : (w 1).val < 128 := (w 1).isLt
    refine funext fun a => Fin.ext ?_
    match a with
    | ⟨0, _⟩ => have h : (w 0).val < 1 := (w 0).isLt; show 0 = (w 0).val; omega
    | ⟨1, _⟩ => show (((w 1).val + t.val + 1) % 128 + 127 - t.val) % 128 = (w 1).val; omega
    | ⟨2, _⟩ => have h : (w 2).val < 1 := (w 2).isLt; show 0 = (w 2).val; omega
    | ⟨3, _⟩ => have h : (w 3).val < 1 := (w 3).isLt; show 0 = (w 3).val; omega

/-- The running sum of a chunk's rows. -/
theorem cumsum_at (X : FVec Ideal S8x128x4x8 .f32) (b : Fin 8) (t : Fin 128) (g : Fin 4) (r : Fin 8) :
    Host.reduceWindowAdd (F := Ideal) ![1, 128, 1, 1] ![1, 1, 1, 1] ![0, 127, 0, 0] ![0, 0, 0, 0] X
      (broadcastInDim S_ ![] bcast_S_S_ (constant (F := Ideal) S_ .f32 0x00000000#32)) reduceWindows_S8x128x4x8_S8x128x4x8_w1s1p0_0_w128s1p127_0_w1s1p0_0_w1s1p0_0 h_S_ (ix4 b t g r)
      = ∑ s : Fin 128, if s.val ≤ t.val then X (ix4 b s g r) else 0 := by
  have hv : broadcastInDim S_ ![] bcast_S_S_ (constant (F := Ideal) S_ .f32 0x00000000#32) (Shape.Idx.first h_S_) = (0 : EReal) := by
    pointwise
  show Host.reduceWindow (· + ·) ![1, 128, 1, 1] ![1, 1, 1, 1] ![0, 127, 0, 0] ![0, 0, 0, 0] X (fun _ : (⟨0, ![]⟩ : Shape).Idx => broadcastInDim S_ ![] bcast_S_S_ (constant (F := Ideal) S_ .f32 0x00000000#32) (Shape.Idx.first h_S_)) reduceWindows_S8x128x4x8_S8x128x4x8_w1s1p0_0_w128s1p127_0_w1s1p0_0_w1s1p0_0 (by decide) (ix4 b t g r) = _
  rw [hv]
  unfold Host.reduceWindow
  refine (foldl_add _ _ _).trans ?_
  rw [zero_add, ← Fin.sum_univ_def, ← Equiv.sum_comp (⟨4, ![1, 128, 1, 1]⟩ : Shape).rowMajor]
  refine (Fintype.sum_equiv (place t) _ _ fun s => ?_).symm
  dsimp only
  simp only [Equiv.symm_apply_apply]
  have hb := b.isLt
  have hg := g.isLt
  have hr := r.isLt
  have hs := s.isLt
  have ht := t.isLt
  by_cases h : s.val ≤ t.val
  · rw [if_pos h, dif_pos]
    · refine congrArg X (funext fun a => Fin.ext ?_)
      match a with
      | ⟨0, _⟩ => show b.val = b.val * 1 + 0 - 0; omega
      | ⟨1, _⟩ => show s.val = t.val * 1 + (s.val + 127 - t.val) % 128 - 127; omega
      | ⟨2, _⟩ => show g.val = g.val * 1 + 0 - 0; omega
      | ⟨3, _⟩ => show r.val = r.val * 1 + 0 - 0; omega
    · intro a
      match a with
      | ⟨0, _⟩ => show 0 ≤ b.val * 1 + 0 ∧ b.val * 1 + 0 - 0 < 8; omega
      | ⟨1, _⟩ => show 127 ≤ t.val * 1 + (s.val + 127 - t.val) % 128 ∧ t.val * 1 + (s.val + 127 - t.val) % 128 - 127 < 128; omega
      | ⟨2, _⟩ => show 0 ≤ g.val * 1 + 0 ∧ g.val * 1 + 0 - 0 < 4; omega
      | ⟨3, _⟩ => show 0 ≤ r.val * 1 + 0 ∧ r.val * 1 + 0 - 0 < 8; omega
  · rw [if_neg h, dif_neg]
    intro hin
    have h1 : 127 ≤ t.val * 1 + (s.val + 127 - t.val) % 128 ∧ _ := hin 1
    omega

/-! ## Reading and writing a chunk -/

theorem toInt_small (k : Fin 16) : (BitVec.ofNat 32 k.val).toInt = (k.val : Int) := by
  revert k; decide

theorem slice_x (X : FVec Ideal S16x8x128x4x8x64 .f32) (k : Fin 16) (b : Fin 8) (t : Fin 128) (g : Fin 4) (r : Fin 8) (p : Fin 64) :
    shapeCast S8x128x4x8x64 (Host.dynamicSlice S1x8x128x4x8x64 X (fun a => (((![fun _ => BitVec.ofNat 32 k.val, constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt) sliceFits_S16x8x128x4x8x64_S1x8x128x4x8x64) shapeCasts_S1x8x128x4x8x64_S8x128x4x8x64
      (ix5 b t g r p) = X (ix6 k b t g r p) := by
  pointwise
  have e0 := Host.clampedStart_of_le (s := S16x8x128x4x8x64) (t := S1x8x128x4x8x64) rfl (fun a => (((![fun _ => BitVec.ofNat 32 k.val, constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt) 0 k.val (toInt_small k) (by show k.val + 1 ≤ 16; omega)
  have e1 := Host.clampedStart_of_le (s := S16x8x128x4x8x64) (t := S1x8x128x4x8x64) rfl (fun a => (((![fun _ => BitVec.ofNat 32 k.val, constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt) 1 0 rfl (by decide)
  have e2 := Host.clampedStart_of_le (s := S16x8x128x4x8x64) (t := S1x8x128x4x8x64) rfl (fun a => (((![fun _ => BitVec.ofNat 32 k.val, constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt) 2 0 rfl (by decide)
  have e3 := Host.clampedStart_of_le (s := S16x8x128x4x8x64) (t := S1x8x128x4x8x64) rfl (fun a => (((![fun _ => BitVec.ofNat 32 k.val, constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt) 3 0 rfl (by decide)
  have e4 := Host.clampedStart_of_le (s := S16x8x128x4x8x64) (t := S1x8x128x4x8x64) rfl (fun a => (((![fun _ => BitVec.ofNat 32 k.val, constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt) 4 0 rfl (by decide)
  have e5 := Host.clampedStart_of_le (s := S16x8x128x4x8x64) (t := S1x8x128x4x8x64) rfl (fun a => (((![fun _ => BitVec.ofNat 32 k.val, constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt) 5 0 rfl (by decide)
  simp only [e0, e1, e2, e3, e4, e5, Nat.zero_add]

theorem slice_d (X : FVec Ideal S16x8x128x4x8 .f32) (k : Fin 16) (b : Fin 8) (t : Fin 128) (g : Fin 4) (r : Fin 8) :
    shapeCast S8x128x4x8 (Host.dynamicSlice S1x8x128x4x8 X (fun a => (((![fun _ => BitVec.ofNat 32 k.val, constantI S_ 32 0#32, constantI S_ 32 0#32, constantI S_ 32 0#32, constantI S_ 32 0#32] : Fin 5 → (⟨S_, .i32⟩ : BufTy).Contents (Elt Ideal))) a (Shape.Idx.first h_S_)).toInt) sliceFits_S16x8x128x4x8_S1x8x128x4x8) shapeCasts_S1x8x128x4x8_S8x128x4x8
      (ix4 b t g r) = X (ix5 k b t g r) := by
  pointwise
  have e0 := Host.clampedStart_of_le (s := S16x8x128x4x8) (t := S1x8x128x4x8) rfl (fun a => (((![fun _ => BitVec.ofNat 32 k.val, constantI S_ 32 0#32, constantI S_ 32 0#32, constantI S_ 32 0#32, constantI S_ 32 0#32] : Fin 5 → (⟨S_, .i32⟩ : BufTy).Contents (Elt Ideal))) a (Shape.Idx.first h_S_)).toInt) 0 k.val (toInt_small k) (by show k.val + 1 ≤ 16; omega)
  have e1 := Host.clampedStart_of_le (s := S16x8x128x4x8) (t := S1x8x128x4x8) rfl (fun a => (((![fun _ => BitVec.ofNat 32 k.val, constantI S_ 32 0#32, constantI S_ 32 0#32, constantI S_ 32 0#32, constantI S_ 32 0#32] : Fin 5 → (⟨S_, .i32⟩ : BufTy).Contents (Elt Ideal))) a (Shape.Idx.first h_S_)).toInt) 1 0 rfl (by decide)
  have e2 := Host.clampedStart_of_le (s := S16x8x128x4x8) (t := S1x8x128x4x8) rfl (fun a => (((![fun _ => BitVec.ofNat 32 k.val, constantI S_ 32 0#32, constantI S_ 32 0#32, constantI S_ 32 0#32, constantI S_ 32 0#32] : Fin 5 → (⟨S_, .i32⟩ : BufTy).Contents (Elt Ideal))) a (Shape.Idx.first h_S_)).toInt) 2 0 rfl (by decide)
  have e3 := Host.clampedStart_of_le (s := S16x8x128x4x8) (t := S1x8x128x4x8) rfl (fun a => (((![fun _ => BitVec.ofNat 32 k.val, constantI S_ 32 0#32, constantI S_ 32 0#32, constantI S_ 32 0#32, constantI S_ 32 0#32] : Fin 5 → (⟨S_, .i32⟩ : BufTy).Contents (Elt Ideal))) a (Shape.Idx.first h_S_)).toInt) 3 0 rfl (by decide)
  have e4 := Host.clampedStart_of_le (s := S16x8x128x4x8) (t := S1x8x128x4x8) rfl (fun a => (((![fun _ => BitVec.ofNat 32 k.val, constantI S_ 32 0#32, constantI S_ 32 0#32, constantI S_ 32 0#32, constantI S_ 32 0#32] : Fin 5 → (⟨S_, .i32⟩ : BufTy).Contents (Elt Ideal))) a (Shape.Idx.first h_S_)).toInt) 4 0 rfl (by decide)
  simp only [e0, e1, e2, e3, e4, Nat.zero_add]

theorem slice_b (X : FVec Ideal S16x8x128x4x128 .f32) (k : Fin 16) (b : Fin 8) (t : Fin 128) (g : Fin 4) (n : Fin 128) :
    shapeCast S8x128x4x128 (Host.dynamicSlice S1x8x128x4x128 X (fun a => (((![fun _ => BitVec.ofNat 32 k.val, constantI S_ 32 0#32, constantI S_ 32 0#32, constantI S_ 32 0#32, constantI S_ 32 0#32] : Fin 5 → (⟨S_, .i32⟩ : BufTy).Contents (Elt Ideal))) a (Shape.Idx.first h_S_)).toInt) sliceFits_S16x8x128x4x128_S1x8x128x4x128) shapeCasts_S1x8x128x4x128_S8x128x4x128
      (ix4 b t g n) = X (ix5 k b t g n) := by
  pointwise
  have e0 := Host.clampedStart_of_le (s := S16x8x128x4x128) (t := S1x8x128x4x128) rfl (fun a => (((![fun _ => BitVec.ofNat 32 k.val, constantI S_ 32 0#32, constantI S_ 32 0#32, constantI S_ 32 0#32, constantI S_ 32 0#32] : Fin 5 → (⟨S_, .i32⟩ : BufTy).Contents (Elt Ideal))) a (Shape.Idx.first h_S_)).toInt) 0 k.val (toInt_small k) (by show k.val + 1 ≤ 16; omega)
  have e1 := Host.clampedStart_of_le (s := S16x8x128x4x128) (t := S1x8x128x4x128) rfl (fun a => (((![fun _ => BitVec.ofNat 32 k.val, constantI S_ 32 0#32, constantI S_ 32 0#32, constantI S_ 32 0#32, constantI S_ 32 0#32] : Fin 5 → (⟨S_, .i32⟩ : BufTy).Contents (Elt Ideal))) a (Shape.Idx.first h_S_)).toInt) 1 0 rfl (by decide)
  have e2 := Host.clampedStart_of_le (s := S16x8x128x4x128) (t := S1x8x128x4x128) rfl (fun a => (((![fun _ => BitVec.ofNat 32 k.val, constantI S_ 32 0#32, constantI S_ 32 0#32, constantI S_ 32 0#32, constantI S_ 32 0#32] : Fin 5 → (⟨S_, .i32⟩ : BufTy).Contents (Elt Ideal))) a (Shape.Idx.first h_S_)).toInt) 2 0 rfl (by decide)
  have e3 := Host.clampedStart_of_le (s := S16x8x128x4x128) (t := S1x8x128x4x128) rfl (fun a => (((![fun _ => BitVec.ofNat 32 k.val, constantI S_ 32 0#32, constantI S_ 32 0#32, constantI S_ 32 0#32, constantI S_ 32 0#32] : Fin 5 → (⟨S_, .i32⟩ : BufTy).Contents (Elt Ideal))) a (Shape.Idx.first h_S_)).toInt) 3 0 rfl (by decide)
  have e4 := Host.clampedStart_of_le (s := S16x8x128x4x128) (t := S1x8x128x4x128) rfl (fun a => (((![fun _ => BitVec.ofNat 32 k.val, constantI S_ 32 0#32, constantI S_ 32 0#32, constantI S_ 32 0#32, constantI S_ 32 0#32] : Fin 5 → (⟨S_, .i32⟩ : BufTy).Contents (Elt Ideal))) a (Shape.Idx.first h_S_)).toInt) 4 0 rfl (by decide)
  simp only [e0, e1, e2, e3, e4, Nat.zero_add]

theorem put_y (Y : FVec Ideal S16x8x128x4x8x64 .f32) (Z : FVec Ideal S8x128x4x8x64 .f32) (k k' : Fin 16) (b : Fin 8) (t : Fin 128) (g : Fin 4) (r : Fin 8) (p : Fin 64) :
    Host.dynamicUpdateSlice Y (broadcastInDim S1x8x128x4x8x64 ![1, 2, 3, 4, 5] bcast_S8x128x4x8x64_S1x8x128x4x8x64_1_2_3_4_5 Z) (fun a => (((![fun _ => BitVec.ofNat 32 k.val, constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt)
        updateFits_S16x8x128x4x8x64_S1x8x128x4x8x64
      (ix6 k' b t g r p) = if k' = k then Z (ix5 b t g r p) else Y (ix6 k' b t g r p) := by
  pointwise
  have e0 := Host.clampedStart_of_le (s := S16x8x128x4x8x64) (t := S1x8x128x4x8x64) rfl (fun a => (((![fun _ => BitVec.ofNat 32 k.val, constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt) 0 k.val (toInt_small k) (by show k.val + 1 ≤ 16; omega)
  have e1 := Host.clampedStart_of_le (s := S16x8x128x4x8x64) (t := S1x8x128x4x8x64) rfl (fun a => (((![fun _ => BitVec.ofNat 32 k.val, constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt) 1 0 rfl (by decide)
  have e2 := Host.clampedStart_of_le (s := S16x8x128x4x8x64) (t := S1x8x128x4x8x64) rfl (fun a => (((![fun _ => BitVec.ofNat 32 k.val, constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt) 2 0 rfl (by decide)
  have e3 := Host.clampedStart_of_le (s := S16x8x128x4x8x64) (t := S1x8x128x4x8x64) rfl (fun a => (((![fun _ => BitVec.ofNat 32 k.val, constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt) 3 0 rfl (by decide)
  have e4 := Host.clampedStart_of_le (s := S16x8x128x4x8x64) (t := S1x8x128x4x8x64) rfl (fun a => (((![fun _ => BitVec.ofNat 32 k.val, constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt) 4 0 rfl (by decide)
  have e5 := Host.clampedStart_of_le (s := S16x8x128x4x8x64) (t := S1x8x128x4x8x64) rfl (fun a => (((![fun _ => BitVec.ofNat 32 k.val, constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt) 5 0 rfl (by decide)
  by_cases h : k' = k
  · rw [if_pos h, dif_pos ⟨by rw [e0]; omega, by rw [e1, e2, e3, e4, e5]; omega⟩]
    refine congrArg Z (funext fun a => Fin.ext ?_)
    match a with
    | ⟨0, _⟩ => exact congrArg (b.val - ·) e1
    | ⟨1, _⟩ => exact congrArg (t.val - ·) e2
    | ⟨2, _⟩ => exact congrArg (g.val - ·) e3
    | ⟨3, _⟩ => exact congrArg (r.val - ·) e4
    | ⟨4, _⟩ => exact congrArg (p.val - ·) e5
  · rw [if_neg h, dif_neg]
    rintro ⟨q, _⟩
    rw [e0] at q
    exact h (Fin.ext (by omega))

end Cert.Reference2Ideal.Ssm

end
-- ==== Proof.SsmTrip.lean ====
module

public import Idealize.ShloMosaic.Lib.Pointwise
public import proofs.«01_k».proof.Proof.Gen.Reference2Ideal.Run
public import proofs.«01_k».proof.Proof.SsmLoop
public import Idealize.ShloMosaic.Lib.StableHlo.RunLoop
public import Idealize.ShloMosaic.Lib.StableHlo.RunRead

@[expose] public section

set_option maxRecDepth 16384

noncomputable section

namespace Cert.Reference2Ideal.Ssm

open Cert.Reference2Ideal Cert.Reference2Ideal.Gen Cert.Reference2Ideal.Value Idealize.ShloMosaic Idealize.ShloMosaic.TcCoe Idealize.SL.Sem Cert.Ssm Cert.Ffn

open Idealize.ShloMosaic.StableHlo

/-- The column of a group, a head of it and a coordinate of the head. -/
def col (g : Fin 4) (r : Fin 8) (p : Fin 64) : Fin 2048 := ⟨g.val * 512 + r.val * 64 + p.val, by omega⟩

/-- The head of a group. -/
def hh (g : Fin 4) (r : Fin 8) : Fin 32 := ⟨g.val * 8 + r.val, by omega⟩

theorem hd_col (g : Fin 4) (r : Fin 8) (p : Fin 64) : hd (col g r p) = hh g r := Fin.ext (by show (g.val * 512 + r.val * 64 + p.val) / 64 = g.val * 8 + r.val; omega)

theorem gr_col (g : Fin 4) (r : Fin 8) (p : Fin 64) : gr (col g r p) = g := Fin.ext (by show (g.val * 512 + r.val * 64 + p.val) / 512 = g.val; omega)

section Chunk

variable (X : FVec Ideal S8x128x4x8x64 .f32) (D A : FVec Ideal S8x128x4x8 .f32) (B C : FVec Ideal S8x128x4x128 .f32) (H : FVec Ideal S8x4x8x64x128 .f32)
  (K : FVec Ideal S32 .f32) (M : (⟨S1x128x128x1x1, .i1⟩ : BufTy).Contents (Elt Ideal)) (b : Fin 8)
  (u : Fin 128 → Fin 3072 → EReal) (dt ac : Fin 128 → Fin 32 → EReal) (Hc : Fin 2048 → Fin 128 → EReal) (dsk : Fin 32 → EReal)

/-- The state after a chunk. -/
theorem next_step (hX : ∀ t g r p, X (ix5 b t g r p) = u t (xcol (col g r p))) (hD : ∀ t g r, D (ix4 b t g r) = dt t (hh g r))
    (hA : ∀ t g r, A (ix4 b t g r) = ac t (hh g r)) (hB : ∀ t g n, B (ix4 b t g n) = u t (bcol g n))
    (hH : ∀ g r p n, H (ix5 b g r p n) = Hc (col g r p) n) (g : Fin 4) (r : Fin 8) (p : Fin 64) (n : Fin 128) :
    (addf (mulf H (broadcastInDim S8x4x8x64x128 ![0, 1, 2, 3, 4] bcast_S8x4x8x1x1_S8x4x8x64x128_0_1_2_3_4 (broadcastInDim S8x4x8x1x1 ![0, 1, 2] bcast_S8x4x8_S8x4x8x1x1_0_1_2 (Host.exp (shapeCast S8x4x8 (extractStridedSlice S8x1x4x8 ![0, 127, 0, 0] A slices_S8x128x4x8_S8x1x4x8_0_127_0_0) shapeCasts_S8x1x4x8_S8x4x8))))) (Host.dotGeneral dot_S8x128x4x8x64_S8x128x4x128_S8x4x8x64x128_1_1_34_3_02_02 none (mulf (broadcastInDim S8x128x4x8x64 ![0, 1, 2, 3, 4] bcast_S8x128x4x8x1_S8x128x4x8x64_0_1_2_3_4 (broadcastInDim S8x128x4x8x1 ![0, 1, 2, 3] bcast_S8x128x4x8_S8x128x4x8x1_0_1_2_3 (mulf (Host.exp (subf (broadcastInDim S8x128x4x8 ![0, 1, 2, 3] bcast_S8x1x4x8_S8x128x4x8_0_1_2_3 (extractStridedSlice S8x1x4x8 ![0, 127, 0, 0] A slices_S8x128x4x8_S8x1x4x8_0_127_0_0)) A)) D))) X) B) : FVec Ideal S8x4x8x64x128 .f32) (ix5 b g r p n) = next u dt ac Hc (col g r p) n := by
  unfold next
  rw [hd_col, gr_col, ← hH, ← hA]
  simp only [← hX, ← hD, ← hA, ← hB]
  pointwise
  refine congrArg₂ (· + ·) rfl (Finset.sum_congr rfl fun s _ => ?_)
  rw [mul_comm (X _), mul_comm (B _)]

/-- The rows of a chunk. -/
theorem mixed_step (hX : ∀ t g r p, X (ix5 b t g r p) = u t (xcol (col g r p))) (hD : ∀ t g r, D (ix4 b t g r) = dt t (hh g r))
    (hA : ∀ t g r, A (ix4 b t g r) = ac t (hh g r)) (hB : ∀ t g n, B (ix4 b t g n) = u t (bcol g n)) (hC : ∀ t g n, C (ix4 b t g n) = u t (ccol g n))
    (hH : ∀ g r p n, H (ix5 b g r p n) = Hc (col g r p) n) (hK : ∀ h, K (ix1 h) = dsk h) (hM : ∀ t s : Fin 128, M (ix5 0 t s 0 0) = if s.val ≤ t.val then 1#1 else 0#1)
    (t : Fin 128) (g : Fin 4) (r : Fin 8) (p : Fin 64) :
    (addf (addf (transpose S8x128x4x8x64 [0, 4, 1, 2, 3] (Host.dotGeneral dot_S8x128x4x8x64_S8x128x128x4x8_S8x4x8x64x128_1_2_4_1_023_034 none X (mulf (mulf (broadcastInDim S8x128x128x4x8 ![0, 1, 2, 3, 4] bcast_S8x128x128x4x1_S8x128x128x4x8_0_1_2_3_4 (broadcastInDim S8x128x128x4x1 ![0, 1, 2, 3] bcast_S8x128x128x4_S8x128x128x4x1_0_1_2_3 (transpose S8x128x128x4 [0, 3, 2, 1] (Host.dotGeneral dot_S8x128x4x128_S8x128x4x128_S8x4x128x128_3_3_1_1_02_02 none B C) transposes_S8x4x128x128_S8x128x128x4_0_3_2_1))) (Host.exp (select (broadcastInDim S8x128x128x4x8 ![0, 1, 2, 3, 4] bcast_S1x128x128x1x1_S8x128x128x4x8_0_1_2_3_4 M) (subf (broadcastInDim S8x128x128x4x8 ![0, 1, 2, 3, 4] bcast_S8x128x1x4x8_S8x128x128x4x8_0_1_2_3_4 (broadcastInDim S8x128x1x4x8 ![0, 1, 3, 4] bcast_S8x128x4x8_S8x128x1x4x8_0_1_3_4 A)) (broadcastInDim S8x128x128x4x8 ![0, 1, 2, 3, 4] bcast_S8x1x128x4x8_S8x128x128x4x8_0_1_2_3_4 (broadcastInDim S8x1x128x4x8 ![0, 2, 3, 4] bcast_S8x128x4x8_S8x1x128x4x8_0_2_3_4 A))) (broadcastInDim S8x128x128x4x8 ![] bcast_S_S8x128x128x4x8 (id (constant (F := Ideal) S_ .f32 0xFF800000#32)))))) (broadcastInDim S8x128x128x4x8 ![0, 1, 2, 3, 4] bcast_S8x1x128x4x8_S8x128x128x4x8_0_1_2_3_4 (broadcastInDim S8x1x128x4x8 ![0, 2, 3, 4] bcast_S8x128x4x8_S8x1x128x4x8_0_2_3_4 D)))) transposes_S8x4x8x64x128_S8x128x4x8x64_0_4_1_2_3) (mulf (transpose S8x128x4x8x64 [0, 4, 1, 2, 3] (Host.dotGeneral dot_S8x4x8x64x128_S8x128x4x128_S8x4x8x64x128_4_3_23_1_01_02 none H C) transposes_S8x4x8x64x128_S8x128x4x8x64_0_4_1_2_3) (broadcastInDim S8x128x4x8x64 ![0, 1, 2, 3, 4] bcast_S8x128x4x8x1_S8x128x4x8x64_0_1_2_3_4 (broadcastInDim S8x128x4x8x1 ![0, 1, 2, 3] bcast_S8x128x4x8_S8x128x4x8x1_0_1_2_3 (Host.exp A))))) (mulf (broadcastInDim S8x128x4x8x64 ![0, 1, 2, 3, 4] bcast_S1x1x4x8x1_S8x128x4x8x64_0_1_2_3_4 (broadcastInDim S1x1x4x8x1 ![2, 3, 4] bcast_S4x8x1_S1x1x4x8x1_2_3_4 (shapeCast S4x8x1 K shapeCasts_S32_S4x8x1))) X) : FVec Ideal S8x128x4x8x64 .f32) (ix5 b t g r p) = Cert.Ssm.mixed u dt ac Hc dsk t (col g r p) := by
  unfold Cert.Ssm.mixed Cert.Ssm.inner carried wgt sim
  rw [hd_col, gr_col]
  simp only [← hX, ← hD, ← hA, ← hB, ← hC, ← hH, ← hK]
  pointwise
  refine congrArg₂ (· + ·) (congrArg₂ (· + ·) (Finset.sum_congr rfl fun s _ => ?_) ?_) rfl
  · rw [hM, mul_comm]
    refine congrArg (· * X (ix5 b s g r p)) (congrArg (· * D (ix4 b s g r)) (congrArg₂ (· * ·) (Finset.sum_congr rfl fun n _ => mul_comm _ _) (congrArg Ideal.exp ?_)))
    by_cases h : s.val ≤ t.val
    · rw [if_pos h, if_pos h]; rfl
    · rw [if_neg h, if_neg h]
      show Ideal.ofBits .f32 0xFF800000#32 = ⊥
      simp [Ideal.ofBits, Ideal.ieee]
  · rw [mul_comm]
    exact congrArg _ (Finset.sum_congr rfl fun n _ => mul_comm _ _)

end Chunk

end Cert.Reference2Ideal.Ssm

end
-- ==== Proof.SsmEntry.lean ====
module

public import Idealize.ShloMosaic.Lib.Pointwise
public import proofs.«01_k».proof.Proof.Gen.Reference2Ideal.Run
public import proofs.«01_k».proof.Proof.SsmTrip
public import Idealize.ShloMosaic.Lib.StableHlo.RunLoop
public import Idealize.ShloMosaic.Lib.StableHlo.RunRead

@[expose] public section

set_option maxRecDepth 16384

noncomputable section

namespace Cert.Reference2Ideal.Ssm

open Cert.Reference2Ideal Cert.Reference2Ideal.Gen Cert.Reference2Ideal.Value Idealize.ShloMosaic Idealize.ShloMosaic.TcCoe Idealize.SL.Sem Cert.Ssm Cert.Ffn

open Idealize.ShloMosaic.StableHlo
variable (m : (ℓ : Loc nD τ sig) → Buf (Elt Ideal) ℓ) (c : Dev nD)

/-! ## The arguments -/

def xs (b : Fin 8) (q : Fin 2048) (k : Fin 1024) : EReal := m ((c.tc : Thread nD τ).loc main_arg0) (ix3 b q k)

def ws (k : Fin 1024) (j : Fin 5152) : EReal := m ((c.tc : Thread nD τ).loc main_arg1) (ix2 k j)

def cws (j : Fin 4) (d : Fin 3072) : EReal := m ((c.tc : Thread nD τ).loc main_arg2) (ix2 j d)

def cbs (d : Fin 3072) : EReal := m ((c.tc : Thread nD τ).loc main_arg3) (ix1 d)

def dtbs (h : Fin 32) : EReal := m ((c.tc : Thread nD τ).loc main_arg4) (ix1 h)

def als (h : Fin 32) : EReal := m ((c.tc : Thread nD τ).loc main_arg5) (ix1 h)

def dsks (h : Fin 32) : EReal := m ((c.tc : Thread nD τ).loc main_arg6) (ix1 h)

def nws (d : Fin 2048) : EReal := m ((c.tc : Thread nD τ).loc main_arg7) (ix1 d)

def wos (k : Fin 2048) (d : Fin 1024) : EReal := m ((c.tc : Thread nD τ).loc main_arg8) (ix2 k d)

def lgs (d : Fin 1024) : EReal := m ((c.tc : Thread nD τ).loc main_arg9) (ix1 d)

def lbs (d : Fin 1024) : EReal := m ((c.tc : Thread nD τ).loc main_arg10) (ix1 d)

/-! ## The buffers before the first chunk -/

def E0 : FVec Ideal S16x8x128x4x8x64 .f32 := entryContents (preI (F := Ideal)) m c (Proc.devRef .tc main_v66_0)

def E1 : FVec Ideal S16x8x128x4x8 .f32 := entryContents (preI (F := Ideal)) m c (Proc.devRef .tc main_v66_1)

def E2 : FVec Ideal S16x8x128x4x128 .f32 := entryContents (preI (F := Ideal)) m c (Proc.devRef .tc main_v66_2)

def E3 : FVec Ideal S16x8x128x4x128 .f32 := entryContents (preI (F := Ideal)) m c (Proc.devRef .tc main_v66_3)

def E4 : FVec Ideal S4x8 .f32 := entryContents (preI (F := Ideal)) m c (Proc.devRef .tc main_v66_4)

def E6 : FVec Ideal S32 .f32 := entryContents (preI (F := Ideal)) m c (Proc.devRef .tc main_v66_6)

def E8 : FVec Ideal S8x4x8x64x128 .f32 := entryContents (preI (F := Ideal)) m c (Proc.devRef .tc main_v66_8)

def E5 : (⟨S1x128x128x1x1, .i1⟩ : BufTy).Contents (Elt Ideal) := entryContents (preI (F := Ideal)) m c (Proc.devRef .tc main_v66_5)

def L0 : FVec Ideal S8x3x3072 .f32 := upto (hostOps0 (F := Ideal)) (launchContents m c) 7 (Proc.devRef .tc main_v0)

def L3 : FVec Ideal S8x2048x3072 .f32 := upto (hostOps0 (F := Ideal)) (launchContents m c) 7 (Proc.devRef .tc main_v3)

theorem L0_at (b : Fin 8) (q : Fin 3) (k : Fin 3072) : L0 m c (ix3 b q k) = 0 := by
  unfold L0
  after_reads_simp
  pointwise

theorem L3_at (b : Fin 8) (q : Fin 2048) (k : Fin 3072) : L3 m c (ix3 b q k) = ∑ i, xs m c b q i * ws m c i ⟨2048 + k.val, by omega⟩ := by
  unfold L3
  after_reads_simp
  pointwise
  rfl

theorem E4_at (g : Fin 4) (r : Fin 8) : E4 m c (ix2 g r) = 0 - Ideal.exp (als m c (hh g r)) := by
  unfold E4
  simp only [entryContents, afterL_cons, afterL_nil]
  after_reads_simp
  pointwise
  exact (show _ = -(Ideal.exp (als m c (hh g r))) from rfl).trans (zero_sub _).symm

theorem E5_at (t s : Fin 128) : E5 m c (ix5 0 t s 0 0) = if s.val ≤ t.val then 1#1 else 0#1 := by
  unfold E5
  simp only [entryContents, afterL_cons, afterL_nil]
  after_reads_simp
  simp only [StableHlo.TRef.toBuf, StableHlo.TRef.ofBuf, cast_eq, id]
  pointwise
  revert t s
  decide +kernel

theorem E8_at (b : Fin 8) (g : Fin 4) (r : Fin 8) (p : Fin 64) (n : Fin 128) : E8 m c (ix5 b g r p n) = 0 := by
  unfold E8
  simp only [entryContents, afterL_cons, afterL_nil]
  after_reads_simp
  pointwise
  rfl

theorem E6_at (h : Fin 32) : E6 m c (ix1 h) = dsks m c h := by
  unfold E6
  simp only [entryContents, afterL_cons, afterL_nil]
  after_reads_simp
  rfl

theorem E1_at (j : Fin 16) (b : Fin 8) (t : Fin 128) (g : Fin 4) (r : Fin 8) : E1 m c (ix5 j b t g r) = dts (xs m c b) (ws m c) (dtbs m c) j.val t (hh g r) := by
  unfold E1
  simp only [entryContents, afterL_cons, afterL_nil]
  after_reads_simp
  simp only [StableHlo.TRef.toBuf, StableHlo.TRef.ofBuf, cast_eq, id]
  pointwise
  rw [if_neg (not_not_intro rfl)]
  have hq : j.val * 128 + t.val < 2048 := by omega
  have e : (∑ k, xs m c b ⟨j.val * 128 + t.val, hq⟩ k * ws m c k ⟨5120 + (g.val * 8 + r.val), by omega⟩) + dtbs m c ⟨g.val * 8 + r.val, by omega⟩
      = (∑ k, xs m c b ⟨j.val * 128 + t.val, hq⟩ k * ws m c k ⟨5120 + (hh g r).val, by omega⟩) + dtbs m c (hh g r) := rfl
  unfold dts softplus
  rw [dif_pos hq, ← e]
  exact congrArg (fun v => max _ 0 + Ideal.log1p (Ideal.exp v)) (zero_sub _).symm

/-- A row of the padded projection. -/
def P (b : Fin 8) (q : ℕ) (hq : q < 2051) (ch : Fin 3072) : EReal :=
  if h : q < 3 then L0 m c (ix3 b ⟨q, h⟩ ch) else L3 m c (ix3 b ⟨q - 3, by omega⟩ ch)

theorem P_at (b : Fin 8) (q q' : ℕ) (hq : q < 2051) (e : q = q') (ch : Fin 3072) : P m c b q hq ch = padded (xs m c b) (ws m c) q' ch := by
  subst e
  unfold P padded
  by_cases h : q < 3
  · rw [dif_pos h, dif_neg (by omega), L0_at]
  · rw [dif_neg h, dif_pos (by omega), L3_at]

theorem conv_at (b : Fin 8) (q : ℕ) (hq : q < 2048) (ch : Fin 3072) :
    cbs m c ch + (P m c b q (by omega) ch * cws m c 0 ch + P m c b (1 + q) (by omega) ch * cws m c 1 ch + P m c b (2 + q) (by omega) ch * cws m c 2 ch
      + L3 m c (ix3 b ⟨q, hq⟩ ch) * cws m c 3 ch) = conv (xs m c b) (ws m c) (cws m c) (cbs m c) q ch := by
  have e3 : L3 m c (ix3 b ⟨q, hq⟩ ch) = padded (xs m c b) (ws m c) (q + 3) ch := by
    rw [L3_at]
    unfold padded
    rw [dif_pos (by omega)]
    rfl
  rw [P_at m c b q q _ rfl, P_at m c b (1 + q) (q + 1) _ (by omega), P_at m c b (2 + q) (q + 2) _ (by omega), e3]
  unfold conv
  simp only [add_assoc]

theorem silu_at (b : Fin 8) (q : ℕ) (hq : q < 2048) (ch : Fin 3072) :
    (cbs m c ch + (P m c b q (by omega) ch * cws m c 0 ch + P m c b (1 + q) (by omega) ch * cws m c 1 ch + P m c b (2 + q) (by omega) ch * cws m c 2 ch
      + L3 m c (ix3 b ⟨q, hq⟩ ch) * cws m c 3 ch)) * Ideal.div 1 (1 + Ideal.exp (-(cbs m c ch + (P m c b q (by omega) ch * cws m c 0 ch
      + P m c b (1 + q) (by omega) ch * cws m c 1 ch + P m c b (2 + q) (by omega) ch * cws m c 2 ch + L3 m c (ix3 b ⟨q, hq⟩ ch) * cws m c 3 ch))))
      = conv (xs m c b) (ws m c) (cws m c) (cbs m c) q ch * Ideal.logistic (conv (xs m c b) (ws m c) (cws m c) (cbs m c) q ch) := by
  rw [conv_at]
  rfl

theorem E0_at (j : Fin 16) (b : Fin 8) (t : Fin 128) (g : Fin 4) (r : Fin 8) (p : Fin 64) :
    E0 m c (ix6 j b t g r p) = chan (xs m c b) (ws m c) (cws m c) (cbs m c) j.val t (xcol (col g r p)) := by
  unfold E0
  simp only [entryContents, afterL_cons, afterL_nil]
  after_reads_simp
  simp only [StableHlo.TRef.toBuf, StableHlo.TRef.ofBuf, cast_eq, id]
  pointwise
  refine (silu_at m c b (j.val * 128 + t.val) (by omega) ⟨g.val * 512 + r.val * 64 + p.val, by omega⟩).trans ?_
  exact congrArg (chan (xs m c b) (ws m c) (cws m c) (cbs m c) j.val t) (Fin.ext (by show g.val * 512 + r.val * 64 + p.val = g.val * 512 + r.val * 64 + p.val; omega))

theorem E2_at (j : Fin 16) (b : Fin 8) (t : Fin 128) (g : Fin 4) (n : Fin 128) :
    E2 m c (ix5 j b t g n) = chan (xs m c b) (ws m c) (cws m c) (cbs m c) j.val t (bcol g n) := by
  unfold E2
  simp only [entryContents, afterL_cons, afterL_nil]
  after_reads_simp
  simp only [StableHlo.TRef.toBuf, StableHlo.TRef.ofBuf, cast_eq, id]
  pointwise
  refine (silu_at m c b (j.val * 128 + t.val) (by omega) ⟨2048 + (g.val * 128 + n.val), by omega⟩).trans ?_
  exact congrArg (chan (xs m c b) (ws m c) (cws m c) (cbs m c) j.val t) (Fin.ext (by show 2048 + (g.val * 128 + n.val) = 2048 + g.val * 128 + n.val; omega))

theorem E3_at (j : Fin 16) (b : Fin 8) (t : Fin 128) (g : Fin 4) (n : Fin 128) :
    E3 m c (ix5 j b t g n) = chan (xs m c b) (ws m c) (cws m c) (cbs m c) j.val t (ccol g n) := by
  unfold E3
  simp only [entryContents, afterL_cons, afterL_nil]
  after_reads_simp
  simp only [StableHlo.TRef.toBuf, StableHlo.TRef.ofBuf, cast_eq, id]
  pointwise
  refine (silu_at m c b (j.val * 128 + t.val) (by omega) ⟨2560 + (g.val * 128 + n.val), by omega⟩).trans ?_
  exact congrArg (chan (xs m c b) (ws m c) (cws m c) (cbs m c) j.val t) (Fin.ext (by show 2560 + (g.val * 128 + n.val) = 2560 + g.val * 128 + n.val; omega))

end Cert.Reference2Ideal.Ssm

end
-- ==== Proof.SsmIter.lean ====
module

public import Idealize.ShloMosaic.Lib.Pointwise
public import proofs.«01_k».proof.Proof.Gen.Reference2Ideal.Run
public import proofs.«01_k».proof.Proof.SsmEntry
public import Idealize.ShloMosaic.Lib.StableHlo.RunLoop
public import Idealize.ShloMosaic.Lib.StableHlo.RunRead

@[expose] public section

set_option maxRecDepth 16384

noncomputable section

namespace Cert.Reference2Ideal.Ssm

open Cert.Reference2Ideal Cert.Reference2Ideal.Gen Cert.Reference2Ideal.Value Idealize.ShloMosaic Idealize.ShloMosaic.TcCoe Idealize.SL.Sem Cert.Ssm Cert.Ffn

open Idealize.ShloMosaic.StableHlo
variable (m : (ℓ : Loc nD τ sig) → Buf (Elt Ideal) ℓ) (c : Dev nD)

/-! ## The loop's buffers -/

def B0 (V : Valuation τ sig (Elt Ideal)) : FVec Ideal S16x8x128x4x8x64 .f32 := V (Proc.devRef .tc main_v66_0)

def B1 (V : Valuation τ sig (Elt Ideal)) : FVec Ideal S16x8x128x4x8 .f32 := V (Proc.devRef .tc main_v66_1)

def B2 (V : Valuation τ sig (Elt Ideal)) : FVec Ideal S16x8x128x4x128 .f32 := V (Proc.devRef .tc main_v66_2)

def B3 (V : Valuation τ sig (Elt Ideal)) : FVec Ideal S16x8x128x4x128 .f32 := V (Proc.devRef .tc main_v66_3)

def B4 (V : Valuation τ sig (Elt Ideal)) : FVec Ideal S4x8 .f32 := V (Proc.devRef .tc main_v66_4)

def B5 (V : Valuation τ sig (Elt Ideal)) : (⟨S1x128x128x1x1, .i1⟩ : BufTy).Contents (Elt Ideal) := V (Proc.devRef .tc main_v66_5)

def B6 (V : Valuation τ sig (Elt Ideal)) : FVec Ideal S32 .f32 := V (Proc.devRef .tc main_v66_6)

def B7 (V : Valuation τ sig (Elt Ideal)) : (⟨S_, .i32⟩ : BufTy).Contents (Elt Ideal) := V (Proc.devRef .tc main_v66_7)

def B8 (V : Valuation τ sig (Elt Ideal)) : FVec Ideal S8x4x8x64x128 .f32 := V (Proc.devRef .tc main_v66_8)

def B9 (V : Valuation τ sig (Elt Ideal)) : FVec Ideal S16x8x128x4x8x64 .f32 := V (Proc.devRef .tc main_v66_9)

/-- What the loop's buffers hold before chunk `k`. -/
structure At (V : Valuation τ sig (Elt Ideal)) (k : ℕ) : Prop where
  e0 : B0 V = E0 m c
  e1 : B1 V = E1 m c
  e2 : B2 V = E2 m c
  e3 : B3 V = E3 m c
  e4 : B4 V = E4 m c
  e5 : B5 V = E5 m c
  e6 : B6 V = E6 m c
  ctr : B7 V = fun _ => BitVec.ofNat 32 k
  h : ∀ (b : Fin 8) (g : Fin 4) (r : Fin 8) (p : Fin 64) (n : Fin 128), B8 V (ix5 b g r p n) = state (xs m c b) (ws m c) (cws m c) (cbs m c) (dtbs m c) (als m c) k (col g r p) n
  y : ∀ j : Fin 16, j.val < k → ∀ (b : Fin 8) (t : Fin 128) (g : Fin 4) (r : Fin 8) (p : Fin 64), B9 V (ix6 j b t g r p)
    = Cert.Ssm.mixed (chan (xs m c b) (ws m c) (cws m c) (cbs m c) j.val) (dts (xs m c b) (ws m c) (dtbs m c) j.val) (acs (xs m c b) (ws m c) (dtbs m c) (als m c) j.val) (state (xs m c b) (ws m c) (cws m c) (cbs m c) (dtbs m c) (als m c) j.val) (dsks m c) t (col g r p)

variable {m c}

section Trip

variable {V : Valuation τ sig (Elt Ideal)} {k : Fin 16}

def Tx (V : Valuation τ sig (Elt Ideal)) : FVec Ideal S8x128x4x8x64 .f32 := res_main_while0b_v120 V

theorem Tx_at (hV : At m c V k.val) (b : Fin 8) (t : Fin 128) (g : Fin 4) (r : Fin 8) (p : Fin 64) : Tx V (ix5 b t g r p) = chan (xs m c b) (ws m c) (cws m c) (cbs m c) k.val t (xcol (col g r p)) := by
  have h0 : V (Proc.devRef .tc main_v66_0) = E0 m c := hV.e0
  have h7 : V (Proc.devRef .tc main_v66_7) = fun _ => BitVec.ofNat 32 k.val := hV.ctr
  unfold Tx res_main_while0b_v120
  rw [h0, h7]
  exact (slice_x _ k b t g r p).trans (E0_at m c k b t g r p)

def Td (V : Valuation τ sig (Elt Ideal)) : FVec Ideal S8x128x4x8 .f32 := res_main_while0b_v121 V

theorem Td_at (hV : At m c V k.val) (b : Fin 8) (t : Fin 128) (g : Fin 4) (r : Fin 8) : Td V (ix4 b t g r) = dts (xs m c b) (ws m c) (dtbs m c) k.val t (hh g r) := by
  have h0 : V (Proc.devRef .tc main_v66_1) = E1 m c := hV.e1
  have h7 : V (Proc.devRef .tc main_v66_7) = fun _ => BitVec.ofNat 32 k.val := hV.ctr
  unfold Td res_main_while0b_v121
  rw [h0, h7]
  exact (slice_d _ k b t g r).trans (E1_at m c k b t g r)

def Tb (V : Valuation τ sig (Elt Ideal)) : FVec Ideal S8x128x4x128 .f32 := res_main_while0b_v122 V

theorem Tb_at (hV : At m c V k.val) (b : Fin 8) (t : Fin 128) (g : Fin 4) (n : Fin 128) : Tb V (ix4 b t g n) = chan (xs m c b) (ws m c) (cws m c) (cbs m c) k.val t (bcol g n) := by
  have h0 : V (Proc.devRef .tc main_v66_2) = E2 m c := hV.e2
  have h7 : V (Proc.devRef .tc main_v66_7) = fun _ => BitVec.ofNat 32 k.val := hV.ctr
  unfold Tb res_main_while0b_v122
  rw [h0, h7]
  exact (slice_b _ k b t g n).trans (E2_at m c k b t g n)

def Tc (V : Valuation τ sig (Elt Ideal)) : FVec Ideal S8x128x4x128 .f32 := res_main_while0b_v123 V

theorem Tc_at (hV : At m c V k.val) (b : Fin 8) (t : Fin 128) (g : Fin 4) (n : Fin 128) : Tc V (ix4 b t g n) = chan (xs m c b) (ws m c) (cws m c) (cbs m c) k.val t (ccol g n) := by
  have h0 : V (Proc.devRef .tc main_v66_3) = E3 m c := hV.e3
  have h7 : V (Proc.devRef .tc main_v66_7) = fun _ => BitVec.ofNat 32 k.val := hV.ctr
  unfold Tc res_main_while0b_v123
  rw [h0, h7]
  exact (slice_b _ k b t g n).trans (E3_at m c k b t g n)

def Ta (V : Valuation τ sig (Elt Ideal)) : FVec Ideal S8x128x4x8 .f32 := res_main_while0b_v127 V

theorem Ta_at (hV : At m c V k.val) (b : Fin 8) (t : Fin 128) (g : Fin 4) (r : Fin 8) :
    Ta V (ix4 b t g r) = acs (xs m c b) (ws m c) (dtbs m c) (als m c) k.val t (hh g r) := by
  unfold Ta res_main_while0b_v127
  refine (cumsum_at _ b t g r).trans ?_
  unfold acs
  refine Finset.sum_congr rfl fun s _ => ?_
  refine congrArg (fun v : EReal => if s.val ≤ t.val then v else 0) ?_
  show mulf (Td V) (broadcastInDim S8x128x4x8 ![0, 1, 2, 3] bcast_S1x1x4x8_S8x128x4x8_0_1_2_3 (broadcastInDim S1x1x4x8 ![2, 3] bcast_S4x8_S1x1x4x8_2_3 (B4 V))) (ix4 b s g r) = _
  rw [← Td_at hV, ← E4_at, ← hV.e4]
  pointwise

/-- One trip. -/
theorem At.step (hV : At m c V k.val) : At m c (STEP V) (k.val + 1) where
  e0 := (STEP_main_v66_0 V).trans hV.e0
  e1 := (STEP_main_v66_1 V).trans hV.e1
  e2 := (STEP_main_v66_2 V).trans hV.e2
  e3 := (STEP_main_v66_3 V).trans hV.e3
  e4 := (STEP_main_v66_4 V).trans hV.e4
  e5 := (STEP_main_v66_5 V).trans hV.e5
  e6 := (STEP_main_v66_6 V).trans hV.e6
  ctr := by
    refine (STEP_main_v66_7 V).trans ?_
    have h7 : V (Proc.devRef .tc main_v66_7) = fun _ => BitVec.ofNat 32 k.val := hV.ctr
    unfold step_main_v66_7
    rw [h7]
    refine funext fun _ => ?_
    show BitVec.ofNat 32 k.val + 1#32 = BitVec.ofNat 32 (k.val + 1)
    generalize k = k'
    revert k'
    decide
  h := fun b g r p n => by
    refine (congrFun (STEP_main_v66_8 V) _).trans ?_
    exact next_step (Tx V) (Td V) (Ta V) (Tb V) (B8 V) b (chan (xs m c b) (ws m c) (cws m c) (cbs m c) k.val) (dts (xs m c b) (ws m c) (dtbs m c) k.val)
      (acs (xs m c b) (ws m c) (dtbs m c) (als m c) k.val) (state (xs m c b) (ws m c) (cws m c) (cbs m c) (dtbs m c) (als m c) k.val)
      (Tx_at hV b) (Td_at hV b) (Ta_at hV b) (Tb_at hV b) (hV.h b) g r p n
  y := fun j hj b t g r p => by
    have h7 : V (Proc.devRef .tc main_v66_7) = fun _ => BitVec.ofNat 32 k.val := hV.ctr
    refine (congrFun (STEP_main_v66_9 V) _).trans ?_
    unfold step_main_v66_9
    rw [h7]
    refine (put_y (B9 V) _ k j b t g r p).trans ?_
    by_cases h : j = k
    · rw [if_pos h]
      subst h
      exact mixed_step (Tx V) (Td V) (Ta V) (Tb V) (Tc V) (B8 V) (B6 V) (B5 V) b (chan (xs m c b) (ws m c) (cws m c) (cbs m c) j.val) (dts (xs m c b) (ws m c) (dtbs m c) j.val)
        (acs (xs m c b) (ws m c) (dtbs m c) (als m c) j.val) (state (xs m c b) (ws m c) (cws m c) (cbs m c) (dtbs m c) (als m c) j.val) (dsks m c)
        (Tx_at hV b) (Td_at hV b) (Ta_at hV b) (Tb_at hV b) (Tc_at hV b) (hV.h b) (fun h => by rw [hV.e6]; exact E6_at m c h)
        (fun t s => by rw [hV.e5]; exact E5_at m c t s) t g r p
    · rw [if_neg h]
      exact hV.y j (by have := fun e => h (Fin.ext e); omega) b t g r p

end Trip

variable (m c)

/-- The buffers after `k` trips. -/
theorem at_iter : ∀ k : ℕ, k ≤ 16 → At m c (STEP^[k] (entryContents (preI (F := Ideal)) m c)) k
  | 0, _ => { e0 := rfl, e1 := rfl, e2 := rfl, e3 := rfl, e4 := rfl, e5 := rfl, e6 := rfl, ctr := ctr_entry m c, h := fun b g r p n => E8_at m c b g r p n, y := fun _ hj => absurd hj (Nat.not_lt_zero _) }
  | k + 1, hk => by
    rw [Function.iterate_succ_apply']
    exact At.step (k := ⟨k, by omega⟩) (at_iter k (by omega))

end Cert.Reference2Ideal.Ssm

end
-- ==== Proof.SsmOuts.lean ====
module

public import Idealize.ShloMosaic.Lib.Pointwise
public import proofs.«01_k».proof.Proof.Gen.Reference2Ideal.Run
public import proofs.«01_k».proof.Proof.SsmIter
public import Idealize.ShloMosaic.Lib.StableHlo.RunLoop
public import Idealize.ShloMosaic.Lib.StableHlo.RunRead

@[expose] public section

set_option maxRecDepth 16384

noncomputable section

namespace Cert.Reference2Ideal.Ssm

open Cert.Reference2Ideal Cert.Reference2Ideal.Gen Cert.Reference2Ideal.Value Idealize.ShloMosaic Idealize.ShloMosaic.TcCoe Idealize.SL.Sem Cert.Ssm Cert.Ffn

open Idealize.ShloMosaic.StableHlo

/-! ## What the layer does with the rows after the loop -/

/-- The gated rows. -/
def Gt (Y : FVec Ideal S16x8x128x4x8x64 .f32) (x : FVec Ideal S8x2048x1024 .f32) (w : FVec Ideal S1024x5152 .f32) : FVec Ideal S8x2048x2048 .f32 :=
  mulf (shapeCast _ (transpose S8x16x128x4x8x64 [1, 0, 2, 3, 4, 5] Y transposes_S16x8x128x4x8x64_S8x16x128x4x8x64_1_0_2_3_4_5) shapeCasts_S8x16x128x4x8x64_S8x2048x2048) (mulf (Host.dotGeneral dot_S8x2048x1024_S1024x2048_S8x2048x2048_2_0_01_1_n_n none x (extractStridedSlice S1024x2048 ![0, 0] w slices_S1024x5152_S1024x2048_0_0)) (Host.divf (broadcastInDim S8x2048x2048 ![] bcast_S_S8x2048x2048 (constant (F := Ideal) S_ .f32 0x3F800000#32)) (addf (broadcastInDim S8x2048x2048 ![] bcast_S_S8x2048x2048 (constant (F := Ideal) S_ .f32 0x3F800000#32)) (Host.exp (Host.negf (Host.dotGeneral dot_S8x2048x1024_S1024x2048_S8x2048x2048_2_0_01_1_n_n none x (extractStridedSlice S1024x2048 ![0, 0] w slices_S1024x5152_S1024x2048_0_0)))))))

/-- The gated rows, each group over its root mean square. -/
def Nt (G : FVec Ideal S8x2048x2048 .f32) (nw : FVec Ideal S2048 .f32) : FVec Ideal S8x2048x2048 .f32 :=
  mulf (shapeCast _ (mulf (shapeCast _ G shapeCasts_S8x2048x2048_S8x2048x4x512) (broadcastInDim S8x2048x4x512 ![0, 1, 2, 3] bcast_S8x2048x4x1_S8x2048x4x512_0_1_2_3 (Host.rsqrt (addf (Host.divf (broadcastInDim S8x2048x4x1 ![0, 1, 2] bcast_S8x2048x4_S8x2048x4x1_0_1_2 (Host.reduceAdd (mulf (shapeCast _ G shapeCasts_S8x2048x2048_S8x2048x4x512) (shapeCast _ G shapeCasts_S8x2048x2048_S8x2048x4x512)) (constant (F := Ideal) S_ .f32 0x00000000#32) reducesTo_S8x2048x4x512_S8x2048x4_d3 h_S_)) (broadcastInDim S8x2048x4x1 ![] bcast_S_S8x2048x4x1 (constant (F := Ideal) S_ .f32 0x44000000#32))) (broadcastInDim S8x2048x4x1 ![] bcast_S_S8x2048x4x1 (constant (F := Ideal) S_ .f32 0x3727C5AC#32)))))) shapeCasts_S8x2048x4x512_S8x2048x2048) (broadcastInDim S8x2048x2048 ![0, 1, 2] bcast_S1x1x2048_S8x2048x2048_0_1_2 (broadcastInDim S1x1x2048 ![2] bcast_S2048_S1x1x2048_2 nw))

/-- The scaled residual plus the projected rows. -/
def Rt (x : FVec Ideal S8x2048x1024 .f32) (N : FVec Ideal S8x2048x2048 .f32) (wo : FVec Ideal S2048x1024 .f32) : FVec Ideal S8x2048x1024 .f32 :=
  addf (mulf (broadcastInDim S8x2048x1024 ![] bcast_S_S8x2048x1024 (constant (F := Ideal) S_ .f32 0x3FD744FD#32)) x) (Host.dotGeneral dot_S8x2048x2048_S2048x1024_S8x2048x1024_2_0_01_1_n_n none N wo)

/-- The rows normalised. -/
def Lt (R : FVec Ideal S8x2048x1024 .f32) (lg lb : FVec Ideal S1024 .f32) : FVec Ideal S8x2048x1024 .f32 :=
  addf (mulf (mulf (subf R (broadcastInDim S8x2048x1024 ![0, 1, 2] bcast_S8x2048x1_S8x2048x1024_0_1_2 (Host.divf (broadcastInDim S8x2048x1 ![0, 1] bcast_S8x2048_S8x2048x1_0_1 (Host.reduceAdd R (constant (F := Ideal) S_ .f32 0x00000000#32) reducesTo_S8x2048x1024_S8x2048_d2 h_S_)) (broadcastInDim S8x2048x1 ![] bcast_S_S8x2048x1 (constant (F := Ideal) S_ .f32 0x44800000#32))))) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (subf R (broadcastInDim S8x2048x1024 ![0, 1, 2] bcast_S8x2048x1_S8x2048x1024_0_1_2 (Host.divf (broadcastInDim S8x2048x1 ![0, 1] bcast_S8x2048_S8x2048x1_0_1 (Host.reduceAdd R (constant (F := Ideal) S_ .f32 0x00000000#32) reducesTo_S8x2048x1024_S8x2048_d2 h_S_)) (broadcastInDim S8x2048x1 ![] bcast_S_S8x2048x1 (constant (F := Ideal) S_ .f32 0x44800000#32))))) (subf R (broadcastInDim S8x2048x1024 ![0, 1, 2] bcast_S8x2048x1_S8x2048x1024_0_1_2 (Host.divf (broadcastInDim S8x2048x1 ![0, 1] bcast_S8x2048_S8x2048x1_0_1 (Host.reduceAdd R (constant (F := Ideal) S_ .f32 0x00000000#32) reducesTo_S8x2048x1024_S8x2048_d2 h_S_)) (broadcastInDim S8x2048x1 ![] bcast_S_S8x2048x1 (constant (F := Ideal) S_ .f32 0x44800000#32)))))) (constant (F := Ideal) S_ .f32 0x00000000#32) reducesTo_S8x2048x1024_S8x2048_d2 h_S_)) (broadcastInDim S8x2048x1 ![] bcast_S_S8x2048x1 (constant (F := Ideal) S_ .f32 0x44800000#32))) (broadcastInDim S8x2048x1 ![] bcast_S_S8x2048x1 (constant (F := Ideal) S_ .f32 0x3727C5AC#32)))))) (broadcastInDim S8x2048x1024 ![0, 1, 2] bcast_S1x1x1024_S8x2048x1024_0_1_2 (broadcastInDim S1x1x1024 ![2] bcast_S1024_S1x1x1024_2 lg))) (broadcastInDim S8x2048x1024 ![0, 1, 2] bcast_S1x1x1024_S8x2048x1024_0_1_2 (broadcastInDim S1x1x1024 ![2] bcast_S1024_S1x1x1024_2 lb))

theorem out_eq (V : Valuation τ sig (Elt Ideal)) : out_main_v115 V
    = Lt (Rt (V (Proc.devRef .tc main_arg0)) (Nt (Gt (V (Proc.devRef .tc main_v66_9)) (V (Proc.devRef .tc main_arg0)) (V (Proc.devRef .tc main_arg1))) (V (Proc.devRef .tc main_arg7)))
        (V (Proc.devRef .tc main_arg8))) (V (Proc.devRef .tc main_arg9)) (V (Proc.devRef .tc main_arg10)) := rfl

theorem Gt_at (Y : FVec Ideal S16x8x128x4x8x64 .f32) (x : FVec Ideal S8x2048x1024 .f32) (w : FVec Ideal S1024x5152 .f32) (b : Fin 8) (q d : Fin 2048) (y : EReal)
    (hy : Y (ix6 ⟨q.val / 128, by omega⟩ b ⟨q.val % 128, by omega⟩ ⟨d.val / 512, by omega⟩ ⟨d.val / 64 % 8, by omega⟩ ⟨d.val % 64, by omega⟩) = y) :
    Gt Y x w (ix3 b q d) = y * ((∑ k, x (ix3 b q k) * w (ix2 k ⟨d.val, by omega⟩)) * Ideal.logistic (∑ k, x (ix3 b q k) * w (ix2 k ⟨d.val, by omega⟩))) := by
  pointwise [Gt]
  rw [hy]
  rfl

theorem Nt_at (G : FVec Ideal S8x2048x2048 .f32) (nw : FVec Ideal S2048 .f32) (b : Fin 8) (q d : Fin 2048) : Nt G nw (ix3 b q d)
    = G (ix3 b q d) * Ideal.rsqrt (Ideal.div (∑ k : Fin 512, G (ix3 b q ⟨d.val / 512 * 512 + k.val, by omega⟩) * G (ix3 b q ⟨d.val / 512 * 512 + k.val, by omega⟩))
        (Ideal.ofBits .f32 0x44000000#32) + Ideal.ofBits .f32 0x3727C5AC#32) * nw (ix1 d) := by
  pointwise [Nt]

theorem Rt_at (x : FVec Ideal S8x2048x1024 .f32) (N : FVec Ideal S8x2048x2048 .f32) (wo : FVec Ideal S2048x1024 .f32) (b : Fin 8) (q : Fin 2048) (d : Fin 1024) :
    Rt x N wo (ix3 b q d) = Ideal.ofBits .f32 0x3FD744FD#32 * x (ix3 b q d) + ∑ k, N (ix3 b q k) * wo (ix2 k d) := by
  pointwise [Rt]

theorem Lt_at (R : FVec Ideal S8x2048x1024 .f32) (lg lb : FVec Ideal S1024 .f32) (b : Fin 8) (q : Fin 2048) (d : Fin 1024) :
    Lt R lg lb (ix3 b q d) = lnorm (fun k => R (ix3 b q k)) (fun k => lg (ix1 k)) (fun k => lb (ix1 k)) d := by
  pointwise [Lt]
  rfl

variable (m : (ℓ : Loc nD τ sig) → Buf (Elt Ideal) ℓ) (c : Dev nD)

/-- The buffers after the loop. -/
def VE : Valuation τ sig (Elt Ideal) := STEP^[16] (entryContents (preI (F := Ideal)) m c)

theorem VE_at : At m c (VE m c) 16 := at_iter m c 16 le_rfl

/-- The mixed rows, at the place the loop keeps them. -/
theorem y_at (b : Fin 8) (q d : Fin 2048) :
    B9 (VE m c) (ix6 ⟨q.val / 128, by omega⟩ b ⟨q.val % 128, by omega⟩ ⟨d.val / 512, by omega⟩ ⟨d.val / 64 % 8, by omega⟩ ⟨d.val % 64, by omega⟩)
      = yrow (xs m c b) (ws m c) (cws m c) (cbs m c) (dtbs m c) (als m c) (dsks m c) q d := by
  refine ((VE_at m c).y ⟨q.val / 128, by omega⟩ (by show q.val / 128 < 16; omega) b ⟨q.val % 128, by omega⟩ ⟨d.val / 512, by omega⟩ ⟨d.val / 64 % 8, by omega⟩
    ⟨d.val % 64, by omega⟩).trans ?_
  have e : col ⟨d.val / 512, by omega⟩ ⟨d.val / 64 % 8, by omega⟩ ⟨d.val % 64, by omega⟩ = d :=
    Fin.ext (by show d.val / 512 * 512 + d.val / 64 % 8 * 64 + d.val % 64 = d.val; omega)
  rw [e]
  rfl

/-- The layer's rows. -/
theorem rows_ref (b : Fin 8) (q : Fin 2048) (d : Fin 1024) :
    (out_main_v115 (VE m c) : FVec Ideal S8x2048x1024 .f32) (ix3 b q d)
      = outRow (xs m c b q) (yrow (xs m c b) (ws m c) (cws m c) (cbs m c) (dtbs m c) (als m c) (dsks m c) q) (zrow (xs m c b) (ws m c) q) (nws m c) (wos m c)
          (lgs m c) (lbs m c) d := by
  have a0 : VE m c (Proc.devRef .tc main_arg0) = m ((c.tc : Thread nD τ).loc main_arg0) := iter_main_arg0 m c 16
  have a1 : VE m c (Proc.devRef .tc main_arg1) = m ((c.tc : Thread nD τ).loc main_arg1) := iter_main_arg1 m c 16
  have a7 : VE m c (Proc.devRef .tc main_arg7) = m ((c.tc : Thread nD τ).loc main_arg7) := iter_main_arg7 m c 16
  have a8 : VE m c (Proc.devRef .tc main_arg8) = m ((c.tc : Thread nD τ).loc main_arg8) := iter_main_arg8 m c 16
  have a9 : VE m c (Proc.devRef .tc main_arg9) = m ((c.tc : Thread nD τ).loc main_arg9) := iter_main_arg9 m c 16
  have a10 : VE m c (Proc.devRef .tc main_arg10) = m ((c.tc : Thread nD τ).loc main_arg10) := iter_main_arg10 m c 16
  rw [out_eq, a0, a1, a7, a8, a9, a10]
  have hg : ∀ k : Fin 2048, Gt (B9 (VE m c)) (m ((c.tc : Thread nD τ).loc main_arg0)) (m ((c.tc : Thread nD τ).loc main_arg1)) (ix3 b q k)
      = gate (yrow (xs m c b) (ws m c) (cws m c) (cbs m c) (dtbs m c) (als m c) (dsks m c) q) (zrow (xs m c b) (ws m c) q) k :=
    fun k => Gt_at _ _ _ b q k _ (y_at m c b q k)
  refine (Lt_at _ _ _ b q d).trans ?_
  unfold outRow
  refine congrArg (fun f => lnorm f (lgs m c) (lbs m c) d) (funext fun k => ?_)
  refine (Rt_at _ _ _ b q k).trans ?_
  refine congrArg₂ (· + ·) rfl (Finset.sum_congr rfl fun j _ => congrArg₂ (· * ·) ?_ rfl)
  refine (Nt_at _ _ b q j).trans ?_
  unfold gnorm meanSq
  simp only [← hg]
  rfl

/-- Three rows of a projection. -/
theorem three_rows (x : FVec Ideal S8x2048x1024 .f32) (w : FVec Ideal S1024x5152 .f32) (b : Fin 8) (r : Fin 3) (d : Fin 3072) :
    Host.dotGeneral dot_S8x3x1024_S1024x3072_S8x3x3072_2_0_01_1_n_n none (extractStridedSlice S8x3x1024 ![0, 2045, 0] x slices_S8x2048x1024_S8x3x1024_0_2045_0)
      (extractStridedSlice S1024x3072 ![0, 2048] w slices_S1024x5152_S1024x3072_0_2048) (ix3 b r d)
      = ∑ k, x (ix3 b ⟨2045 + r.val, by omega⟩ k) * w (ix2 k ⟨2048 + d.val, by omega⟩) := by
  pointwise

/-- The last three rows of the projection. -/
theorem tail_ref (b : Fin 8) (r : Fin 3) (d : Fin 3072) :
    (out_main_v118 (VE m c) : FVec Ideal S8x3x3072 .f32) (ix3 b r d) = padded (xs m c b) (ws m c) (2048 + r.val) d := by
  have a0 : VE m c (Proc.devRef .tc main_arg0) = m ((c.tc : Thread nD τ).loc main_arg0) := iter_main_arg0 m c 16
  have a1 : VE m c (Proc.devRef .tc main_arg1) = m ((c.tc : Thread nD τ).loc main_arg1) := iter_main_arg1 m c 16
  unfold out_main_v118 padded
  rw [a0, a1, dif_pos (by omega)]
  refine (three_rows _ _ b r d).trans ?_
  refine Finset.sum_congr rfl fun k _ => congrArg₂ (· * ·) ?_ rfl
  exact congrArg (fun q => xs m c b q k) (Fin.ext (by show 2045 + r.val = 2048 + r.val - 3; omega))

/-- The state after the last chunk. -/
theorem state_ref (b : Fin 8) (d : Fin 2048) (n : Fin 128) :
    (out_main_v119 (VE m c) : FVec Ideal S8x2048x128 .f32) (ix3 b d n) = state (xs m c b) (ws m c) (cws m c) (cbs m c) (dtbs m c) (als m c) 16 d n := by
  have h := (VE_at m c).h b ⟨d.val / 512, by omega⟩ ⟨d.val / 64 % 8, by omega⟩ ⟨d.val % 64, by omega⟩ n
  have e : col ⟨d.val / 512, by omega⟩ ⟨d.val / 64 % 8, by omega⟩ ⟨d.val % 64, by omega⟩ = d :=
    Fin.ext (by show d.val / 512 * 512 + d.val / 64 % 8 * 64 + d.val % 64 = d.val; omega)
  rw [e] at h
  refine Eq.trans ?_ h
  show shapeCast S8x2048x128 (B8 (VE m c)) shapeCasts_S8x4x8x64x128_S8x2048x128 (ix3 b d n) = _
  pointwise

end Cert.Reference2Ideal.Ssm

end
-- ==== Proof.SsmClaims.lean ====
/- The claims about the state-space call: its frames and its value. -/
module

public import proofs.«01_k».proof.Defs
public import proofs.«01_k».proof.Proof.Gen.Kernel2.Frame
public import proofs.«01_k».proof.Proof.Gen.Pre_finite
public import proofs.«01_k».proof.Proof.SsmFinal
public import proofs.«01_k».proof.Proof.SsmOuts
public import Idealize.ShloMosaic.Lib.Quiescent

@[expose] public section

set_option maxRecDepth 16384

noncomputable section

namespace Cert.Proof.Ssm

open Idealize.ShloMosaic Idealize.ShloMosaic.TcCoe Idealize.SL.Sem Cert.Ssm

theorem frame_k : Cert.quiescent_Kernel2 := fun m ρ _ => Cert.Kernel2.Gen.frame m ρ
theorem frame_ki : Cert.quiescent_Kernel2Ideal := fun m ρ _ => Cert.Kernel2Ideal.Gen.frame m ρ
theorem frame_ki_finite : Cert.quiescent_Kernel2Ideal_pre_finite := fun m ρ _ => Cert.Kernel2Ideal.Gen.frame m ρ

theorem frame_ri : Cert.quiescent_Reference2Ideal := fun m ρ _ =>
  (θ_run Cert.Reference2Ideal.defs _ _).mono (fun r h => ⟨fun c => (h c).2.2.2,
      Idealize.ShloMosaic.sem_eq_zero_of_no_sems (by decide) r.2⟩)
    (Cert.Reference2Ideal.Value.run (F := Ideal) m ρ)
theorem frame_ri_finite : Cert.quiescent_Reference2Ideal_pre_finite := fun m ρ _ => frame_ri m ρ trivial

/-- The idealisation rewrote nothing. -/
theorem preserves : Cert.preserves_Kernel2_Kernel2Ideal := trivial

/-- What the precondition says of one number. -/
theorem fin_of_cmp {a : EReal} (h : FloatOps.cmpf (F := Ideal) (φ := .f32) .olt (max a (-a)) (Ideal.ofBits .f32 0x7F800000#32) = 1#1) : Fin' a := by
  refine fin_of_lt ?_
  have e : Ideal.ofBits .f32 0x7F800000#32 = ⊤ := by simp [Ideal.ofBits, Ideal.ieee]
  rw [e] at h
  by_contra hn
  revert h
  simp [FloatOps.cmpf, Ideal.cmp, hn]

/-- The four arrays of the precondition hold finite numbers. -/
theorem finite_of_pre (m : (ℓ : Loc Cert.Kernel2Ideal.nD Cert.Kernel2Ideal.τ Cert.Kernel2Ideal.sig) → Buf (Elt Ideal) ℓ) (h : Cert.Pre_Kernel2Ideal_finite m)
    (c : Dev Cert.Kernel2Ideal.nD) : Cert.Kernel2Ideal.Ssm.Finite m c := by
  obtain ⟨hx, hw, hb, ha⟩ := h c
  exact ⟨fun b q k => fin_of_cmp (congrFun hx (ix3 b q k)), fun k j => fin_of_cmp (congrFun hw (ix2 k j)), fun i => fin_of_cmp (congrFun hb (ix1 i)), fun i => fin_of_cmp (congrFun ha (ix1 i))⟩

/-- Kernel and reference both leave the layer's rows, the last rows of its projection and its last state. -/
theorem algebraic : Cert.algebraic_Kernel2Ideal_Reference2Ideal_pre_finite := by
  intro m ρ m' ρ' hpre hagree
  refine ⟨fun c => (Cert.Kernel2Ideal.Gen.dats m 0 c).arrAt 14 Cert.Kernel2Ideal.cfg0.N, fun c => (Cert.Kernel2Ideal.Gen.dats m 0 c).arrAt 15 Cert.Kernel2Ideal.cfg0.N,
    fun c => (Cert.Kernel2Ideal.Gen.dats m 0 c).arrAt 16 Cert.Kernel2Ideal.cfg0.N, Cert.Kernel2Ideal.Value.run_blocks m ρ, ?_⟩
  refine (θ_run Cert.Reference2Ideal.defs _ _).mono (fun _ h c => ?_) (Cert.Reference2Ideal.Value.run (F := Ideal) m' ρ')
  have hf := finite_of_pre m hpre c
  obtain ⟨h0, h1, h2, h3, h4, h5, h6, h7, h8, h9, h10⟩ := hagree c
  have x0 : Cert.Reference2Ideal.Ssm.xs m' c = Cert.Kernel2Ideal.Ssm.xs m c := by
    funext b q k; exact congrFun h0 (ix3 b q k)
  have x1 : Cert.Reference2Ideal.Ssm.ws m' c = Cert.Kernel2Ideal.Ssm.ws m c := by
    funext k j; exact congrFun h1 (ix2 k j)
  have x2 : Cert.Reference2Ideal.Ssm.cws m' c = Cert.Kernel2Ideal.Ssm.cws m c := by
    funext k j; exact congrFun h2 (ix2 k j)
  have x3 : Cert.Reference2Ideal.Ssm.cbs m' c = Cert.Kernel2Ideal.Ssm.cbs m c := by
    funext k; exact congrFun h3 (ix1 k)
  have x4 : Cert.Reference2Ideal.Ssm.dtbs m' c = Cert.Kernel2Ideal.Ssm.dtbs m c := by
    funext k; exact congrFun h4 (ix1 k)
  have x5 : Cert.Reference2Ideal.Ssm.als m' c = Cert.Kernel2Ideal.Ssm.als m c := by
    funext k; exact congrFun h5 (ix1 k)
  have x6 : Cert.Reference2Ideal.Ssm.dsks m' c = Cert.Kernel2Ideal.Ssm.dsks m c := by
    funext k; exact congrFun h6 (ix1 k)
  have x7 : Cert.Reference2Ideal.Ssm.nws m' c = Cert.Kernel2Ideal.Ssm.nws m c := by
    funext k; exact congrFun h7 (ix1 k)
  have x8 : Cert.Reference2Ideal.Ssm.wos m' c = Cert.Kernel2Ideal.Ssm.wos m c := by
    funext k j; exact congrFun h8 (ix2 k j)
  have x9 : Cert.Reference2Ideal.Ssm.lgs m' c = Cert.Kernel2Ideal.Ssm.lgs m c := by
    funext k; exact congrFun h9 (ix1 k)
  have x10 : Cert.Reference2Ideal.Ssm.lbs m' c = Cert.Kernel2Ideal.Ssm.lbs m c := by
    funext k; exact congrFun h10 (ix1 k)
  refine ⟨(h c).1.trans (Eq.trans ?_ (Cert.Kernel2Ideal.Ssm.final_rows hf).symm), (h c).2.1.trans (Eq.trans ?_ Cert.Kernel2Ideal.Ssm.final_tail.symm),
    (h c).2.2.1.trans (Eq.trans ?_ (Cert.Kernel2Ideal.Ssm.final_state hf).symm), (h c).2.2.2⟩
  · funext i
    idx_vars i
    refine (Cert.Reference2Ideal.Ssm.rows_ref m' c i0 i1 i2).trans ?_
    rw [x0, x1, x2, x3, x4, x5, x6, x7, x8, x9, x10]
    rfl
  · funext i
    idx_vars i
    refine (Cert.Reference2Ideal.Ssm.tail_ref m' c i0 i1 i2).trans ?_
    rw [x0, x1]
    rfl
  · funext i
    idx_vars i
    refine (Cert.Reference2Ideal.Ssm.state_ref m' c i0 i1 i2).trans ?_
    rw [x0, x1, x2, x3, x4, x5]
    rfl

end Cert.Proof.Ssm

end
-- ==== Proof.PoolRow.lean ====
/- One sample's causal pooling over the extended reals: windows of 2, 4, 8 and 16 rows, one for each quarter of the columns,
   the product with the quarter's weights, a scaled residual and a layer normalisation. -/
module

public import Idealize.ShloMosaic.Lib.Pipeline.ValueKit
public import Idealize.ShloMosaic.Lib.Pointwise
public import proofs.«01_k».proof.Proof.FfnRow
public import proofs.«01_k».proof.Proof.SsmStep

@[expose] public section

set_option maxRecDepth 16384

noncomputable section

namespace Cert.Pool

open Idealize.ShloMosaic Cert.Ffn Cert.Ssm

/-- The rows of a sample in order: 15 rows of its state, then its 8 new rows. -/
def kept (st : Fin 15 → Fin 1024 → EReal) (x : Fin 8 → Fin 1024 → EReal) (p : ℕ) (c : Fin 1024) : EReal :=
  if h : p < 15 then st ⟨p, h⟩ c else if h' : p < 23 then x ⟨p - 15, by omega⟩ c else 0

/-- The sum of the `w` rows that end at new row `q`. -/
def wsum (st : Fin 15 → Fin 1024 → EReal) (x : Fin 8 → Fin 1024 → EReal) (w : ℕ) (q : Fin 8) (c : Fin 1024) : EReal :=
  ∑ s ∈ Finset.range w, kept st x (15 + q.val - s) c

/-- Column `k` of quarter `g`. -/
def col (g : Fin 4) (k : Fin 256) : Fin 1024 := ⟨g.val * 256 + k.val, by omega⟩

/-- The pooled rows of quarter `g`: the mean over `w` rows less the row itself, times the quarter's weights. -/
def part (st : Fin 15 → Fin 1024 → EReal) (x : Fin 8 → Fin 1024 → EReal) (pw : Fin 4 → Fin 256 → Fin 256 → EReal)
    (g : Fin 4) (w : ℕ) (n : EReal) (q : Fin 8) (o : Fin 256) : EReal :=
  ∑ k : Fin 256, (Ideal.div (wsum st x w q (col g k)) n - x q (col g k)) * pw g k o

/-- The four quarters side by side. -/
def pooled (st : Fin 15 → Fin 1024 → EReal) (x : Fin 8 → Fin 1024 → EReal) (pw : Fin 4 → Fin 256 → Fin 256 → EReal)
    (q : Fin 8) (d : Fin 1024) : EReal :=
  if h : d.val < 256 then part st x pw 0 2 (Ideal.ofBits .f32 0x40000000#32) q ⟨d.val, h⟩
  else if h1 : d.val - 256 < 256 then part st x pw 1 4 (Ideal.ofBits .f32 0x40800000#32) q ⟨d.val - 256, h1⟩
  else if h2 : d.val - 256 - 256 < 256 then part st x pw 2 8 (Ideal.ofBits .f32 0x41000000#32) q ⟨d.val - 256 - 256, h2⟩
  else part st x pw 3 16 (Ideal.ofBits .f32 0x41800000#32) q ⟨d.val - 256 - 256 - 256, by omega⟩

/-- One new row of a sample after pooling. -/
def poolRow (st : Fin 15 → Fin 1024 → EReal) (x : Fin 8 → Fin 1024 → EReal) (pw : Fin 4 → Fin 256 → Fin 256 → EReal)
    (sc g b : Fin 1024 → EReal) (q : Fin 8) (d : Fin 1024) : EReal :=
  lnorm (fun k => Ideal.ofBits .f32 0x3FD744FD#32 * x q k + pooled st x pw q k * sc k) g b d

theorem kept_new (st : Fin 15 → Fin 1024 → EReal) (x : Fin 8 → Fin 1024 → EReal) (q : Fin 8) (c : Fin 1024) :
    kept st x (15 + q.val) c = x q c := by
  unfold kept
  rw [dif_neg (by omega), dif_pos (by omega)]
  exact congrArg (fun i => x i c) (Fin.ext (Nat.add_sub_cancel_left _ _))

theorem kept_fin {st : Fin 15 → Fin 1024 → EReal} {x : Fin 8 → Fin 1024 → EReal} (hs : ∀ p c, Fin' (st p c))
    (hx : ∀ q c, Fin' (x q c)) (p : ℕ) (c : Fin 1024) : Fin' (kept st x p c) := by
  unfold kept
  split
  · exact hs _ _
  · split
    · exact hx _ _
    · exact .zero

theorem fin_range {f : ℕ → EReal} (h : ∀ p, Fin' (f p)) (n : ℕ) : Fin' (∑ p ∈ Finset.range n, f p) :=
  Finset.sum_induction f Fin' (fun _ _ => Fin'.add) Fin'.zero fun k _ => h k

/-- The difference of two running sums is the sum over the window between them. -/
theorem window {st : Fin 15 → Fin 1024 → EReal} {x : Fin 8 → Fin 1024 → EReal} (hs : ∀ p c, Fin' (st p c))
    (hx : ∀ q c, Fin' (x q c)) (w a : ℕ) (q : Fin 8) (c : Fin 1024) (h : a + w = 16 + q.val) :
    ∑ p ∈ Finset.range (16 + q.val), kept st x p c - ∑ p ∈ Finset.range a, kept st x p c = wsum st x w q c := by
  have hk := kept_fin hs hx
  rw [← h, Finset.sum_range_add, ← Finset.sum_range_reflect (fun i => kept st x (a + i) c) w]
  have e : ∑ s ∈ Finset.range w, kept st x (a + (w - 1 - s)) c = wsum st x w q c := by
    refine Finset.sum_congr rfl fun s hs => ?_
    have := Finset.mem_range.1 hs
    exact congrArg (fun p => kept st x p c) (by omega)
  rw [e]
  obtain ⟨u, hu⟩ := fin_range (fun p => hk p c) a
  obtain ⟨v, hv⟩ : Fin' (wsum st x w q c) := fin_range (fun s => hk (15 + q.val - s) c) w
  rw [hu, hv, ← EReal.coe_add, ← EReal.coe_sub, add_sub_cancel_left]

end Cert.Pool

end
-- ==== Proof.PoolBlock.lean ====
/- What a grid point of the pooling call computes from its blocks. -/
module

public import Idealize.ShloMosaic.Lib.Pipeline.ValueKit
public import Idealize.ShloMosaic.Lib.Pointwise
public import proofs.«01_k».proof.Proof.Gen.Kernel4Ideal.Value
public import proofs.«01_k».proof.Proof.PoolRow

@[expose] public section

set_option maxRecDepth 16384

noncomputable section

namespace Cert.Kernel4Ideal.Pool

open Cert.Kernel4Ideal Cert.Kernel4Ideal.Gen Idealize.ShloMosaic Idealize.ShloMosaic.TcCoe Idealize.SL.Sem Cert.Ffn Cert.Pool

variable {st : FVec Ideal S16x15x1024 .f32} {x : FVec Ideal S16x8x1024 .f32}

/-- The state rows of a sample of the block. -/
abbrev S (st : FVec Ideal S16x15x1024 .f32) (a : Fin 16) : Fin 15 → Fin 1024 → EReal := fun p c => st (ix3 a p c)
/-- The new rows of a sample of the block. -/
abbrev X (x : FVec Ideal S16x8x1024 .f32) (a : Fin 16) : Fin 8 → Fin 1024 → EReal := fun q c => x (ix3 a q c)

/-- The columns of quarter `g`, `s` rows back. -/
def Back (st : FVec Ideal S16x15x1024 .f32) (x : FVec Ideal S16x8x1024 .f32) (g : Fin 4) (s : ℕ) (l : FVec Ideal S16x8x256 .f32) : Prop :=
  ∀ (a : Fin 16) (q : Fin 8) (k : Fin 256), l (ix3 a q k) = kept (S st a) (X x a) (15 + q.val - s) (col g k)

/-- The weights of quarter `g`. -/
def Wt (pw : Fin 4 → Fin 256 → Fin 256 → EReal) (g : Fin 4) (w : FVec Ideal S1x256x256 .bf16) : Prop :=
  ∀ k o : Fin 256, w (ix3 0 k o) = pw g k o

/-- The sample of a row of the block. -/
abbrev smp (r : Fin 128) : Fin 16 := ⟨r.val / 8, by omega⟩
/-- The place of a row in its sample. -/
abbrev plc (r : Fin 128) : Fin 8 := ⟨r.val % 8, by omega⟩

variable {pw : Fin 4 → Fin 256 → Fin 256 → EReal}

theorem col_zero (k : Fin 256) (h : k.val < 1024) : (⟨k.val, h⟩ : Fin 1024) = col 0 k := Fin.ext (by show k.val = 0 * 256 + k.val; omega)
theorem col_one (k : Fin 256) (h : 256 + k.val < 1024) : (⟨256 + k.val, h⟩ : Fin 1024) = col 1 k := Fin.ext (by show 256 + k.val = 1 * 256 + k.val; omega)
theorem col_two (k : Fin 256) (h : 512 + k.val < 1024) : (⟨512 + k.val, h⟩ : Fin 1024) = col 2 k := Fin.ext (by show 512 + k.val = 2 * 256 + k.val; omega)
theorem col_three (k : Fin 256) (h : 768 + k.val < 1024) : (⟨768 + k.val, h⟩ : Fin 1024) = col 3 k := Fin.ext (by show 768 + k.val = 3 * 256 + k.val; omega)

theorem kept_plc (s : Fin 15 → Fin 1024 → EReal) (y : Fin 8 → Fin 1024 → EReal) (r : Fin 128) (c : Fin 1024) : kept s y (15 + r.val % 8) c = y (plc r) c :=
  kept_new s y (plc r) c

/-- The first quarter. -/
theorem quarter0 {l1 : FVec Ideal S16x8x256 .f32} {w : FVec Ideal S1x256x256 .bf16} (h1 : Back st x 0 1 l1) (hw : Wt pw 0 w) (r : Fin 128) (o : Fin 256) :
    k0_pay6 (F := Ideal) x l1 w (ix2 r o) = part (S st (smp r)) (X x (smp r)) pw 0 2 (Ideal.ofBits .f32 0x40000000#32) (plc r) o := by
  unfold part wsum
  pointwise [k0_pay6, k0_pay4]
  refine Finset.sum_congr rfl fun k _ => ?_
  simp only [col_zero, Finset.sum_range_succ, Finset.sum_range_zero, zero_add, Nat.sub_zero, kept_plc, h1 _ _ _, hw k o] <;> rfl

/-- The second quarter. -/
theorem quarter1 {l1 l2 l3 : FVec Ideal S16x8x256 .f32} {w : FVec Ideal S1x256x256 .bf16} (h1 : Back st x 1 1 l1) (h2 : Back st x 1 2 l2) (h3 : Back st x 1 3 l3)
    (hw : Wt pw 1 w) (r : Fin 128) (o : Fin 256) :
    k0_pay8 (F := Ideal) (k0_pay4 (F := Ideal) x) (k0_pay7 (F := Ideal) x l1 l2) l3 w (ix2 r o) = part (S st (smp r)) (X x (smp r)) pw 1 4 (Ideal.ofBits .f32 0x40800000#32) (plc r) o := by
  unfold part wsum
  pointwise [k0_pay8, k0_pay7, k0_pay4]
  refine Finset.sum_congr rfl fun k _ => ?_
  simp only [col_one, Finset.sum_range_succ, Finset.sum_range_zero, zero_add, Nat.sub_zero, kept_plc, h1 _ _ _, h2 _ _ _, h3 _ _ _, hw k o] <;> rfl

/-- The third quarter. -/
theorem quarter2 {l1 l2 l3 l4 l5 l6 l7 : FVec Ideal S16x8x256 .f32} {w : FVec Ideal S1x256x256 .bf16} (h1 : Back st x 2 1 l1) (h2 : Back st x 2 2 l2) (h3 : Back st x 2 3 l3)
    (h4 : Back st x 2 4 l4) (h5 : Back st x 2 5 l5) (h6 : Back st x 2 6 l6) (h7 : Back st x 2 7 l7) (hw : Wt pw 2 w) (r : Fin 128) (o : Fin 256) :
    k0_pay10 (F := Ideal) (k0_pay9 (F := Ideal) x (k0_pay4 (F := Ideal) x) l1 l2 l3 l4 l5 l6 l7) w (ix2 r o)
      = part (S st (smp r)) (X x (smp r)) pw 2 8 (Ideal.ofBits .f32 0x41000000#32) (plc r) o := by
  unfold part wsum
  pointwise [k0_pay10, k0_pay9, k0_pay4]
  refine Finset.sum_congr rfl fun k _ => ?_
  simp only [col_two, Finset.sum_range_succ, Finset.sum_range_zero, zero_add, Nat.sub_zero, kept_plc, h1 _ _ _, h2 _ _ _, h3 _ _ _, h4 _ _ _, h5 _ _ _, h6 _ _ _, h7 _ _ _, hw k o] <;> rfl

/-- The rows before normalisation, from the first three quarters and what the last one is computed from. -/
theorem mixed_at {v22 v38 v62 : FVec Ideal S128x256 .f32} {l1 l2 l3 l4 l5 l6 l7 l8 l9 l10 l11 l12 l13 l14 l15 : FVec Ideal S16x8x256 .f32} {w : FVec Ideal S1x256x256 .bf16} {sc : FVec Ideal S1x1024 .f32}
    (h22 : ∀ r o, v22 (ix2 r o) = part (S st (smp r)) (X x (smp r)) pw 0 2 (Ideal.ofBits .f32 0x40000000#32) (plc r) o)
    (h38 : ∀ r o, v38 (ix2 r o) = part (S st (smp r)) (X x (smp r)) pw 1 4 (Ideal.ofBits .f32 0x40800000#32) (plc r) o)
    (h62 : ∀ r o, v62 (ix2 r o) = part (S st (smp r)) (X x (smp r)) pw 2 8 (Ideal.ofBits .f32 0x41000000#32) (plc r) o)
    (h1 : Back st x 3 1 l1)
    (h2 : Back st x 3 2 l2)
    (h3 : Back st x 3 3 l3)
    (h4 : Back st x 3 4 l4)
    (h5 : Back st x 3 5 l5)
    (h6 : Back st x 3 6 l6)
    (h7 : Back st x 3 7 l7)
    (h8 : Back st x 3 8 l8)
    (h9 : Back st x 3 9 l9)
    (h10 : Back st x 3 10 l10)
    (h11 : Back st x 3 11 l11)
    (h12 : Back st x 3 12 l12)
    (h13 : Back st x 3 13 l13)
    (h14 : Back st x 3 14 l14)
    (h15 : Back st x 3 15 l15)
    (hw : Wt pw 3 w) (r : Fin 128) (d : Fin 1024) :
    k0_pay12 (F := Ideal) (k0_pay4 (F := Ideal) x) sc v22 v38 v62 (k0_pay11 (F := Ideal) x l1 l2 l3 l4 l5 l6 l7 l8 l9 l10) l11 l12 l13 l14 l15 w (ix2 r d)
      = Ideal.ofBits .f32 0x3FD744FD#32 * x (ix3 (smp r) (plc r) d) + pooled (S st (smp r)) (X x (smp r)) pw (plc r) d * sc (ix2 0 d) := by
  have e : ∀ o : Fin 256, (∑ k : Fin 256, (Ideal.div (x (ix3 (smp r) (plc r) (col 3 k)) + l1 (ix3 (smp r) (plc r) k) + l2 (ix3 (smp r) (plc r) k) + l3 (ix3 (smp r) (plc r) k) + l4 (ix3 (smp r) (plc r) k) + l5 (ix3 (smp r) (plc r) k) + l6 (ix3 (smp r) (plc r) k) + l7 (ix3 (smp r) (plc r) k) + l8 (ix3 (smp r) (plc r) k) + l9 (ix3 (smp r) (plc r) k) + l10 (ix3 (smp r) (plc r) k) + l11 (ix3 (smp r) (plc r) k) + l12 (ix3 (smp r) (plc r) k) + l13 (ix3 (smp r) (plc r) k) + l14 (ix3 (smp r) (plc r) k) + l15 (ix3 (smp r) (plc r) k)) (Ideal.ofBits .f32 0x41800000#32)
      - x (ix3 (smp r) (plc r) (col 3 k))) * w (ix3 0 k o)) = part (S st (smp r)) (X x (smp r)) pw 3 16 (Ideal.ofBits .f32 0x41800000#32) (plc r) o := by
    intro o
    unfold part wsum
    refine Finset.sum_congr rfl fun k _ => ?_
    simp only [Finset.sum_range_succ, Finset.sum_range_zero, zero_add, Nat.sub_zero, kept_plc, h1 _ _ _, h2 _ _ _, h3 _ _ _, h4 _ _ _, h5 _ _ _, h6 _ _ _, h7 _ _ _, h8 _ _ _, h9 _ _ _, h10 _ _ _, h11 _ _ _, h12 _ _ _, h13 _ _ _, h14 _ _ _, h15 _ _ _, hw k o] <;> rfl
  unfold pooled
  simp only [← h22, ← h38, ← h62, ← e]
  pointwise [k0_pay12, k0_pay11, k0_pay4]
  simp only [col_three]

/-- The normalised rows. -/
theorem norm_at (v : FVec Ideal S128x1024 .f32) (g b : FVec Ideal S1x1024 .f32) (mu : FVec Ideal S128x1024 .f32) (hm : ∀ r d, mu (ix2 r d) = mean fun k => v (ix2 r k))
    (a : Fin 16) (q : Fin 8) (d : Fin 1024) :
    k0_pay1 (F := Ideal) v g b mu (ix3 a q d) = lnorm (fun k => v (ix2 (⟨a.val * 8 + q.val, by omega⟩ : Fin 128) k)) (fun k => g (ix2 0 k)) (fun k => b (ix2 0 k)) d := by
  unfold lnorm
  simp only [← hm _ d]
  pointwise [k0_pay1]
  simp only [hm]
  rfl

/-- The means of the rows. -/
theorem mean_at (v8 : FVec Ideal S128x1024 .f32) (v10 : FVec Ideal S1x1024 .f32) (v22 v38 v62 : FVec Ideal S128x256 .f32) (v83 v84 v86 v88 v90 v92 : FVec Ideal S16x8x256 .f32)
    (v100 : FVec Ideal S1x256x256 .bf16) (r : Fin 128) (d : Fin 1024) :
    k0_pay15 (F := Ideal) v8 v10 v22 v38 v62 v83 v84 v86 v88 v90 v92 v100 (ix2 r d)
      = mean fun k => k0_pay12 (F := Ideal) v8 v10 v22 v38 v62 v83 v84 v86 v88 v90 v92 v100 (ix2 r k) := by
  unfold mean
  pointwise [k0_pay15]

/-- The buffer of a block's rows: the states from row 1, the new rows from row 16. -/
theorem canon_at (i16 : ∀ a, (![0, 16, 0] : Fin 3 → ℕ) a + (![16, 8, 1024] : Fin 3 → ℕ) a ≤ S16x24x1024.size a)
    (i1 : ∀ a, (![0, 1, 0] : Fin 3 → ℕ) a + (![16, 15, 1024] : Fin 3 → ℕ) a ≤ S16x24x1024.size a) (a : Fin 16) (p : Fin 24) (c : Fin 1024) (hp : 1 ≤ p.val) :
    View.canon (Val := Elt Ideal) ([⟨Rect.unit (s := S16x24x1024) ![0, 16, 0] ![16, 8, 1024] i16, k0_pay3 (F := Ideal) x⟩,
        ⟨Rect.unit (s := S16x24x1024) ![0, 1, 0] ![16, 15, 1024] i1, k0_pay2 (F := Ideal) st⟩] : List (View.Piece (Elt Ideal) S16x24x1024 cc0_scratch0.ty.elt)) (ix3 a p c)
      = kept (S st a) (X x a) (p.val - 1) c := by
  by_cases h : 16 ≤ p.val
  · have e : (ix3 a p c : S16x24x1024.Idx) = (Rect.unit (s := S16x24x1024) ![0, 16, 0] ![16, 8, 1024] i16).emb (ix3 a (⟨p.val - 16, by omega⟩ : Fin 8) c) := by
      refine funext fun b => Fin.ext ?_
      match b with
      | ⟨0, _⟩ => show a.val = 0 + 1 * a.val; omega
      | ⟨1, _⟩ => show p.val = 16 + 1 * (p.val - 16); omega
      | ⟨2, _⟩ => show c.val = 0 + 1 * c.val; omega
    rw [e]
    refine (View.canon_cons_emb _ _ _ _).trans ?_
    unfold kept
    rw [dif_neg (by omega), dif_pos (by omega)]
    have ek : k0_pay3 (F := Ideal) x (ix3 a (⟨p.val - 16, by omega⟩ : Fin 8) c) = x (ix3 a (⟨p.val - 16, by omega⟩ : Fin 8) c) := by pointwise [k0_pay3]
    refine ek.trans (congrArg (fun i : Fin 8 => x (ix3 a i c)) (Fin.ext ?_))
    show p.val - 16 = p.val - 1 - 15
    omega
  · refine (View.canon_cons_of_not_mem _ _ ?_).trans ?_
    · intro hm
      have hm' : _ ∈ (Rect.unit (s := S16x24x1024) ![0, 16, 0] ![16, 8, 1024] i16).set := hm
      rw [Rect.mem_set_unit] at hm'
      exact h (hm' 1).1
    have e : (ix3 a p c : S16x24x1024.Idx) = (Rect.unit (s := S16x24x1024) ![0, 1, 0] ![16, 15, 1024] i1).emb (ix3 a (⟨p.val - 1, by omega⟩ : Fin 15) c) := by
      refine funext fun b => Fin.ext ?_
      match b with
      | ⟨0, _⟩ => show a.val = 0 + 1 * a.val; omega
      | ⟨1, _⟩ => show p.val = 1 + 1 * (p.val - 1); omega
      | ⟨2, _⟩ => show c.val = 0 + 1 * c.val; omega
    rw [e]
    refine (View.canon_cons_emb _ _ _ _).trans ?_
    unfold kept
    rw [dif_pos (by omega)]
    have ek : k0_pay2 (F := Ideal) st (ix3 a (⟨p.val - 1, by omega⟩ : Fin 15) c) = st (ix3 a (⟨p.val - 1, by omega⟩ : Fin 15) c) := by pointwise [k0_pay2]
    exact ek

/-- A load from a buffer of rows, at an index. -/
theorem load_at {o g n k : ℕ} (hn : o + n ≤ 24) (hg : g + k ≤ 1024) (inb : ∀ a, (![0, o, g] : Fin 3 → ℕ) a + (![16, n, k] : Fin 3 → ℕ) a ≤ S16x24x1024.size a)
    (V : View sig .tc (.core .vmem) S16x24x1024 cc0_scratch0.ty.elt) (L : List (View.Piece (Elt Ideal) S16x24x1024 cc0_scratch0.ty.elt))
    (a : Fin 16) (q : Fin n) (j : Fin k) :
    View.readCov (Val := Elt Ideal) V L (Rect.unit (s := S16x24x1024) ![0, o, g] ![16, n, k] inb).toLoadRect (ix3 a q j)
      = View.canon (Val := Elt Ideal) L (ix3 a (⟨o + q.val, by omega⟩ : Fin 24) (⟨g + j.val, by omega⟩ : Fin 1024)) := by
  rw [View.readCov_eq_canon']
  refine congrArg (View.canon (Val := Elt Ideal) L) (funext fun b => Fin.ext ?_)
  match b with
  | ⟨0, _⟩ => show 0 + 1 * a.val = a.val; omega
  | ⟨1, _⟩ => show o + 1 * q.val = o + q.val; omega
  | ⟨2, _⟩ => show g + 1 * j.val = g + j.val; omega

/-- A load of quarter `g`, `s` rows back. -/
theorem load_back (V : View sig .tc (.core .vmem) S16x24x1024 cc0_scratch0.ty.elt) (g : Fin 4) (s : ℕ) {o e : ℕ} (ho : o + s = 16) (hs : s ≤ 15) (he : e = g.val * 256)
    (i16 : ∀ a, (![0, 16, 0] : Fin 3 → ℕ) a + (![16, 8, 1024] : Fin 3 → ℕ) a ≤ S16x24x1024.size a)
    (i1 : ∀ a, (![0, 1, 0] : Fin 3 → ℕ) a + (![16, 15, 1024] : Fin 3 → ℕ) a ≤ S16x24x1024.size a)
    (inb : ∀ a, (![0, o, e] : Fin 3 → ℕ) a + (![16, 8, 256] : Fin 3 → ℕ) a ≤ S16x24x1024.size a) :
    Back st x g s (View.readCov (Val := Elt Ideal) V [⟨Rect.unit (s := S16x24x1024) ![0, 16, 0] ![16, 8, 1024] i16, k0_pay3 (F := Ideal) x⟩,
        ⟨Rect.unit (s := S16x24x1024) ![0, 1, 0] ![16, 15, 1024] i1, k0_pay2 (F := Ideal) st⟩]
      (Rect.unit (s := S16x24x1024) ![0, o, e] ![16, 8, 256] inb).toLoadRect) := by
  intro a q k
  have hg := g.isLt
  have e1 := load_at (o := o) (g := e) (n := 8) (k := 256) (by omega) (by omega) inb V
  refine (e1 _ a q k).trans ((canon_at i16 i1 a _ _ (by show 1 ≤ o + q.val; omega)).trans ?_)
  subst he
  refine congrArg (fun p => kept (S st a) (X x a) p _) ?_
  show o + q.val - 1 = 15 + q.val - s
  omega

end Cert.Kernel4Ideal.Pool

end
-- ==== Proof.PoolFinal.lean ====
/- The arrays the pooling call leaves. -/
module

public import Idealize.ShloMosaic.Lib.Pipeline.ValueKit
public import Idealize.ShloMosaic.Lib.Pointwise
public import proofs.«01_k».proof.Proof.Gen.Kernel4Ideal.Value
public import proofs.«01_k».proof.Proof.PoolBlock

@[expose] public section

set_option maxRecDepth 16384

noncomputable section

namespace Cert.Kernel4Ideal.Pool

open Cert.Kernel4Ideal Cert.Kernel4Ideal.Gen Idealize.ShloMosaic Idealize.ShloMosaic.TcCoe Idealize.SL.Sem Cert.Ffn Cert.Pool

variable (m : (ℓ : Loc nD τ sig) → Buf (Elt Ideal) ℓ) (c : Dev nD)

/-- The new rows of a sample. -/
def xs (b : Fin 128) (q : Fin 8) (k : Fin 1024) : EReal := m ((c : Thread nD τ).loc main_arg0) (ix3 b q k)
/-- The state rows of a sample. -/
def sts (b : Fin 128) (p : Fin 15) (k : Fin 1024) : EReal := m ((c : Thread nD τ).loc main_arg1) (ix3 b p k)
/-- The weights of the quarters. -/
def pws (g : Fin 4) (k o : Fin 256) : EReal := m ((c : Thread nD τ).loc main_arg2) (ix3 g k o)
/-- The scale of the pooled columns. -/
def scs (k : Fin 1024) : EReal := m ((c : Thread nD τ).loc main_arg3) (ix1 k)
/-- The gain of the normalisation. -/
def gs (k : Fin 1024) : EReal := m ((c : Thread nD τ).loc main_arg4) (ix1 k)
/-- The offset of the normalisation. -/
def bs (k : Fin 1024) : EReal := m ((c : Thread nD τ).loc main_arg5) (ix1 k)

/-- Where the blocks of a grid point lie. -/
theorem idx : ∀ t : Fin cfg0.N, win0_0.index t = ![t.val, 0, 0] ∧ win0_1.index t = ![t.val, 0, 0] ∧ win0_2.index t = ![0, 0, 0]
    ∧ win0_3.index t = ![0, 0] ∧ win0_4.index t = ![0, 0] ∧ win0_5.index t = ![0, 0] ∧ win0_6.index t = ![t.val, 0, 0] ∧ win0_7.index t = ![t.val, 0, 0] :=
  (by decide +kernel : ∀ t : Fin grid0.N, _)

/-- The sample of a place of a block. -/
def smpl (t : Fin cfg0.N) (a : Fin 16) : Fin 128 := ⟨t.val * 16 + a.val, by
  have h : t.val < 8 := Nat.lt_of_lt_of_le t.isLt (by decide)
  omega⟩

theorem blk0 (t : Fin cfg0.N) (a : Fin 16) (q : Fin 8) (k : Fin 1024) : iblk m c 0 t (ix3 a q k) = xs m c (smpl t a) q k := by
  unfold xs smpl
  blk_simp [iblk, idx t]
  entry_read
  blk_ext [idx t]

theorem blk1 (t : Fin cfg0.N) (a : Fin 16) (p : Fin 15) (k : Fin 1024) : iblk m c 1 t (ix3 a p k) = sts m c (smpl t a) p k := by
  unfold sts smpl
  blk_simp [iblk, idx t]
  entry_read
  blk_ext [idx t]

theorem blk2 (t : Fin cfg0.N) (g : Fin 4) (k o : Fin 256) : iblk m c 2 t (ix3 g k o) = pws m c g k o := by
  unfold pws
  blk_simp [iblk, idx t]
  entry_read
  pointwise
  blk_ext [idx t]

theorem blk3 (t : Fin cfg0.N) (k : Fin 1024) : iblk m c 3 t (ix2 0 k) = scs m c k := by
  unfold scs
  blk_simp [iblk, idx t]
  entry_read
  pointwise
  blk_ext [idx t]

theorem blk4 (t : Fin cfg0.N) (k : Fin 1024) : iblk m c 4 t (ix2 0 k) = gs m c k := by
  unfold gs
  blk_simp [iblk, idx t]
  entry_read
  pointwise
  blk_ext [idx t]

theorem blk5 (t : Fin cfg0.N) (k : Fin 1024) : iblk m c 5 t (ix2 0 k) = bs m c k := by
  unfold bs
  blk_simp [iblk, idx t]
  entry_read
  pointwise
  blk_ext [idx t]

/-- The weights of quarter `g` as a grid point loads them. -/
theorem wt_at (t : Fin cfg0.N) (g : Fin 4) {o : ℕ} (ho : o = g.val) (inb : ∀ a, (![o, 0, 0] : Fin 3 → ℕ) a + (![1, 256, 256] : Fin 3 → ℕ) a ≤ S4x256x256.size a) :
    Wt (pws m c) g (View.ld (iblk m c 2 t : FVec Ideal S4x256x256 .bf16) (Rect.unit (s := S4x256x256) ![o, 0, 0] ![1, 256, 256] inb)) := by
  intro k j
  refine Eq.trans ?_ (blk2 m c t g k j)
  refine congrArg (iblk m c 2 t : FVec Ideal S4x256x256 .bf16) (funext fun b => Fin.ext ?_)
  match b with
  | ⟨0, _⟩ => show o + 1 * 0 = g.val; omega
  | ⟨1, _⟩ => show 0 + 1 * k.val = k.val; omega
  | ⟨2, _⟩ => show 0 + 1 * j.val = j.val; omega

/-- The rows a grid point leaves. -/
theorem rows_at (t : Fin cfg0.N) (a : Fin 16) (q : Fin 8) (d : Fin 1024) :
    (outsAt0 m c t).1 (ix3 a q d) = poolRow (sts m c (smpl t a)) (xs m c (smpl t a)) (pws m c) (scs m c) (gs m c) (bs m c) q d := by
  have hx : X (iblk m c 0 t) a = xs m c (smpl t a) := funext fun q => funext fun k => blk0 m c t a q k
  have hs : S (iblk m c 1 t) a = sts m c (smpl t a) := funext fun q => funext fun k => blk1 m c t a q k
  unfold outsAt0
  dsimp only
  frame_out
  refine (norm_at _ _ _ _ (fun r d => mean_at _ _ _ _ _ _ _ _ _ _ _ _ r d) a q d).trans ?_
  unfold poolRow
  refine lnorm_congr (fun k => ?_) (fun k => ?_) (fun k => ?_) d
  · refine (mixed_at (pw := pws m c) (quarter0 (load_back _ 0 1 rfl (by decide) rfl _ _ _) (wt_at m c t 0 rfl _))
      (quarter1 (load_back _ 1 1 rfl (by decide) rfl _ _ _) (load_back _ 1 2 rfl (by decide) rfl _ _ _) (load_back _ 1 3 rfl (by decide) rfl _ _ _) (wt_at m c t 1 rfl _))
      (quarter2 (load_back _ 2 1 rfl (by decide) rfl _ _ _) (load_back _ 2 2 rfl (by decide) rfl _ _ _) (load_back _ 2 3 rfl (by decide) rfl _ _ _)
        (load_back _ 2 4 rfl (by decide) rfl _ _ _) (load_back _ 2 5 rfl (by decide) rfl _ _ _) (load_back _ 2 6 rfl (by decide) rfl _ _ _)
        (load_back _ 2 7 rfl (by decide) rfl _ _ _) (wt_at m c t 2 rfl _))
      (load_back _ 3 1 rfl (by decide) rfl _ _ _) (load_back _ 3 2 rfl (by decide) rfl _ _ _) (load_back _ 3 3 rfl (by decide) rfl _ _ _)
      (load_back _ 3 4 rfl (by decide) rfl _ _ _) (load_back _ 3 5 rfl (by decide) rfl _ _ _) (load_back _ 3 6 rfl (by decide) rfl _ _ _)
      (load_back _ 3 7 rfl (by decide) rfl _ _ _) (load_back _ 3 8 rfl (by decide) rfl _ _ _) (load_back _ 3 9 rfl (by decide) rfl _ _ _)
      (load_back _ 3 10 rfl (by decide) rfl _ _ _) (load_back _ 3 11 rfl (by decide) rfl _ _ _) (load_back _ 3 12 rfl (by decide) rfl _ _ _)
      (load_back _ 3 13 rfl (by decide) rfl _ _ _) (load_back _ 3 14 rfl (by decide) rfl _ _ _) (load_back _ 3 15 rfl (by decide) rfl _ _ _)
      (wt_at m c t 3 rfl _) _ k).trans ?_
    have ea : smp (⟨a.val * 8 + q.val, by omega⟩ : Fin 128) = a := Fin.ext (by show (a.val * 8 + q.val) / 8 = a.val; omega)
    have eq : plc (⟨a.val * 8 + q.val, by omega⟩ : Fin 128) = q := Fin.ext (by show (a.val * 8 + q.val) % 8 = q.val; omega)
    have ep : k0_pay5 (F := Ideal) (iblk m c 3 t) (ix2 0 k) = scs m c k := by
      refine Eq.trans ?_ (blk3 m c t k)
      pointwise [k0_pay5]
    rw [ea, eq, hx, hs]
    exact congrArg₂ (· + ·) (congrArg (Ideal.ofBits .f32 0x3FD744FD#32 * ·) (blk0 m c t a q k)) (congrArg (pooled (sts m c (smpl t a)) (xs m c (smpl t a)) (pws m c) q k * ·) ep)
  · refine Eq.trans ?_ (blk4 m c t k)
    pointwise [k0_pay13]
  · refine Eq.trans ?_ (blk5 m c t k)
    pointwise [k0_pay14]

/-- The state a grid point leaves. -/
theorem state_at (t : Fin cfg0.N) (a : Fin 16) (p : Fin 15) (d : Fin 1024) :
    (outsAt0 m c t).2 (ix3 a p d) = kept (sts m c (smpl t a)) (xs m c (smpl t a)) (8 + p.val) d := by
  have hx : X (iblk m c 0 t) a = xs m c (smpl t a) := funext fun q => funext fun k => blk0 m c t a q k
  have hs : S (iblk m c 1 t) a = sts m c (smpl t a) := funext fun q => funext fun k => blk1 m c t a q k
  unfold outsAt0
  dsimp only
  frame_out
  have e1 := load_at (o := 9) (g := 0) (n := 15) (k := 1024) (by decide) (by decide) inb_S16x24x1024_S16x15x1024_0_9_0 (View.whole cc0_scratch0)
  refine (e1 _ a p d).trans ((canon_at _ _ a _ _ (by show 1 ≤ 9 + p.val; omega)).trans ?_)
  rw [hx, hs]
  refine congrArg₂ (kept _ _) ?_ (Fin.ext (Nat.zero_add _))
  show 9 + p.val - 1 = 8 + p.val
  omega

/-- The rows of every sample. -/
def rowsAll : FVec Ideal S128x8x1024 .f32 := fun i => poolRow (sts m c (i 0)) (xs m c (i 0)) (pws m c) (scs m c) (gs m c) (bs m c) (i 1) (i 2)
/-- The new states of every sample. -/
def stateAll : FVec Ideal S128x15x1024 .f32 := fun i => kept (sts m c (i 0)) (xs m c (i 0)) (8 + (i 1).val) (i 2)

/-- The rows after the run. -/
theorem final_rows : (dats m 0 c).arrAt 6 cfg0.N = rowsAll m c := by
  refine (dats m 0 c).arrAt_eq_of_covers 6 _ (by decide +kernel) fun t _ y => ?_
  rw [after0_6]
  idx_vars y
  refine (rows_at m c t y0 y1 y2).trans ?_
  show rowsAll m c (ix3 (smpl t y0) y1 y2) = _
  blk_simp
  refine congrArg (rowsAll m c) ?_
  unfold smpl
  blk_ext [idx t]

/-- The states after the run. -/
theorem final_state : (dats m 0 c).arrAt 7 cfg0.N = stateAll m c := by
  refine (dats m 0 c).arrAt_eq_of_covers 7 _ (by decide +kernel) fun t _ y => ?_
  rw [after0_7]
  idx_vars y
  refine (state_at m c t y0 y1 y2).trans ?_
  show stateAll m c (ix3 (smpl t y0) y1 y2) = _
  blk_simp
  refine congrArg (stateAll m c) ?_
  unfold smpl
  blk_ext [idx t]

end Cert.Kernel4Ideal.Pool

end
-- ==== Proof.PoolReference.lean ====
/- The reference's pooling, read as the pooling of every sample. -/
module

public import Idealize.ShloMosaic.Lib.Pipeline.ValueKit
public import Idealize.ShloMosaic.Lib.Pointwise
public import proofs.«01_k».proof.Proof.Gen.Reference4Ideal.Read
public import proofs.«01_k».proof.Proof.PoolRow

@[expose] public section

set_option maxRecDepth 16384

noncomputable section

namespace Cert.Reference4Ideal.Pool

open Cert.Reference4Ideal Cert.Reference4Ideal.Gen Cert.Reference4Ideal.Read Idealize.ShloMosaic Cert.Ffn Cert.Ssm Cert.Pool

variable (x : FVec Ideal S128x8x1024 .f32) (st : FVec Ideal S128x15x1024 .f32) (w : FVec Ideal S4x256x256 .f32) (sc g b : FVec Ideal S1024 .f32)

/-- The new rows of a sample. -/
abbrev X (a : Fin 128) : Fin 8 → Fin 1024 → EReal := fun q c => x (ix3 a q c)
/-- The state rows of a sample. -/
abbrev S (a : Fin 128) : Fin 15 → Fin 1024 → EReal := fun p c => st (ix3 a p c)

/-- The rows in order. -/
theorem rows_at (a : Fin 128) (p : Fin 23) (c : Fin 1024) : val_main_v0 (F := Ideal) x st (ix3 a p c) = kept (S st a) (X x a) p.val c := by
  unfold kept
  pointwise [val_main_v0]

/-- A fold of sums from a start is the start and the sum. -/
theorem fold_sum {ι : Type} (f : ι → EReal) (l : List ι) : ∀ v : EReal, l.foldl (fun u n => u + f n) v = v + (l.map f).sum := by
  induction l with
  | nil => intro v; simp
  | cons a l ih => intro v; rw [List.foldl_cons, ih, List.map_cons, List.sum_cons, add_assoc]

/-- The places of a window of 23 rows that ends at row `t`, counted by the row they read. -/
def spot (t : Fin 23) : Fin 23 ≃ (⟨3, ![1, 23, 1]⟩ : Shape).Idx where
  toFun s := ix3 (0 : Fin 1) (⟨(s.val + 22 - t.val) % 23, Nat.mod_lt _ (by decide)⟩ : Fin 23) (0 : Fin 1)
  invFun w := ⟨((w 1).val + t.val + 1) % 23, Nat.mod_lt _ (by decide)⟩
  left_inv s := Fin.ext (by show ((s.val + 22 - t.val) % 23 + t.val + 1) % 23 = s.val; omega)
  right_inv w := by
    have h1 : (w 1).val < 23 := (w 1).isLt
    refine funext fun a => Fin.ext ?_
    match a with
    | ⟨0, _⟩ => have h : (w 0).val < 1 := (w 0).isLt; show 0 = (w 0).val; omega
    | ⟨1, _⟩ => show (((w 1).val + t.val + 1) % 23 + 22 - t.val) % 23 = (w 1).val; omega
    | ⟨2, _⟩ => have h : (w 2).val < 1 := (w 2).isLt; show 0 = (w 2).val; omega

/-- The running sum of rows. -/
theorem run_at (Y : FVec Ideal S128x23x1024 .f32) (a : Fin 128) (t : Fin 23) (c : Fin 1024) :
    Host.reduceWindowAdd (F := Ideal) ![1, 23, 1] ![1, 1, 1] ![0, 22, 0] ![0, 0, 0] Y
      (broadcastInDim S_ ![] bcast_S_S_ (constant (F := Ideal) S_ .f32 0x00000000#32)) reduceWindows_S128x23x1024_S128x23x1024_w1s1p0_0_w23s1p22_0_w1s1p0_0 h_S_ (ix3 a t c)
      = ∑ s : Fin 23, if s.val ≤ t.val then Y (ix3 a s c) else 0 := by
  have hv : broadcastInDim S_ ![] bcast_S_S_ (constant (F := Ideal) S_ .f32 0x00000000#32) (Shape.Idx.first h_S_) = (0 : EReal) := by
    pointwise
  show Host.reduceWindow (· + ·) ![1, 23, 1] ![1, 1, 1] ![0, 22, 0] ![0, 0, 0] Y (fun _ : (⟨0, ![]⟩ : Shape).Idx => broadcastInDim S_ ![] bcast_S_S_ (constant (F := Ideal) S_ .f32 0x00000000#32) (Shape.Idx.first h_S_)) reduceWindows_S128x23x1024_S128x23x1024_w1s1p0_0_w23s1p22_0_w1s1p0_0 (by decide) (ix3 a t c) = _
  rw [hv]
  unfold Host.reduceWindow
  refine (fold_sum _ _ _).trans ?_
  rw [zero_add, ← Fin.sum_univ_def, ← Equiv.sum_comp (⟨3, ![1, 23, 1]⟩ : Shape).rowMajor]
  refine (Fintype.sum_equiv (spot t) _ _ fun s => ?_).symm
  dsimp only
  simp only [Equiv.symm_apply_apply]
  have ha := a.isLt
  have hc := c.isLt
  have hs := s.isLt
  have ht := t.isLt
  by_cases h : s.val ≤ t.val
  · rw [if_pos h, dif_pos]
    · refine congrArg Y (funext fun b => Fin.ext ?_)
      match b with
      | ⟨0, _⟩ => show a.val = a.val * 1 + 0 - 0; omega
      | ⟨1, _⟩ => show s.val = t.val * 1 + (s.val + 22 - t.val) % 23 - 22; omega
      | ⟨2, _⟩ => show c.val = c.val * 1 + 0 - 0; omega
    · intro b
      match b with
      | ⟨0, _⟩ => show 0 ≤ a.val * 1 + 0 ∧ a.val * 1 + 0 - 0 < 128; omega
      | ⟨1, _⟩ => show 22 ≤ t.val * 1 + (s.val + 22 - t.val) % 23 ∧ t.val * 1 + (s.val + 22 - t.val) % 23 - 22 < 23; omega
      | ⟨2, _⟩ => show 0 ≤ c.val * 1 + 0 ∧ c.val * 1 + 0 - 0 < 1024; omega
  · rw [if_neg h, dif_neg]
    intro hin
    have h1 : 22 ≤ t.val * 1 + (s.val + 22 - t.val) % 23 ∧ _ := hin 1
    omega

/-- The running sums of the rows, from no row on. -/
theorem sums_at (a : Fin 128) (n : Fin 24) (c : Fin 1024) :
    val_main_v3 (F := Ideal) x st (ix3 a n c) = ∑ p ∈ Finset.range n.val, kept (S st a) (X x a) p c := by
  have e : ∀ t : Fin 23, val_main_v2 (F := Ideal) x st (ix3 a t c) = ∑ p ∈ Finset.range (t.val + 1), kept (S st a) (X x a) p c := by
    intro t
    refine (run_at (val_main_v0 (F := Ideal) x st) a t c).trans ?_
    simp only [rows_at]
    rw [← Finset.sum_range (fun p => if p ≤ t.val then kept (S st a) (X x a) p c else 0), ← Finset.sum_filter]
    refine Finset.sum_congr (Finset.ext fun p => ?_) fun _ _ => rfl
    rw [Finset.mem_filter, Finset.mem_range, Finset.mem_range]
    omega
  pointwise [val_main_v3]
  by_cases h : n.val < 1
  · rw [dif_pos h]
    refine Eq.trans (b := (0 : EReal)) ?_ (by rw [show n.val = 0 by omega, Finset.sum_range_zero])
    pointwise [val_main_v1, val_main_cst]
  · rw [dif_neg h, e]
    refine congrArg (fun n => ∑ p ∈ Finset.range n, kept (S st a) (X x a) p c) ?_
    show n.val - 1 + 1 = n.val
    omega

theorem count_bits_2 : FloatOps.sitofp (F := Ideal) FTy.f32 (2#32) = Ideal.ofBits .f32 0x40000000#32 := by
  have e : ((2#32 : BitVec 32).toInt) = 2 := by decide
  show (((2#32 : BitVec 32).toInt : ℝ) : EReal) = _
  rw [e]
  simp [Ideal.ofBits, Ideal.ieee]
  rw [← EReal.coe_mul]
  refine congrArg Real.toEReal ?_
  norm_num

theorem count_bits_4 : FloatOps.sitofp (F := Ideal) FTy.f32 (4#32) = Ideal.ofBits .f32 0x40800000#32 := by
  have e : ((4#32 : BitVec 32).toInt) = 4 := by decide
  show (((4#32 : BitVec 32).toInt : ℝ) : EReal) = _
  rw [e]
  simp [Ideal.ofBits, Ideal.ieee]
  rw [← EReal.coe_mul]
  refine congrArg Real.toEReal ?_
  norm_num

theorem count_bits_8 : FloatOps.sitofp (F := Ideal) FTy.f32 (8#32) = Ideal.ofBits .f32 0x41000000#32 := by
  have e : ((8#32 : BitVec 32).toInt) = 8 := by decide
  show (((8#32 : BitVec 32).toInt : ℝ) : EReal) = _
  rw [e]
  simp [Ideal.ofBits, Ideal.ieee]
  rw [← EReal.coe_mul]
  refine congrArg Real.toEReal ?_
  norm_num

theorem count_bits_16 : FloatOps.sitofp (F := Ideal) FTy.f32 (16#32) = Ideal.ofBits .f32 0x41800000#32 := by
  have e : ((16#32 : BitVec 32).toInt) = 16 := by decide
  show (((16#32 : BitVec 32).toInt : ℝ) : EReal) = _
  rw [e]
  simp [Ideal.ofBits, Ideal.ieee]
  rw [← EReal.coe_mul]
  refine congrArg Real.toEReal ?_
  norm_num

/-- A window of 2 rows is never cut short. -/
theorem count2 (q : Fin 8) : val_main_v13 (F := Ideal) (ix1 q) = Ideal.ofBits .f32 0x40000000#32 := by
  pointwise [val_main_v13, val_main_v12, val_main_v11, val_main_v10, val_main_v9, val_main_v7, val_main_v6, val_main_v5, val_main_c, val_main_c_0, val_main_c_1]
  rw [show IntOp.minsi (IntOp.addi (IntOp.addi (8192#32) (BitVec.ofNat 32 q.val)) 1#32) 2#32 = 2#32 from by revert q; decide]
  exact count_bits_2

/-- A window of 4 rows is never cut short. -/
theorem count4 (q : Fin 8) : val_main_v29 (F := Ideal) (ix1 q) = Ideal.ofBits .f32 0x40800000#32 := by
  pointwise [val_main_v29, val_main_v28, val_main_v27, val_main_v26, val_main_v25, val_main_v7, val_main_v6, val_main_v5, val_main_c, val_main_c_2, val_main_c_3]
  rw [show IntOp.minsi (IntOp.addi (IntOp.addi (8192#32) (BitVec.ofNat 32 q.val)) 1#32) 4#32 = 4#32 from by revert q; decide]
  exact count_bits_4

/-- A window of 8 rows is never cut short. -/
theorem count8 (q : Fin 8) : val_main_v45 (F := Ideal) (ix1 q) = Ideal.ofBits .f32 0x41000000#32 := by
  pointwise [val_main_v45, val_main_v44, val_main_v43, val_main_v42, val_main_v41, val_main_v7, val_main_v6, val_main_v5, val_main_c, val_main_c_4, val_main_c_5]
  rw [show IntOp.minsi (IntOp.addi (IntOp.addi (8192#32) (BitVec.ofNat 32 q.val)) 1#32) 8#32 = 8#32 from by revert q; decide]
  exact count_bits_8

/-- A window of 16 rows is never cut short. -/
theorem count16 (q : Fin 8) : val_main_v61 (F := Ideal) (ix1 q) = Ideal.ofBits .f32 0x41800000#32 := by
  pointwise [val_main_v61, val_main_v60, val_main_v59, val_main_v58, val_main_v57, val_main_v7, val_main_v6, val_main_v5, val_main_c, val_main_c_6, val_main_c_7]
  rw [show IntOp.minsi (IntOp.addi (IntOp.addi (8192#32) (BitVec.ofNat 32 q.val)) 1#32) 16#32 = 16#32 from by revert q; decide]
  exact count_bits_16

/-- The first quarter. -/
theorem quarter0 (hs : ∀ a p k, Fin' (st (ix3 a p k))) (hx : ∀ a q k, Fin' (x (ix3 a q k))) (a : Fin 128) (q : Fin 8) (o : Fin 256) :
    val_main_v23 (F := Ideal) x st w (ix3 a q o) = part (S st a) (X x a) (fun g k o => w (ix3 g k o)) 0 2 (Ideal.ofBits .f32 0x40000000#32) q o := by
  unfold part
  pointwise [val_main_v23, val_main_v22, val_main_v21, val_main_v20, val_main_v19, val_main_v18, val_main_v17, val_main_v16, val_main_v15, val_main_v14, val_main_v8, val_main_v4]
  refine Finset.sum_congr rfl fun k _ => ?_
  rw [count2, sums_at, sums_at]
  have e := window (hs a) (hx a) 2 (14 + q.val) q (col 0 k) (by omega)
  skip
  have ec : (⟨k.val, by omega⟩ : Fin 1024) = col 0 k := Fin.ext (by show k.val = 0 * 256 + k.val; omega)
  show (Ideal.div (∑ p ∈ Finset.range (16 + q.val), kept (S st a) (X x a) p (⟨k.val, by omega⟩ : Fin 1024) - ∑ p ∈ Finset.range (14 + q.val), kept (S st a) (X x a) p (⟨k.val, by omega⟩ : Fin 1024)) _ - x (ix3 a q (⟨k.val, by omega⟩ : Fin 1024))) * _ = _
  rw [ec, e]

/-- The second quarter. -/
theorem quarter1 (hs : ∀ a p k, Fin' (st (ix3 a p k))) (hx : ∀ a q k, Fin' (x (ix3 a q k))) (a : Fin 128) (q : Fin 8) (o : Fin 256) :
    val_main_v39 (F := Ideal) x st w (ix3 a q o) = part (S st a) (X x a) (fun g k o => w (ix3 g k o)) 1 4 (Ideal.ofBits .f32 0x40800000#32) q o := by
  unfold part
  pointwise [val_main_v39, val_main_v38, val_main_v37, val_main_v36, val_main_v35, val_main_v34, val_main_v33, val_main_v32, val_main_v31, val_main_v30, val_main_v24, val_main_v4]
  refine Finset.sum_congr rfl fun k _ => ?_
  rw [count4, sums_at, sums_at]
  have e := window (hs a) (hx a) 4 (12 + q.val) q (col 1 k) (by omega)
  skip
  have ec : (⟨256 + k.val, by omega⟩ : Fin 1024) = col 1 k := Fin.ext (by show 256 + k.val = 1 * 256 + k.val; omega)
  show (Ideal.div (∑ p ∈ Finset.range (16 + q.val), kept (S st a) (X x a) p (⟨256 + k.val, by omega⟩ : Fin 1024) - ∑ p ∈ Finset.range (12 + q.val), kept (S st a) (X x a) p (⟨256 + k.val, by omega⟩ : Fin 1024)) _ - x (ix3 a q (⟨256 + k.val, by omega⟩ : Fin 1024))) * _ = _
  rw [ec, e]

/-- The third quarter. -/
theorem quarter2 (hs : ∀ a p k, Fin' (st (ix3 a p k))) (hx : ∀ a q k, Fin' (x (ix3 a q k))) (a : Fin 128) (q : Fin 8) (o : Fin 256) :
    val_main_v55 (F := Ideal) x st w (ix3 a q o) = part (S st a) (X x a) (fun g k o => w (ix3 g k o)) 2 8 (Ideal.ofBits .f32 0x41000000#32) q o := by
  unfold part
  pointwise [val_main_v55, val_main_v54, val_main_v53, val_main_v52, val_main_v51, val_main_v50, val_main_v49, val_main_v48, val_main_v47, val_main_v46, val_main_v40, val_main_v4]
  refine Finset.sum_congr rfl fun k _ => ?_
  rw [count8, sums_at, sums_at]
  have e := window (hs a) (hx a) 8 (8 + q.val) q (col 2 k) (by omega)
  skip
  have ec : (⟨512 + k.val, by omega⟩ : Fin 1024) = col 2 k := Fin.ext (by show 512 + k.val = 2 * 256 + k.val; omega)
  show (Ideal.div (∑ p ∈ Finset.range (16 + q.val), kept (S st a) (X x a) p (⟨512 + k.val, by omega⟩ : Fin 1024) - ∑ p ∈ Finset.range (8 + q.val), kept (S st a) (X x a) p (⟨512 + k.val, by omega⟩ : Fin 1024)) _ - x (ix3 a q (⟨512 + k.val, by omega⟩ : Fin 1024))) * _ = _
  rw [ec, e]

/-- The last quarter. -/
theorem quarter3 (hs : ∀ a p k, Fin' (st (ix3 a p k))) (hx : ∀ a q k, Fin' (x (ix3 a q k))) (a : Fin 128) (q : Fin 8) (o : Fin 256) :
    val_main_v71 (F := Ideal) x st w (ix3 a q o) = part (S st a) (X x a) (fun g k o => w (ix3 g k o)) 3 16 (Ideal.ofBits .f32 0x41800000#32) q o := by
  unfold part
  pointwise [val_main_v71, val_main_v70, val_main_v69, val_main_v68, val_main_v67, val_main_v66, val_main_v65, val_main_v64, val_main_v63, val_main_v62, val_main_v56, val_main_v4]
  refine Finset.sum_congr rfl fun k _ => ?_
  rw [count16, sums_at, sums_at]
  have e := window (hs a) (hx a) 16 (0 + q.val) q (col 3 k) (by omega)
  rw [Nat.zero_add] at e
  have ec : (⟨768 + k.val, by omega⟩ : Fin 1024) = col 3 k := Fin.ext (by show 768 + k.val = 3 * 256 + k.val; omega)
  show (Ideal.div (∑ p ∈ Finset.range (16 + q.val), kept (S st a) (X x a) p (⟨768 + k.val, by omega⟩ : Fin 1024) - ∑ p ∈ Finset.range (q.val), kept (S st a) (X x a) p (⟨768 + k.val, by omega⟩ : Fin 1024)) _ - x (ix3 a q (⟨768 + k.val, by omega⟩ : Fin 1024))) * _ = _
  rw [ec, e]

/-- The reference's mixed rows. -/
theorem mixed_at (hs : ∀ a p k, Fin' (st (ix3 a p k))) (hx : ∀ a q k, Fin' (x (ix3 a q k))) (a : Fin 128) (q : Fin 8) (d : Fin 1024) :
    val_main_v79 (F := Ideal) x st w sc (ix3 a q d)
      = Ideal.ofBits .f32 0x3FD744FD#32 * X x a q d + pooled (S st a) (X x a) (fun g k o => w (ix3 g k o)) q d * sc (ix1 d) := by
  unfold pooled
  pointwise [val_main_v79, val_main_v78, val_main_v77, val_main_v75, val_main_v74, val_main_v73, val_main_v72, val_main_cst_8]
  simp only [quarter0 x st w hs hx, quarter1 x st w hs hx, quarter2 x st w hs hx, quarter3 x st w hs hx]

/-- The reference's normalisation of its mixed rows. -/
theorem lnorm_at (a : Fin 128) (q : Fin 8) (d : Fin 1024) :
    val_main_v103 (F := Ideal) x st w sc g b (ix3 a q d)
      = lnorm (fun k => val_main_v79 (F := Ideal) x st w sc (ix3 a q k)) (fun k => g (ix1 k)) (fun k => b (ix1 k)) d := by
  unfold lnorm mean
  pointwise [val_main_v103, val_main_v102, val_main_v101, val_main_v100, val_main_v99, val_main_v98, val_main_v97, val_main_v96, val_main_v95, val_main_v94,
    val_main_v93, val_main_v92, val_main_v91, val_main_v90, val_main_v89, val_main_v88, val_main_v87, val_main_v86, val_main_v85, val_main_v84, val_main_v83,
    val_main_v82, val_main_v81, val_main_v80, val_main_cst_9, val_main_cst_10, val_main_cst_11, val_main_cst_12, val_main_cst_13]

/-- The reference's rows. -/
theorem out_at (hs : ∀ a p k, Fin' (st (ix3 a p k))) (hx : ∀ a q k, Fin' (x (ix3 a q k))) (a : Fin 128) (q : Fin 8) (d : Fin 1024) :
    val_main_v103 (F := Ideal) x st w sc g b (ix3 a q d)
      = poolRow (S st a) (X x a) (fun g k o => w (ix3 g k o)) (fun k => sc (ix1 k)) (fun k => g (ix1 k)) (fun k => b (ix1 k)) q d := by
  rw [lnorm_at]
  exact lnorm_congr (fun k => mixed_at x st w sc hs hx a q k) (fun _ => rfl) (fun _ => rfl) d

/-- The reference's new state. -/
theorem state_at (a : Fin 128) (p : Fin 15) (d : Fin 1024) :
    val_main_v76 (F := Ideal) x st (ix3 a p d) = kept (S st a) (X x a) (8 + p.val) d := by
  rw [val_main_v76_apply]
  exact Eq.trans (congrArg (val_main_v0 (F := Ideal) x st) (funext fun b => Fin.ext (by
    match b with
    | ⟨0, _⟩ => rfl
    | ⟨1, _⟩ => rfl
    | ⟨2, _⟩ => rfl))) (rows_at x st a ⟨8 + p.val, by omega⟩ d)

end Cert.Reference4Ideal.Pool

end
-- ==== Proof.PoolClaims.lean ====
/- The claims about the pooling call of the sampling step: its frames and its value. -/
module

public import proofs.«01_k».proof.Defs
public import proofs.«01_k».proof.Proof.Gen.Kernel4.Frame
public import proofs.«01_k».proof.Proof.Gen.Pre_settled
public import proofs.«01_k».proof.Proof.SsmClaims
public import proofs.«01_k».proof.Proof.PoolFinal
public import proofs.«01_k».proof.Proof.PoolReference
public import Idealize.ShloMosaic.Lib.Quiescent

@[expose] public section

set_option maxRecDepth 16384

noncomputable section

namespace Cert.Proof.Pool

open Idealize.ShloMosaic Idealize.ShloMosaic.TcCoe Idealize.SL.Sem Cert.Ssm

theorem frame_k : Cert.quiescent_Kernel4 := fun m ρ _ => Cert.Kernel4.Gen.frame m ρ
theorem frame_ki : Cert.quiescent_Kernel4Ideal := fun m ρ _ => Cert.Kernel4Ideal.Gen.frame m ρ
theorem frame_ki_settled : Cert.quiescent_Kernel4Ideal_pre_settled := fun m ρ _ => Cert.Kernel4Ideal.Gen.frame m ρ

theorem frame_ri : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)
theorem frame_ri_settled : Cert.quiescent_Reference4Ideal_pre_settled := fun m ρ _ => frame_ri m ρ trivial

/-- The idealisation rewrote nothing. -/
theorem preserves : Cert.preserves_Kernel4_Kernel4Ideal := trivial

/-- Kernel and reference both leave the pooled rows and the new state. -/
theorem algebraic : Cert.algebraic_Kernel4Ideal_Reference4Ideal_pre_settled := by
  intro m ρ m' ρ' hpre hagree
  refine ⟨fun c => (Cert.Kernel4Ideal.Gen.dats m 0 c).arrAt 6 Cert.Kernel4Ideal.cfg0.N, fun c => (Cert.Kernel4Ideal.Gen.dats m 0 c).arrAt 7 Cert.Kernel4Ideal.cfg0.N,
    Cert.Kernel4Ideal.Value.run_blocks m ρ, ?_⟩
  refine (θ_run Cert.Reference4Ideal.defs _ _).mono (fun _ h c => ?_) (Cert.Reference4Ideal.Value.run (F := Ideal) m' ρ')
  obtain ⟨hx, hs⟩ := hpre c
  obtain ⟨h0, h1, h2, h3, h4, h5⟩ := hagree c
  have fx : ∀ a q k, Fin' ((m' ((c : Thread Cert.Reference4Ideal.nD Cert.Reference4Ideal.τ).loc Cert.Reference4Ideal.main_arg0) : FVec Ideal Cert.Reference4Ideal.S128x8x1024 .f32) (ix3 a q k)) := fun a q k => by
    rw [h0]; exact Cert.Proof.Ssm.fin_of_cmp (congrFun hx (ix3 a q k))
  have fs : ∀ a p k, Fin' ((m' ((c : Thread Cert.Reference4Ideal.nD Cert.Reference4Ideal.τ).loc Cert.Reference4Ideal.main_arg1) : FVec Ideal Cert.Reference4Ideal.S128x15x1024 .f32) (ix3 a p k)) := fun a p k => by
    rw [h1]; exact Cert.Proof.Ssm.fin_of_cmp (congrFun hs (ix3 a p k))
  refine ⟨(h c).1.trans (Eq.trans ?_ (Cert.Kernel4Ideal.Pool.final_rows m c).symm), (h c).2.1.trans (Eq.trans ?_ (Cert.Kernel4Ideal.Pool.final_state m c).symm), (h c).2.2⟩
  · rw [Cert.Reference4Ideal.Read.val_main_v103_eq]
    funext i
    idx_vars i
    refine (Cert.Reference4Ideal.Pool.out_at _ _ _ _ _ _ fs fx i0 i1 i2).trans ?_
    rw [h0, h1, h2, h3, h4, h5]
    rfl
  · rw [Cert.Reference4Ideal.Read.val_main_v76_eq]
    funext i
    idx_vars i
    refine (Cert.Reference4Ideal.Pool.state_at _ _ i0 i1 i2).trans ?_
    rw [h0, h1]
    rfl

end Cert.Proof.Pool

end
-- ==== Proof.lean ====
/- The proof of every claim of `Cert.Claim`: the feed-forward call on the prompt's rows and on the samples' rows
   (`Proof/FfnClaims.lean`) and the state-space call on the prompt (`Proof/SsmClaims.lean`). -/
module

public import proofs.«01_k».proof.Defs
public import proofs.«01_k».proof.Proof.Gen.Kernel
public import proofs.«01_k».proof.Proof.Gen.Kernel3
public import proofs.«01_k».proof.Proof.Gen.Kernel.Skeleton
public import proofs.«01_k».proof.Proof.Gen.Kernel3.Skeleton
public import proofs.«01_k».proof.Proof.Gen.Kernel.Launch
public import proofs.«01_k».proof.Proof.Gen.Kernel3.Launch
public import proofs.«01_k».proof.Proof.Gen.Kernel.Points
public import proofs.«01_k».proof.Proof.Gen.Kernel3.Points
public import proofs.«01_k».proof.Proof.Gen.Kernel.Frame
public import proofs.«01_k».proof.Proof.Gen.Kernel3.Frame
public import proofs.«01_k».proof.Proof.Gen.KernelIdeal
public import proofs.«01_k».proof.Proof.Gen.Kernel3Ideal
public import proofs.«01_k».proof.Proof.Gen.KernelIdeal.Skeleton
public import proofs.«01_k».proof.Proof.Gen.Kernel3Ideal.Skeleton
public import proofs.«01_k».proof.Proof.Gen.KernelIdeal.Launch
public import proofs.«01_k».proof.Proof.Gen.Kernel3Ideal.Launch
public import proofs.«01_k».proof.Proof.Gen.KernelIdeal.Points
public import proofs.«01_k».proof.Proof.Gen.Kernel3Ideal.Points
public import proofs.«01_k».proof.Proof.Gen.KernelIdeal.Frame
public import proofs.«01_k».proof.Proof.Gen.Kernel3Ideal.Frame
public import proofs.«01_k».proof.Proof.Gen.ReferenceIdeal
public import proofs.«01_k».proof.Proof.Gen.Reference3Ideal
public import proofs.«01_k».proof.Proof.Gen.KernelIdeal.Value
public import proofs.«01_k».proof.Proof.Gen.Kernel3Ideal.Value
public import proofs.«01_k».proof.Proof.Gen.ReferenceIdeal.Run
public import proofs.«01_k».proof.Proof.Gen.Reference3Ideal.Run
public import proofs.«01_k».proof.Proof.Gen.ReferenceIdeal.Read
public import proofs.«01_k».proof.Proof.Gen.Reference3Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Step
public import proofs.«01_k».proof.Proof.Gen.Pre_finite
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_settled
public import proofs.«01_k».proof.Proof.FfnClaims
public import proofs.«01_k».proof.Proof.SsmClaims
public import proofs.«01_k».proof.Proof.PoolClaims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel3.Gen.facts,
    Cert.Kernel3Ideal.Gen.facts, Cert.Reference3Ideal.Gen.facts, Cert.Kernel2.Gen.facts, Cert.Kernel2Ideal.Gen.facts,
    Cert.Reference2Ideal.Gen.facts, Cert.Kernel4.Gen.facts, Cert.Kernel4Ideal.Gen.facts, Cert.Reference4Ideal.Gen.facts,
    Cert.Pre_finite.Gen.facts, Cert.Pre_settled.Gen.facts,
    Ffn.frame_k, Ffn.frame_ki, Ffn.frame_ri, Ffn.frame_k_sample, Ffn.frame_ki_sample, Ffn.frame_ri_sample,
    Ssm.frame_k, Ssm.frame_ki, Ssm.frame_ki_finite, Ssm.frame_ri, Ssm.frame_ri_finite,
    Pool.frame_k, Pool.frame_ki, Pool.frame_ki_settled, Pool.frame_ri, Pool.frame_ri_settled,
    Ffn.preserves, Ffn.algebraic, Ffn.preserves_sample, Ffn.algebraic_sample, Ssm.preserves, Ssm.algebraic,
    Pool.preserves, Pool.algebraic⟩

end Cert.Proof

end
